-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)) (v4 : (c : Dev Cert.Kernel3Ideal.nD) → Buf (Elt Ideal) ((c.tc : Thread Cert.Kernel3Ideal.nD Cert.Kernel3Ideal.τ).loc Cert.Kernel3Ideal.main_v3_4)) (v5 : (c : Dev Cert.Kernel3Ideal.nD) → Buf (Elt Ideal) ((c.tc : Thread Cert.Kernel3Ideal.nD Cert.Kernel3Ideal.τ).loc Cert.Kernel3Ideal.main_v3_5)) (v6 : (c : Dev Cert.Kernel3Ideal.nD) → Buf (Elt Ideal) ((c.tc : Thread Cert.Kernel3Ideal.nD Cert.Kernel3Ideal.τ).loc Cert.Kernel3Ideal.main_v3_6)) (v7 : (c : Dev Cert.Kernel3Ideal.nD) → Buf (Elt Ideal) ((c.tc : Thread Cert.Kernel3Ideal.nD Cert.Kernel3Ideal.τ).loc Cert.Kernel3Ideal.main_v3_7)) (v8 : (c : Dev Cert.Kernel3Ideal.nD) → Buf (Elt Ideal) ((c.tc : Thread Cert.Kernel3Ideal.nD Cert.Kernel3Ideal.τ).loc Cert.Kernel3Ideal.main_v3_8)) (v9 : (c : Dev Cert.Kernel3Ideal.nD) → Buf (Elt Ideal) ((c.tc : Thread Cert.Kernel3Ideal.nD Cert.Kernel3Ideal.τ).loc Cert.Kernel3Ideal.main_v3_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_v3_4) = v4 c
          ∧ r.2.mem ((c.tc : Thread Cert.Kernel3Ideal.nD Cert.Kernel3Ideal.τ).loc Cert.Kernel3Ideal.main_v3_5) = v5 c
          ∧ r.2.mem ((c.tc : Thread Cert.Kernel3Ideal.nD Cert.Kernel3Ideal.τ).loc Cert.Kernel3Ideal.main_v3_6) = v6 c
          ∧ r.2.mem ((c.tc : Thread Cert.Kernel3Ideal.nD Cert.Kernel3Ideal.τ).loc Cert.Kernel3Ideal.main_v3_7) = v7 c
          ∧ r.2.mem ((c.tc : Thread Cert.Kernel3Ideal.nD Cert.Kernel3Ideal.τ).loc Cert.Kernel3Ideal.main_v3_8) = v8 c
          ∧ r.2.mem ((c.tc : Thread Cert.Kernel3Ideal.nD Cert.Kernel3Ideal.τ).loc Cert.Kernel3Ideal.main_v3_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_v39) = v2 c
          ∧ r.2.mem ((c.tc : Thread Cert.Reference3Ideal.nD Cert.Reference3Ideal.τ).loc Cert.Reference3Ideal.main_v40) = v3 c
          ∧ r.2.mem ((c.tc : Thread Cert.Reference3Ideal.nD Cert.Reference3Ideal.τ).loc Cert.Reference3Ideal.main_v41) = v4 c
          ∧ r.2.mem ((c.tc : Thread Cert.Reference3Ideal.nD Cert.Reference3Ideal.τ).loc Cert.Reference3Ideal.main_v42) = v5 c
          ∧ r.2.mem ((c.tc : Thread Cert.Reference3Ideal.nD Cert.Reference3Ideal.τ).loc Cert.Reference3Ideal.main_v43) = v6 c
          ∧ r.2.mem ((c.tc : Thread Cert.Reference3Ideal.nD Cert.Reference3Ideal.τ).loc Cert.Reference3Ideal.main_v44) = v7 c
          ∧ r.2.mem ((c.tc : Thread Cert.Reference3Ideal.nD Cert.Reference3Ideal.τ).loc Cert.Reference3Ideal.main_v45) = v8 c
          ∧ r.2.mem ((c.tc : Thread Cert.Reference3Ideal.nD Cert.Reference3Ideal.τ).loc Cert.Reference3Ideal.main_v46) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x8192x512 : Shape := ⟨3, ![8, 8192, 512]⟩
abbrev S16x512 : Shape := ⟨2, ![16, 512]⟩
abbrev S32x12 : Shape := ⟨2, ![32, 12]⟩
abbrev S64 : Shape := ⟨1, ![64]⟩
abbrev S128 : Shape := ⟨1, ![128]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S32x12 : S_.BroadcastsInDim S32x12 (![] : Fin 0 → Fin S32x12.rank)
  reducesTo_S32x12_S_d0_1 : S32x12.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64 .f32) (main_arg10 : FVec F S64 .f32) (main_v29 : IVec S_ 1) (main_v32 : IVec S64 1) (main_c_12 : IVec S_ 1) : IVec S_ 1 :=
  let main_v33 : IVec S_ 1 := (fun x v => Host.reduce IntOp.andi x v reducesTo_S64_S_d0 h_S_) main_v32 main_c_12
  let main_v34 : IVec S_ 1 := andi main_v29 main_v33
  let main_v35 : FVec F S64 .f32 := Host.absf main_arg8
  let main_cst_13 : FVec F S_ .f32 := constant S_ .f32 0x7F800000#32
  let main_v36 : FVec F S64 .f32 := broadcastInDim S64 ![] bcast_S_S64 main_cst_13
  let main_v37 : IVec S64 1 := cmpf .olt main_v35 main_v36
  let main_c_14 : IVec S_ 1 := constantI S_ 1 1#1
  let main_v38 : IVec S_ 1 := (fun x v => Host.reduce IntOp.andi x v reducesTo_S64_S_d0 h_S_) main_v37 main_c_14
  let main_v39 : IVec S_ 1 := andi main_v34 main_v38
  let main_v40 : FVec F S64 .f32 := Host.absf main_arg9
  let main_cst_15 : FVec F S_ .f32 := constant S_ .f32 0x7F800000#32
  let main_v41 : FVec F S64 .f32 := broadcastInDim S64 ![] bcast_S_S64 main_cst_15
  let main_v42 : IVec S64 1 := cmpf .olt main_v40 main_v41
  let main_c_16 : IVec S_ 1 := constantI S_ 1 1#1
  let main_v43 : IVec S_ 1 := (fun x v => Host.reduce IntOp.andi x v reducesTo_S64_S_d0 h_S_) main_v42 main_c_16
  let main_v44 : IVec S_ 1 := andi main_v39 main_v43
  let main_v45 : FVec F S64 .f32 := Host.absf main_arg10
  let main_cst_17 : FVec F S_ .f32 := constant S_ .f32 0x7F800000#32
  let main_v46 : FVec F S64 .f32 := broadcastInDim S64 ![] bcast_S_S64 main_cst_17
  let main_v47 : IVec S64 1 := cmpf .olt main_v45 main_v46
  let main_c_18 : IVec S_ 1 := constantI S_ 1 1#1
  let main_v48 : IVec S_ 1 := (fun x v => Host.reduce IntOp.andi x v reducesTo_S64_S_d0 h_S_) main_v47 main_c_18
  let main_v49 : IVec S_ 1 := andi main_v44 main_v48
  main_v49

def fn_part1 {F : FTy → Type} [FloatOps F] (main_arg5 : FVec F S16x512 .f32) (main_arg6 : FVec F S32x12 .f32) (main_arg7 : FVec F S64 .f32) (main_arg8 : FVec F S64 .f32) (main_arg9 : FVec F S64 .f32) (main_arg10 : FVec F S64 .f32) (main_v14 : IVec S_ 1) (main_v15 : FVec F S16x512 .f32) (main_cst_5 : FVec F S_ .f32) : IVec S_ 1 :=
  let main_v16 : FVec F S16x512 .f32 := broadcastInDim S16x512 ![] bcast_S_S16x512 main_cst_5
  let main_v17 : IVec S16x512 1 := cmpf .olt main_v15 main_v16
  let main_c_6 : IVec S_ 1 := constantI S_ 1 1#1
  let main_v18 : IVec S_ 1 := (fun x v => Host.reduce IntOp.andi x v reducesTo_S16x512_S_d0_1 h_S_) main_v17 main_c_6
  let main_v19 : IVec S_ 1 := andi main_v14 main_v18
  let main_v20 : FVec F S16x512 .f32 := Host.absf main_arg5
  let main_cst_7 : FVec F S_ .f32 := constant S_ .f32 0x7F800000#32
  let main_v21 : FVec F S16x512 .f32 := broadcastInDim S16x512 ![] bcast_S_S16x512 main_cst_7
  let main_v22 : IVec S16x512 1 := cmpf .olt main_v20 main_v21
  let main_c_8 : IVec S_ 1 := constantI S_ 1 1#1
  let main_v23 : IVec S_ 1 := (fun x v => Host.reduce IntOp.andi x v reducesTo_S16x512_S_d0_1 h_S_) main_v22 main_c_8
  let main_v24 : IVec S_ 1 := andi main_v19 main_v23
  let main_v25 : FVec F S32x12 .f32 := Host.absf main_arg6
  let main_cst_9 : FVec F S_ .f32 := constant S_ .f32 0x7F800000#32
  let main_v26 : FVec F S32x12 .f32 := broadcastInDim S32x12 ![] bcast_S_S32x12 main_cst_9
  let main_v27 : IVec S32x12 1 := cmpf .olt main_v25 main_v26
  let main_c_10 : IVec S_ 1 := constantI S_ 1 1#1
  let main_v28 : IVec S_ 1 := (fun x v => Host.reduce IntOp.andi x v reducesTo_S32x12_S_d0_1 h_S_) main_v27 main_c_10
  let main_v29 : IVec S_ 1 := andi main_v24 main_v28
  let main_v30 : FVec F S64 .f32 := Host.absf main_arg7
  let main_cst_11 : FVec F S_ .f32 := constant S_ .f32 0x7F800000#32
  let main_v31 : FVec F S64 .f32 := broadcastInDim S64 ![] bcast_S_S64 main_cst_11
  let main_v32 : IVec S64 1 := cmpf .olt main_v30 main_v31
  let main_c_12 : IVec S_ 1 := constantI S_ 1 1#1
  fn_part2 (F := F) main_arg8 main_arg9 main_arg10 main_v29 main_v32 main_c_12

def fn {F : FTy → Type} [FloatOps F] (main_arg0 : FVec F S8x8192x512 .f32) (main_arg1 : FVec F S8x8192x512 .f32) (main_arg2 : FVec F S8x8192x512 .f32) (main_arg3 : FVec F S8x8192x512 .f32) (main_arg4 : FVec F S16x512 .f32) (main_arg5 : FVec F S16x512 .f32) (main_arg6 : FVec F S32x12 .f32) (main_arg7 : FVec F S64 .f32) (main_arg8 : FVec F S64 .f32) (main_arg9 : FVec F S64 .f32) (main_arg10 : FVec F S64 .f32) (main_arg11 : FVec F S128 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_c_0 : IVec S_ 1 := constantI S_ 1 1#1
  let main_v4 : IVec S_ 1 := andi main_c_0 main_v3
  let main_v5 : FVec F S8x8192x512 .f32 := Host.absf main_arg1
  let main_cst_1 : FVec F S_ .f32 := constant S_ .f32 0x7F800000#32
  let main_v6 : FVec F S8x8192x512 .f32 := broadcastInDim S8x8192x512 ![] bcast_S_S8x8192x512 main_cst_1
  let main_v7 : IVec S8x8192x512 1 := cmpf .olt main_v5 main_v6
  let main_c_2 : IVec S_ 1 := constantI S_ 1 1#1
  let main_v8 : IVec S_ 1 := (fun x v => Host.reduce IntOp.andi x v reducesTo_S8x8192x512_S_d0_1_2 h_S_) main_v7 main_c_2
  let main_v9 : IVec S_ 1 := andi main_v4 main_v8
  let main_v10 : FVec F S8x8192x512 .f32 := Host.absf main_arg2
  let main_cst_3 : FVec F S_ .f32 := constant S_ .f32 0x7F800000#32
  let main_v11 : FVec F S8x8192x512 .f32 := broadcastInDim S8x8192x512 ![] bcast_S_S8x8192x512 main_cst_3
  let main_v12 : IVec S8x8192x512 1 := cmpf .olt main_v10 main_v11
  let main_c_4 : IVec S_ 1 := constantI S_ 1 1#1
  let main_v13 : IVec S_ 1 := (fun x v => Host.reduce IntOp.andi x v reducesTo_S8x8192x512_S_d0_1_2 h_S_) main_v12 main_c_4
  let main_v14 : IVec S_ 1 := andi main_v9 main_v13
  let main_v15 : FVec F S16x512 .f32 := Host.absf main_arg4
  let main_cst_5 : FVec F S_ .f32 := constant S_ .f32 0x7F800000#32
  fn_part1 (F := F) main_arg5 main_arg6 main_arg7 main_arg8 main_arg9 main_arg10 main_v14 main_v15 main_cst_5
-- ==== Kernel.lean ====
abbrev S8x8192x512 : Shape := ⟨3, ![8, 8192, 512]⟩
abbrev S16x512 : Shape := ⟨2, ![16, 512]⟩
abbrev S32x12 : Shape := ⟨2, ![32, 12]⟩
abbrev S64 : Shape := ⟨1, ![64]⟩
abbrev S128 : Shape := ⟨1, ![128]⟩
abbrev S_ : Shape := ⟨0, ![]⟩
abbrev S1 : Shape := ⟨1, ![1]⟩
abbrev S8x8x1024x512 : Shape := ⟨4, ![8, 8, 1024, 512]⟩
abbrev S8x8x512x1024 : Shape := ⟨4, ![8, 8, 512, 1024]⟩
abbrev S8x16x512x512 : Shape := ⟨4, ![8, 16, 512, 512]⟩
abbrev S512x16 : Shape := ⟨2, ![512, 16]⟩
abbrev S1x1x512x16 : Shape := ⟨4, ![1, 1, 512, 16]⟩
abbrev S5 : Shape := ⟨1, ![5]⟩
abbrev S5x1x1 : Shape := ⟨3, ![5, 1, 1]⟩
abbrev S512 : Shape := ⟨1, ![512]⟩
abbrev S1x512x1 : Shape := ⟨3, ![1, 512, 1]⟩
abbrev S5x512x1 : Shape := ⟨3, ![5, 512, 1]⟩
abbrev S1x1x512 : Shape := ⟨3, ![1, 1, 512]⟩
abbrev S5x512x512 : Shape := ⟨3, ![5, 512, 512]⟩
abbrev S32x4 : Shape := ⟨2, ![32, 4]⟩
abbrev S5x512x512x1 : Shape := ⟨4, ![5, 512, 512, 1]⟩
abbrev S5x512x512x4 : Shape := ⟨4, ![5, 512, 512, 4]⟩
abbrev S4x5x512x512 : Shape := ⟨4, ![4, 5, 512, 512]⟩
abbrev S16 : Shape := ⟨1, ![16]⟩
abbrev S16x1 : Shape := ⟨2, ![16, 1]⟩
abbrev S8192 : Shape := ⟨1, ![8192]⟩
abbrev S1x8192 : Shape := ⟨2, ![1, 8192]⟩
abbrev S16x8192 : Shape := ⟨2, ![16, 8192]⟩
abbrev S16x8192x1 : Shape := ⟨3, ![16, 8192, 1]⟩
abbrev S16x8192x4 : Shape := ⟨3, ![16, 8192, 4]⟩
abbrev S4x16x8192 : Shape := ⟨3, ![4, 16, 8192]⟩
abbrev S1x16x512 : Shape := ⟨3, ![1, 16, 512]⟩
abbrev S1x128 : Shape := ⟨2, ![1, 128]⟩
abbrev S1x1x128x1024 : Shape := ⟨4, ![1, 1, 128, 1024]⟩
abbrev S1x8192x128 : Shape := ⟨3, ![1, 8192, 128]⟩
abbrev S1x16x128x512 : Shape := ⟨4, ![1, 16, 128, 512]⟩
abbrev S1x16x128 : Shape := ⟨3, ![1, 16, 128]⟩
abbrev S1x1x128x16 : Shape := ⟨4, ![1, 1, 128, 16]⟩
abbrev S1x5x512x512 : Shape := ⟨4, ![1, 5, 512, 512]⟩
abbrev S1x16x1024 : Shape := ⟨3, ![1, 16, 1024]⟩
abbrev S1x1024x128 : Shape := ⟨3, ![1, 1024, 128]⟩
abbrev S128x2048 : Shape := ⟨2, ![128, 2048]⟩
abbrev S1x2048 : Shape := ⟨2, ![1, 2048]⟩
abbrev S144x2048 : Shape := ⟨2, ![144, 2048]⟩
abbrev S2x512x2048 : Shape := ⟨3, ![2, 512, 2048]⟩
abbrev S128x1024 : Shape := ⟨2, ![128, 1024]⟩
abbrev S16x1024 : Shape := ⟨2, ![16, 1024]⟩
abbrev S16x128 : Shape := ⟨2, ![16, 128]⟩
abbrev S16x2048 : Shape := ⟨2, ![16, 2048]⟩
abbrev S2048 : Shape := ⟨1, ![2048]⟩
abbrev S1x1x1x512 : Shape := ⟨4, ![1, 1, 1, 512]⟩
abbrev S1x512 : Shape := ⟨2, ![1, 512]⟩
abbrev S1x512x128 : Shape := ⟨3, ![1, 512, 128]⟩
abbrev S512x128 : Shape := ⟨2, ![512, 128]⟩
abbrev S512x2048 : Shape := ⟨2, ![512, 2048]⟩
abbrev S1x1x512x512 : Shape := ⟨4, ![1, 1, 512, 512]⟩
abbrev S512x512 : Shape := ⟨2, ![512, 512]⟩
abbrev S1x512x2048 : Shape := ⟨3, ![1, 512, 2048]⟩
abbrev S128x16 : Shape := ⟨2, ![128, 16]⟩
abbrev S16x16 : Shape := ⟨2, ![16, 16]⟩
abbrev S144x16 : Shape := ⟨2, ![144, 16]⟩
abbrev S144x1024 : Shape := ⟨2, ![144, 1024]⟩
abbrev S1x1x128x512 : Shape := ⟨4, ![1, 1, 128, 512]⟩
abbrev S128x512 : Shape := ⟨2, ![128, 512]⟩
abbrev S144x512 : Shape := ⟨2, ![144, 512]⟩
abbrev S512x1024 : Shape := ⟨2, ![512, 1024]⟩
abbrev S1x1024 : Shape := ⟨2, ![1, 1024]⟩
abbrev S1024 : Shape := ⟨1, ![1024]⟩
abbrev S1024x128 : Shape := ⟨2, ![1024, 128]⟩
abbrev S1x1x2048 : Shape := ⟨3, ![1, 1, 2048]⟩
abbrev S1x1x1 : Shape := ⟨3, ![1, 1, 1]⟩
abbrev S1x1x1024 : Shape := ⟨3, ![1, 1, 1024]⟩

abbrev nBuf : Space → Nat
  | .hbm => 161
  | .vmem => 23
  | .smem => 1
  | _ => 0

abbrev hbmTy0_0 (i : Nat) : BufTy := match i % 128 with
  | 0 => ⟨S8x8192x512, .f32⟩
  | 1 => ⟨S8x8192x512, .f32⟩
  | 2 => ⟨S8x8192x512, .f32⟩
  | 3 => ⟨S8x8192x512, .f32⟩
  | 4 => ⟨S16x512, .f32⟩
  | 5 => ⟨S16x512, .f32⟩
  | 6 => ⟨S32x12, .f32⟩
  | 7 => ⟨S64, .f32⟩
  | 8 => ⟨S64, .f32⟩
  | 9 => ⟨S64, .f32⟩
  | 10 => ⟨S64, .f32⟩
  | 11 => ⟨S128, .f32⟩
  | 12 => ⟨S64, .f32⟩
  | 13 => ⟨S_, .f32⟩
  | 14 => ⟨S_, .f32⟩
  | 15 => ⟨S_, .f32⟩
  | 16 => ⟨S64, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S1, .f32⟩
  | 24 => ⟨S8x8x1024x512, .f32⟩
  | 25 => ⟨S8x8x512x1024, .f32⟩
  | 26 => ⟨S8x8x512x1024, .bf16⟩
  | 27 => ⟨S8x16x512x512, .f32⟩
  | 28 => ⟨S8x16x512x512, .f32⟩
  | 29 => ⟨S8x16x512x512, .bf16⟩
  | 30 => ⟨S512x16, .f32⟩
  | 31 => ⟨S1x1x512x16, .f32⟩
  | 32 => ⟨S1x1x512x16, .bf16⟩
  | 33 => ⟨S5, .i32⟩
  | 34 => ⟨S_, .i32⟩
  | 35 => ⟨S5, .i32⟩
  | 36 => ⟨S5, .i32⟩
  | 37 => ⟨S5x1x1, .i32⟩
  | 38 => ⟨S_, .i32⟩
  | 39 => ⟨S5x1x1, .i32⟩
  | 40 => ⟨S5x1x1, .i32⟩
  | 41 => ⟨S512, .i32⟩
  | 42 => ⟨S1x512x1, .i32⟩
  | 43 => ⟨S5x512x1, .i32⟩
  | 44 => ⟨S5x512x1, .i32⟩
  | 45 => ⟨S5x512x1, .i32⟩
  | 46 => ⟨S512, .i32⟩
  | 47 => ⟨S1x1x512, .i32⟩
  | 48 => ⟨S5x512x512, .i32⟩
  | 49 => ⟨S5x512x512, .i32⟩
  | 50 => ⟨S5x512x512, .i32⟩
  | 51 => ⟨S32x4, .f32⟩
  | 52 => ⟨S_, .i32⟩
  | 53 => ⟨S5x512x512, .i32⟩
  | 54 => ⟨S5x512x512, .i1⟩
  | 55 => ⟨S_, .i32⟩
  | 56 => ⟨S_, .i32⟩
  | 57 => ⟨S5x512x512, .i32⟩
  | 58 => ⟨S5x512x512, .i32⟩
  | 59 => ⟨S5x512x512, .i32⟩
  | 60 => ⟨S5x512x512, .i32⟩
  | 61 => ⟨S_, .i32⟩
  | 62 => ⟨S5x512x512, .i32⟩
  | 63 => ⟨S5x512x512, .i32⟩
  | 64 => ⟨S5x512x512, .f32⟩
  | 65 => ⟨S_, .f32⟩
  | 66 => ⟨S5x512x512, .f32⟩
  | 67 => ⟨S5x512x512, .f32⟩
  | 68 => ⟨S5x512x512, .f32⟩
  | 69 => ⟨S_, .f32⟩
  | 70 => ⟨S5x512x512, .f32⟩
  | 71 => ⟨S5x512x512, .f32⟩
  | 72 => ⟨S_, .f32⟩
  | 73 => ⟨S5x512x512, .f32⟩
  | 74 => ⟨S5x512x512, .f32⟩
  | 75 => ⟨S5x512x512, .i32⟩
  | 76 => ⟨S_, .i32⟩
  | 77 => ⟨S5x512x512, .i32⟩
  | 78 => ⟨S5x512x512, .i32⟩
  | 79 => ⟨S_, .i32⟩
  | 80 => ⟨S5x512x512, .i32⟩
  | 81 => ⟨S5x512x512, .i32⟩
  | 82 => ⟨S_, .i32⟩
  | 83 => ⟨S5x512x512, .i32⟩
  | 84 => ⟨S5x512x512, .i1⟩
  | 85 => ⟨S5x512x512, .i32⟩
  | 86 => ⟨S5x512x512, .i32⟩
  | 87 => ⟨S5x512x512, .i32⟩
  | 88 => ⟨S_, .i32⟩
  | 89 => ⟨S5x512x512, .i32⟩
  | 90 => ⟨S5x512x512, .i1⟩
  | 91 => ⟨S_, .i32⟩
  | 92 => ⟨S5x512x512, .i32⟩
  | 93 => ⟨S5x512x512, .i32⟩
  | 94 => ⟨S5x512x512, .i32⟩
  | 95 => ⟨S5x512x512x1, .i32⟩
  | 96 => ⟨S5x512x512x4, .f32⟩
  | 97 => ⟨S4x5x512x512, .f32⟩
  | 98 => ⟨S16, .i32⟩
  | 99 => ⟨S16x1, .i32⟩
  | 100 => ⟨S8192, .i32⟩
  | 101 => ⟨S1x8192, .i32⟩
  | 102 => ⟨S_, .i32⟩
  | 103 => ⟨S1x8192, .i32⟩
  | 104 => ⟨S1x8192, .i32⟩
  | 105 => ⟨S16x8192, .i32⟩
  | 106 => ⟨S16x8192, .i32⟩
  | 107 => ⟨S16x8192, .i32⟩
  | 108 => ⟨S32x4, .f32⟩
  | 109 => ⟨S_, .i32⟩
  | 110 => ⟨S16x8192, .i32⟩
  | 111 => ⟨S16x8192, .i1⟩
  | 112 => ⟨S_, .i32⟩
  | 113 => ⟨S_, .i32⟩
  | 114 => ⟨S16x8192, .i32⟩
  | 115 => ⟨S16x8192, .i32⟩
  | 116 => ⟨S16x8192, .i32⟩
  | 117 => ⟨S16x8192, .i32⟩
  | 118 => ⟨S_, .i32⟩
  | 119 => ⟨S16x8192, .i32⟩
  | 120 => ⟨S16x8192, .i32⟩
  | 121 => ⟨S16x8192, .f32⟩
  | 122 => ⟨S_, .f32⟩
  | 123 => ⟨S16x8192, .f32⟩
  | 124 => ⟨S16x8192, .f32⟩
  | 125 => ⟨S16x8192, .f32⟩
  | 126 => ⟨S_, .f32⟩
  | 127 => ⟨S16x8192, .f32⟩
  | _ => ⟨S8x8192x512, .f32⟩

abbrev hbmTy0_1 (i : Nat) : BufTy := match i % 128 with
  | 0 => ⟨S16x8192, .f32⟩
  | 1 => ⟨S_, .f32⟩
  | 2 => ⟨S16x8192, .f32⟩
  | 3 => ⟨S16x8192, .f32⟩
  | 4 => ⟨S16x8192, .i32⟩
  | 5 => ⟨S_, .i32⟩
  | 6 => ⟨S16x8192, .i32⟩
  | 7 => ⟨S16x8192, .i32⟩
  | 8 => ⟨S_, .i32⟩
  | 9 => ⟨S16x8192, .i32⟩
  | 10 => ⟨S16x8192, .i32⟩
  | 11 => ⟨S_, .i32⟩
  | 12 => ⟨S16x8192, .i32⟩
  | 13 => ⟨S16x8192, .i1⟩
  | 14 => ⟨S16x8192, .i32⟩
  | 15 => ⟨S16x8192, .i32⟩
  | 16 => ⟨S16x8192, .i32⟩
  | 17 => ⟨S_, .i32⟩
  | 18 => ⟨S16x8192, .i32⟩
  | 19 => ⟨S16x8192, .i1⟩
  | 20 => ⟨S_, .i32⟩
  | 21 => ⟨S16x8192, .i32⟩
  | 22 => ⟨S16x8192, .i32⟩
  | 23 => ⟨S16x8192, .i32⟩
  | 24 => ⟨S16x8192x1, .i32⟩
  | 25 => ⟨S16x8192x4, .f32⟩
  | 26 => ⟨S4x16x8192, .f32⟩
  | 27 => ⟨S8x8192x512, .bf16⟩
  | 28 => ⟨S1x16x512, .f32⟩
  | 29 => ⟨S1x16x512, .bf16⟩
  | 30 => ⟨S8x8192x512, .bf16⟩
  | 31 => ⟨S1x128, .f32⟩
  | 32 => ⟨S8x8192x512, .bf16⟩
  | _ => ⟨S8x8192x512, .f32⟩

abbrev hbmTy (i : Nat) : BufTy := match i / 128 with
  | 0 => hbmTy0_0 i
  | 1 => hbmTy0_1 i
  | _ => ⟨S8x8192x512, .f32⟩

abbrev bufTy : (tb : Table) → Fin (tcTables nBuf tb) → BufTy
  | .hbm, ⟨i, _⟩ => hbmTy i
  | .local _ .vmem, ⟨0, _⟩ => ⟨S1x1x128x1024, .bf16⟩
  | .local _ .vmem, ⟨1, _⟩ => ⟨S1x1x128x1024, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x16x128x512, .bf16⟩
  | .local _ .vmem, ⟨5, _⟩ => ⟨S1x16x128x512, .bf16⟩
  | .local _ .vmem, ⟨6, _⟩ => ⟨S1x16x128, .bf16⟩
  | .local _ .vmem, ⟨7, _⟩ => ⟨S1x16x128, .bf16⟩
  | .local _ .vmem, ⟨8, _⟩ => ⟨S1x1x128x16, .bf16⟩
  | .local _ .vmem, ⟨9, _⟩ => ⟨S1x1x128x16, .bf16⟩
  | .local _ .vmem, ⟨10, _⟩ => ⟨S1x5x512x512, .f32⟩
  | .local _ .vmem, ⟨11, _⟩ => ⟨S1x5x512x512, .f32⟩
  | .local _ .vmem, ⟨12, _⟩ => ⟨S1x16x1024, .f32⟩
  | .local _ .vmem, ⟨13, _⟩ => ⟨S1x16x1024, .f32⟩
  | .local _ .vmem, ⟨14, _⟩ => ⟨S1x1024x128, .bf16⟩
  | .local _ .vmem, ⟨15, _⟩ => ⟨S1x1024x128, .bf16⟩
  | .local _ .vmem, ⟨16, _⟩ => ⟨S1x128, .f32⟩
  | .local _ .vmem, ⟨17, _⟩ => ⟨S1x1024x128, .bf16⟩
  | .local _ .vmem, ⟨18, _⟩ => ⟨S1x1024x128, .bf16⟩
  | .local _ .vmem, ⟨19, _⟩ => ⟨S128x2048, .bf16⟩
  | .local _ .vmem, ⟨20, _⟩ => ⟨S1x2048, .f32⟩
  | .local _ .vmem, ⟨21, _⟩ => ⟨S144x2048, .f32⟩
  | .local _ .vmem, ⟨22, _⟩ => ⟨S2x512x2048, .bf16⟩
  | .local _ .smem, ⟨0, _⟩ => ⟨S1, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_3 : Ref sig .tc := ⟨.hbm, 52, rfl⟩
abbrev main_v35 : Ref sig .tc := ⟨.hbm, 53, rfl⟩
abbrev main_v36 : Ref sig .tc := ⟨.hbm, 54, rfl⟩
abbrev main_c_4 : Ref sig .tc := ⟨.hbm, 55, rfl⟩
abbrev main_c_5 : Ref sig .tc := ⟨.hbm, 56, rfl⟩
abbrev main_call0_v0 : Ref sig .tc := ⟨.hbm, 57, rfl⟩
abbrev main_call0_v1 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_c_12 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_16 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_c_18 : Ref sig .tc := ⟨.hbm, 113, rfl⟩
abbrev main_call2_v0 : Ref sig .tc := ⟨.hbm, 114, rfl⟩
abbrev main_call2_v1 : Ref sig .tc := ⟨.hbm, 115, rfl⟩
abbrev main_v79 : Ref sig .tc := ⟨.hbm, 116, rfl⟩
abbrev main_v80 : Ref sig .tc := ⟨.hbm, 117, rfl⟩
abbrev main_c_19 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_20 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_21 : Ref sig .tc := ⟨.hbm, 126, rfl⟩
abbrev main_v87 : Ref sig .tc := ⟨.hbm, 127, rfl⟩
abbrev main_v88 : Ref sig .tc := ⟨.hbm, 128, rfl⟩
abbrev main_cst_22 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_23 : Ref sig .tc := ⟨.hbm, 133, rfl⟩
abbrev main_v92 : Ref sig .tc := ⟨.hbm, 134, rfl⟩
abbrev main_v93 : Ref sig .tc := ⟨.hbm, 135, rfl⟩
abbrev main_c_24 : Ref sig .tc := ⟨.hbm, 136, rfl⟩
abbrev main_v94 : Ref sig .tc := ⟨.hbm, 137, rfl⟩
abbrev main_v95 : Ref sig .tc := ⟨.hbm, 138, rfl⟩
abbrev main_c_25 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_c_26 : Ref sig .tc := ⟨.hbm, 145, rfl⟩
abbrev main_v101 : Ref sig .tc := ⟨.hbm, 146, rfl⟩
abbrev main_v102 : Ref sig .tc := ⟨.hbm, 147, rfl⟩
abbrev main_c_27 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let c0_i32 : BitVec 32 := 0#32
  let v47 : BitVec 32 := Scalar.addi v34 c0_i32
  let c16_i32 : BitVec 32 := 16#32
  let v48 : BitVec 1 := Scalar.cmpi .sge v47 c16_i32
  let c16_i32_29 : BitVec 32 := 16#32
  let v49 : BitVec 32 := Scalar.subi v47 c16_i32_29
  let v50 : BitVec 32 := Scalar.select v48 v49 v47
  let c0_i32_30 : BitVec 32 := 0#32
  let v51 : BitVec 1 := Scalar.cmpi .slt v50 c0_i32_30
  let c16_i32_31 : BitVec 32 := 16#32
  let v52 : BitVec 32 := Scalar.addi v50 c16_i32_31
  let v53 : BitVec 32 := Scalar.select v51 v52 v50
  let c512_i32 : BitVec 32 := 512#32
  let v54 : BitVec 32 := Scalar.muli v53 c512_i32
  v54
def k0_off1 (i : grid0.Coords) (c0_i32 : BitVec 32) : Fin 3 → Nat :=
  let c0_32 : Index := 0#32
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let v47 : BitVec 32 := Scalar.addi v34 c0_i32
  let c16_i32 : BitVec 32 := 16#32
  let v48 : BitVec 1 := Scalar.cmpi .sge v47 c16_i32
  let c16_i32_29 : BitVec 32 := 16#32
  let v49 : BitVec 32 := Scalar.subi v47 c16_i32_29
  let v50 : BitVec 32 := Scalar.select v48 v49 v47
  let c0_i32_30 : BitVec 32 := 0#32
  let v51 : BitVec 1 := Scalar.cmpi .slt v50 c0_i32_30
  let c16_i32_31 : BitVec 32 := 16#32
  let v52 : BitVec 32 := Scalar.addi v50 c16_i32_31
  let v53 : BitVec 32 := Scalar.select v51 v52 v50
  let c512_i32 : BitVec 32 := 512#32
  let v54 : BitVec 32 := Scalar.muli v53 c512_i32
  let v55 : BitVec 32 := v54
  let v56 : Index := Scalar.indexCast v55
  let c0_33 : Index := 0#32
  ![0, v56.toNat, 0]
def k0_off1_at (r : Fin 8) : BitVec 32 :=
  if r.val < 4 then
    if r.val < 2 then
      if r.val < 1 then
        0#32
      else
        1#32
    else
      if r.val < 3 then
        2#32
      else
        3#32
  else
    if r.val < 6 then
      if r.val < 5 then
        4#32
      else
        13#32
    else
      if r.val < 7 then
        14#32
      else
        15#32
def k0_off2 (i : grid0.Coords) (c0_i32 : BitVec 32) (c0_i32_36 : BitVec 32) : Fin 4 → Nat :=
  let c0_40 : Index := 0#32
  let c4_i32 : BitVec 32 := 4#32
  let c0_i32_39 : BitVec 32 := 0#32
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let v47 : BitVec 32 := Scalar.addi v34 c0_i32
  let c16_i32 : BitVec 32 := 16#32
  let v48 : BitVec 1 := Scalar.cmpi .sge v47 c16_i32
  let c16_i32_29 : BitVec 32 := 16#32
  let v49 : BitVec 32 := Scalar.subi v47 c16_i32_29
  let v50 : BitVec 32 := Scalar.select v48 v49 v47
  let c0_i32_30 : BitVec 32 := 0#32
  let v51 : BitVec 1 := Scalar.cmpi .slt v50 c0_i32_30
  let c16_i32_31 : BitVec 32 := 16#32
  let v52 : BitVec 32 := Scalar.addi v50 c16_i32_31
  let v53 : BitVec 32 := Scalar.select v51 v52 v50
  let c2_i32_35 : BitVec 32 := 2#32
  let v60 : BitVec 32 := Scalar.muli arg2 c2_i32_35
  let v61 : BitVec 32 := Scalar.addi v60 c0_i32_36
  let c1_i32_37 : BitVec 32 := 1#32
  let v62 : BitVec 32 := Scalar.muli v61 c1_i32_37
  let v63 : BitVec 32 := Scalar.subi v53 v62
  let c2_i32_38 : BitVec 32 := 2#32
  let v64 : BitVec 32 := Scalar.addi v63 c2_i32_38
  let v65 : BitVec 32 := Scalar.maxsi c0_i32_39 v64
  let v66 : BitVec 32 := Scalar.minsi c4_i32 v65
  let v67 : Index := Scalar.indexCast v66
  let c0_41 : Index := 0#32
  let c0_42 : Index := 0#32
  ![0, v67.toNat, 0, 0]
def k0_mult2 (i : grid0.Coords) : BitVec 32 :=
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let c1_i32_65 : BitVec 32 := 1#32
  let v107 : BitVec 32 := Scalar.addi v34 c1_i32_65
  let c16_i32_66 : BitVec 32 := 16#32
  let v108 : BitVec 1 := Scalar.cmpi .sge v107 c16_i32_66
  let c16_i32_67 : BitVec 32 := 16#32
  let v109 : BitVec 32 := Scalar.subi v107 c16_i32_67
  let v110 : BitVec 32 := Scalar.select v108 v109 v107
  let c0_i32_68 : BitVec 32 := 0#32
  let v111 : BitVec 1 := Scalar.cmpi .slt v110 c0_i32_68
  let c16_i32_69 : BitVec 32 := 16#32
  let v112 : BitVec 32 := Scalar.addi v110 c16_i32_69
  let v113 : BitVec 32 := Scalar.select v111 v112 v110
  let c512_i32_70 : BitVec 32 := 512#32
  let v114 : BitVec 32 := Scalar.muli v113 c512_i32_70
  v114
def k0_off3 (i : grid0.Coords) (c0_i32_95 : BitVec 32) : Fin 4 → Nat :=
  let c0_100 : Index := 0#32
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let v151 : BitVec 32 := Scalar.addi v34 c0_i32_95
  let c16_i32_96 : BitVec 32 := 16#32
  let v152 : BitVec 1 := Scalar.cmpi .sge v151 c16_i32_96
  let c16_i32_97 : BitVec 32 := 16#32
  let v153 : BitVec 32 := Scalar.subi v151 c16_i32_97
  let v154 : BitVec 32 := Scalar.select v152 v153 v151
  let c0_i32_98 : BitVec 32 := 0#32
  let v155 : BitVec 1 := Scalar.cmpi .slt v154 c0_i32_98
  let c16_i32_99 : BitVec 32 := 16#32
  let v156 : BitVec 32 := Scalar.addi v154 c16_i32_99
  let v157 : BitVec 32 := Scalar.select v155 v156 v154
  let v158 : Index := Scalar.indexCast v157
  let c0_101 : Index := 0#32
  let c0_102 : Index := 0#32
  ![0, v158.toNat, 0, 0]
def k0_off3_at (r : Fin 8) : BitVec 32 :=
  if r.val < 4 then
    if r.val < 2 then
      if r.val < 1 then
        0#32
      else
        1#32
    else
      if r.val < 3 then
        2#32
      else
        3#32
  else
    if r.val < 6 then
      if r.val < 5 then
        12#32
      else
        13#32
    else
      if r.val < 7 then
        14#32
      else
        15#32
def k0_mult3 (i : grid0.Coords) : BitVec 32 :=
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let c2_i32_109 : BitVec 32 := 2#32
  let v170 : BitVec 32 := Scalar.addi v34 c2_i32_109
  let c16_i32_110 : BitVec 32 := 16#32
  let v171 : BitVec 1 := Scalar.cmpi .sge v170 c16_i32_110
  let c16_i32_111 : BitVec 32 := 16#32
  let v172 : BitVec 32 := Scalar.subi v170 c16_i32_111
  let v173 : BitVec 32 := Scalar.select v171 v172 v170
  let c0_i32_112 : BitVec 32 := 0#32
  let v174 : BitVec 1 := Scalar.cmpi .slt v173 c0_i32_112
  let c16_i32_113 : BitVec 32 := 16#32
  let v175 : BitVec 32 := Scalar.addi v173 c16_i32_113
  let v176 : BitVec 32 := Scalar.select v174 v175 v173
  let c512_i32_114 : BitVec 32 := 512#32
  let v177 : BitVec 32 := Scalar.muli v176 c512_i32_114
  v177
def k0_mult4 (i : grid0.Coords) : BitVec 32 :=
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let c3_i32 : BitVec 32 := 3#32
  let v234 : BitVec 32 := Scalar.addi v34 c3_i32
  let c16_i32_154 : BitVec 32 := 16#32
  let v235 : BitVec 1 := Scalar.cmpi .sge v234 c16_i32_154
  let c16_i32_155 : BitVec 32 := 16#32
  let v236 : BitVec 32 := Scalar.subi v234 c16_i32_155
  let v237 : BitVec 32 := Scalar.select v235 v236 v234
  let c0_i32_156 : BitVec 32 := 0#32
  let v238 : BitVec 1 := Scalar.cmpi .slt v237 c0_i32_156
  let c16_i32_157 : BitVec 32 := 16#32
  let v239 : BitVec 32 := Scalar.addi v237 c16_i32_157
  let v240 : BitVec 32 := Scalar.select v238 v239 v237
  let c512_i32_158 : BitVec 32 := 512#32
  let v241 : BitVec 32 := Scalar.muli v240 c512_i32_158
  v241
def k0_mult5 (i : grid0.Coords) : BitVec 32 :=
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let c4_i32_198 : BitVec 32 := 4#32
  let v298 : BitVec 32 := Scalar.addi v34 c4_i32_198
  let c16_i32_199 : BitVec 32 := 16#32
  let v299 : BitVec 1 := Scalar.cmpi .sge v298 c16_i32_199
  let c16_i32_200 : BitVec 32 := 16#32
  let v300 : BitVec 32 := Scalar.subi v298 c16_i32_200
  let v301 : BitVec 32 := Scalar.select v299 v300 v298
  let c0_i32_201 : BitVec 32 := 0#32
  let v302 : BitVec 1 := Scalar.cmpi .slt v301 c0_i32_201
  let c16_i32_202 : BitVec 32 := 16#32
  let v303 : BitVec 32 := Scalar.addi v301 c16_i32_202
  let v304 : BitVec 32 := Scalar.select v302 v303 v301
  let c512_i32_203 : BitVec 32 := 512#32
  let v305 : BitVec 32 := Scalar.muli v304 c512_i32_203
  v305
@[reducible] def k0_t1_loop : Scf.Loop 32 :=
  let c1_i32_228 : BitVec 32 := 1#32
  let c2_i32_229 : BitVec 32 := 2#32
  let v344 : BitVec 32 := Scalar.addi c1_i32_228 c2_i32_229
  let c1_i32_230 : BitVec 32 := 1#32
  ⟨c1_i32_228, v344, c1_i32_230⟩
def k0_mult6 (i : grid0.Coords) (k0_t1 : Fin k0_t1_loop.trips) : BitVec 32 :=
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let c1_i32_228 : BitVec 32 := 1#32
  let c1_i32_230 : BitVec 32 := 1#32
  let arg18 : BitVec 32 := Scf.iv c1_i32_228 c1_i32_230 k0_t1
  let c4_i32_350 : BitVec 32 := 4#32
  let v557 : BitVec 32 := Scalar.muli arg18 c4_i32_350
  let c0_i32_351 : BitVec 32 := 0#32
  let v558 : BitVec 32 := Scalar.addi v557 c0_i32_351
  let c1_i32_352 : BitVec 32 := 1#32
  let v559 : BitVec 32 := Scalar.addi v558 c1_i32_352
  let v560 : BitVec 32 := Scalar.addi v34 v559
  let c16_i32_353 : BitVec 32 := 16#32
  let v561 : BitVec 1 := Scalar.cmpi .sge v560 c16_i32_353
  let c16_i32_354 : BitVec 32 := 16#32
  let v562 : BitVec 32 := Scalar.subi v560 c16_i32_354
  let v563 : BitVec 32 := Scalar.select v561 v562 v560
  let c0_i32_355 : BitVec 32 := 0#32
  let v564 : BitVec 1 := Scalar.cmpi .slt v563 c0_i32_355
  let c16_i32_356 : BitVec 32 := 16#32
  let v565 : BitVec 32 := Scalar.addi v563 c16_i32_356
  let v566 : BitVec 32 := Scalar.select v564 v565 v563
  let c512_i32_357 : BitVec 32 := 512#32
  let v567 : BitVec 32 := Scalar.muli v566 c512_i32_357
  v567
def k0_off4 (i : grid0.Coords) (k0_t1 : Fin k0_t1_loop.trips) (c0_i32_351 : BitVec 32) : Fin 3 → Nat :=
  let c0_358 : Index := 0#32
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let c1_i32_228 : BitVec 32 := 1#32
  let c1_i32_230 : BitVec 32 := 1#32
  let arg18 : BitVec 32 := Scf.iv c1_i32_228 c1_i32_230 k0_t1
  let c4_i32_350 : BitVec 32 := 4#32
  let v557 : BitVec 32 := Scalar.muli arg18 c4_i32_350
  let v558 : BitVec 32 := Scalar.addi v557 c0_i32_351
  let c1_i32_352 : BitVec 32 := 1#32
  let v559 : BitVec 32 := Scalar.addi v558 c1_i32_352
  let v560 : BitVec 32 := Scalar.addi v34 v559
  let c16_i32_353 : BitVec 32 := 16#32
  let v561 : BitVec 1 := Scalar.cmpi .sge v560 c16_i32_353
  let c16_i32_354 : BitVec 32 := 16#32
  let v562 : BitVec 32 := Scalar.subi v560 c16_i32_354
  let v563 : BitVec 32 := Scalar.select v561 v562 v560
  let c0_i32_355 : BitVec 32 := 0#32
  let v564 : BitVec 1 := Scalar.cmpi .slt v563 c0_i32_355
  let c16_i32_356 : BitVec 32 := 16#32
  let v565 : BitVec 32 := Scalar.addi v563 c16_i32_356
  let v566 : BitVec 32 := Scalar.select v564 v565 v563
  let c512_i32_357 : BitVec 32 := 512#32
  let v567 : BitVec 32 := Scalar.muli v566 c512_i32_357
  let v568 : BitVec 32 := v567
  let v569 : Index := Scalar.indexCast v568
  let c0_359 : Index := 0#32
  ![0, v569.toNat, 0]
def k0_off5 (i : grid0.Coords) (k0_t1 : Fin k0_t1_loop.trips) (c0_i32_351 : BitVec 32) : Fin 4 → Nat :=
  let c0_368 : Index := 0#32
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let c1_i32_228 : BitVec 32 := 1#32
  let c1_i32_230 : BitVec 32 := 1#32
  let arg18 : BitVec 32 := Scf.iv c1_i32_228 c1_i32_230 k0_t1
  let c4_i32_350 : BitVec 32 := 4#32
  let v557 : BitVec 32 := Scalar.muli arg18 c4_i32_350
  let v558 : BitVec 32 := Scalar.addi v557 c0_i32_351
  let v581 : BitVec 32 := Scalar.addi v34 v558
  let c16_i32_364 : BitVec 32 := 16#32
  let v582 : BitVec 1 := Scalar.cmpi .sge v581 c16_i32_364
  let c16_i32_365 : BitVec 32 := 16#32
  let v583 : BitVec 32 := Scalar.subi v581 c16_i32_365
  let v584 : BitVec 32 := Scalar.select v582 v583 v581
  let c0_i32_366 : BitVec 32 := 0#32
  let v585 : BitVec 1 := Scalar.cmpi .slt v584 c0_i32_366
  let c16_i32_367 : BitVec 32 := 16#32
  let v586 : BitVec 32 := Scalar.addi v584 c16_i32_367
  let v587 : BitVec 32 := Scalar.select v585 v586 v584
  let v588 : Index := Scalar.indexCast v587
  let c0_369 : Index := 0#32
  let c0_370 : Index := 0#32
  ![0, v588.toNat, 0, 0]
def k0_mult7 (i : grid0.Coords) (k0_t1 : Fin k0_t1_loop.trips) : BitVec 32 :=
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let c1_i32_228 : BitVec 32 := 1#32
  let c1_i32_230 : BitVec 32 := 1#32
  let arg18 : BitVec 32 := Scf.iv c1_i32_228 c1_i32_230 k0_t1
  let c4_i32_377 : BitVec 32 := 4#32
  let v600 : BitVec 32 := Scalar.muli arg18 c4_i32_377
  let c1_i32_378 : BitVec 32 := 1#32
  let v601 : BitVec 32 := Scalar.addi v600 c1_i32_378
  let c1_i32_379 : BitVec 32 := 1#32
  let v602 : BitVec 32 := Scalar.addi v601 c1_i32_379
  let v603 : BitVec 32 := Scalar.addi v34 v602
  let c16_i32_380 : BitVec 32 := 16#32
  let v604 : BitVec 1 := Scalar.cmpi .sge v603 c16_i32_380
  let c16_i32_381 : BitVec 32 := 16#32
  let v605 : BitVec 32 := Scalar.subi v603 c16_i32_381
  let v606 : BitVec 32 := Scalar.select v604 v605 v603
  let c0_i32_382 : BitVec 32 := 0#32
  let v607 : BitVec 1 := Scalar.cmpi .slt v606 c0_i32_382
  let c16_i32_383 : BitVec 32 := 16#32
  let v608 : BitVec 32 := Scalar.addi v606 c16_i32_383
  let v609 : BitVec 32 := Scalar.select v607 v608 v606
  let c512_i32_384 : BitVec 32 := 512#32
  let v610 : BitVec 32 := Scalar.muli v609 c512_i32_384
  v610
def k0_mult8 (i : grid0.Coords) (k0_t1 : Fin k0_t1_loop.trips) : BitVec 32 :=
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let c1_i32_228 : BitVec 32 := 1#32
  let c1_i32_230 : BitVec 32 := 1#32
  let arg18 : BitVec 32 := Scf.iv c1_i32_228 c1_i32_230 k0_t1
  let c4_i32_404 : BitVec 32 := 4#32
  let v644 : BitVec 32 := Scalar.muli arg18 c4_i32_404
  let c2_i32_405 : BitVec 32 := 2#32
  let v645 : BitVec 32 := Scalar.addi v644 c2_i32_405
  let c1_i32_406 : BitVec 32 := 1#32
  let v646 : BitVec 32 := Scalar.addi v645 c1_i32_406
  let v647 : BitVec 32 := Scalar.addi v34 v646
  let c16_i32_407 : BitVec 32 := 16#32
  let v648 : BitVec 1 := Scalar.cmpi .sge v647 c16_i32_407
  let c16_i32_408 : BitVec 32 := 16#32
  let v649 : BitVec 32 := Scalar.subi v647 c16_i32_408
  let v650 : BitVec 32 := Scalar.select v648 v649 v647
  let c0_i32_409 : BitVec 32 := 0#32
  let v651 : BitVec 1 := Scalar.cmpi .slt v650 c0_i32_409
  let c16_i32_410 : BitVec 32 := 16#32
  let v652 : BitVec 32 := Scalar.addi v650 c16_i32_410
  let v653 : BitVec 32 := Scalar.select v651 v652 v650
  let c512_i32_411 : BitVec 32 := 512#32
  let v654 : BitVec 32 := Scalar.muli v653 c512_i32_411
  v654
def k0_mult9 (i : grid0.Coords) (k0_t1 : Fin k0_t1_loop.trips) : BitVec 32 :=
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let c1_i32_228 : BitVec 32 := 1#32
  let c1_i32_230 : BitVec 32 := 1#32
  let arg18 : BitVec 32 := Scf.iv c1_i32_228 c1_i32_230 k0_t1
  let c4_i32_431 : BitVec 32 := 4#32
  let v688 : BitVec 32 := Scalar.muli arg18 c4_i32_431
  let c3_i32_432 : BitVec 32 := 3#32
  let v689 : BitVec 32 := Scalar.addi v688 c3_i32_432
  let c1_i32_433 : BitVec 32 := 1#32
  let v690 : BitVec 32 := Scalar.addi v689 c1_i32_433
  let v691 : BitVec 32 := Scalar.addi v34 v690
  let c16_i32_434 : BitVec 32 := 16#32
  let v692 : BitVec 1 := Scalar.cmpi .sge v691 c16_i32_434
  let c16_i32_435 : BitVec 32 := 16#32
  let v693 : BitVec 32 := Scalar.subi v691 c16_i32_435
  let v694 : BitVec 32 := Scalar.select v692 v693 v691
  let c0_i32_436 : BitVec 32 := 0#32
  let v695 : BitVec 1 := Scalar.cmpi .slt v694 c0_i32_436
  let c16_i32_437 : BitVec 32 := 16#32
  let v696 : BitVec 32 := Scalar.addi v694 c16_i32_437
  let v697 : BitVec 32 := Scalar.select v695 v696 v694
  let c512_i32_438 : BitVec 32 := 512#32
  let v698 : BitVec 32 := Scalar.muli v697 c512_i32_438
  v698
def k0_mult10 (i : grid0.Coords) : BitVec 32 :=
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let c13_i32 : BitVec 32 := 13#32
  let v345 : BitVec 32 := Scalar.addi v34 c13_i32
  let c16_i32_232 : BitVec 32 := 16#32
  let v346 : BitVec 1 := Scalar.cmpi .sge v345 c16_i32_232
  let c16_i32_233 : BitVec 32 := 16#32
  let v347 : BitVec 32 := Scalar.subi v345 c16_i32_233
  let v348 : BitVec 32 := Scalar.select v346 v347 v345
  let c0_i32_234 : BitVec 32 := 0#32
  let v349 : BitVec 1 := Scalar.cmpi .slt v348 c0_i32_234
  let c16_i32_235 : BitVec 32 := 16#32
  let v350 : BitVec 32 := Scalar.addi v348 c16_i32_235
  let v351 : BitVec 32 := Scalar.select v349 v350 v348
  let c512_i32_236 : BitVec 32 := 512#32
  let v352 : BitVec 32 := Scalar.muli v351 c512_i32_236
  v352
def k0_mult11 (i : grid0.Coords) : BitVec 32 :=
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let c14_i32 : BitVec 32 := 14#32
  let v385 : BitVec 32 := Scalar.addi v34 c14_i32
  let c16_i32_256 : BitVec 32 := 16#32
  let v386 : BitVec 1 := Scalar.cmpi .sge v385 c16_i32_256
  let c16_i32_257 : BitVec 32 := 16#32
  let v387 : BitVec 32 := Scalar.subi v385 c16_i32_257
  let v388 : BitVec 32 := Scalar.select v386 v387 v385
  let c0_i32_258 : BitVec 32 := 0#32
  let v389 : BitVec 1 := Scalar.cmpi .slt v388 c0_i32_258
  let c16_i32_259 : BitVec 32 := 16#32
  let v390 : BitVec 32 := Scalar.addi v388 c16_i32_259
  let v391 : BitVec 32 := Scalar.select v389 v390 v388
  let c512_i32_260 : BitVec 32 := 512#32
  let v392 : BitVec 32 := Scalar.muli v391 c512_i32_260
  v392
def k0_mult12 (i : grid0.Coords) : BitVec 32 :=
  let arg2 : BitVec 32 := BitVec.ofNat 32 (i 2).val
  let c2_i32 : BitVec 32 := 2#32
  let v33 : BitVec 32 := Scalar.muli arg2 c2_i32
  let c1_i32 : BitVec 32 := 1#32
  let v34 : BitVec 32 := Scalar.subi v33 c1_i32
  let c15_i32 : BitVec 32 := 15#32
  let v426 : BitVec 32 := Scalar.addi v34 c15_i32
  let c16_i32_281 : BitVec 32 := 16#32
  let v427 : BitVec 1 := Scalar.cmpi .sge v426 c16_i32_281
  let c16_i32_282 : BitVec 32 := 16#32
  let v428 : BitVec 32 := Scalar.subi v426 c16_i32_282
  let v429 : BitVec 32 := Scalar.select v427 v428 v426
  let c0_i32_283 : BitVec 32 := 0#32
  let v430 : BitVec 1 := Scalar.cmpi .slt v429 c0_i32_283
  let c16_i32_284 : BitVec 32 := 16#32
  let v431 : BitVec 32 := Scalar.addi v429 c16_i32_284
  let v432 : BitVec 32 := Scalar.select v430 v431 v429
  let c512_i32_285 : BitVec 32 := 512#32
  let v433 : BitVec 32 := Scalar.muli v432 c512_i32_285
  v433
@[reducible] def k0_t2_loop : Scf.Loop 32 :=
  let c0_i32_361 : BitVec 32 := 0#32
  let c16_i32_362 : BitVec 32 := 16#32
  let v576 : BitVec 32 := Scalar.addi c0_i32_361 c16_i32_362
  let c1_i32_363 : BitVec 32 := 1#32
  ⟨c0_i32_361, v576, c1_i32_363⟩
def k0_mult13 (k0_t2 : Fin k0_t2_loop.trips) : BitVec 32 :=
  let c0_i32_361 : BitVec 32 := 0#32
  let c1_i32_363 : BitVec 32 := 1#32
  let arg18 : BitVec 32 := Scf.iv c0_i32_361 c1_i32_363 k0_t2
  let c512_i32_381 : BitVec 32 := 512#32
  let v620 : BitVec 32 := Scalar.muli arg18 c512_i32_381
  v620
def k0_off6 (k0_t2 : Fin k0_t2_loop.trips) : Fin 3 → Nat :=
  let c0_382 : Index := 0#32
  let c0_i32_361 : BitVec 32 := 0#32
  let c1_i32_363 : BitVec 32 := 1#32
  let arg18 : BitVec 32 := Scf.iv c0_i32_361 c1_i32_363 k0_t2
  let c512_i32_381 : BitVec 32 := 512#32
  let v620 : BitVec 32 := Scalar.muli arg18 c512_i32_381
  let v621 : BitVec 32 := v620
  let v622 : Index := Scalar.indexCast v621
  let c0_383 : Index := 0#32
  ![0, v622.toNat, 0]
def k0_off7 (i : grid0.Coords) (k0_t2 : Fin k0_t2_loop.trips) (c0_i32_386 : BitVec 32) : Fin 4 → Nat :=
  let c0_391 : Index := 0#32
  let c4_i32_390 : BitVec 32 := 4#32
  let c0_i32_389 : BitVec 32 := 0#32
  let c0_i32_361 : BitVec 32 := 0#32
  let c1_i32_363 : BitVec 32 := 1#32
  let arg18 : BitVec 32 := Scf.iv c0_i32_361 c1_i32_363 k0_t2
  let arg2 : BitVec 32 := BitVec.ofNat 32 (i 2).val
  let c2_i32_385 : BitVec 32 := 2#32
  let v626 : BitVec 32 := Scalar.muli arg2 c2_i32_385
  let v627 : BitVec 32 := Scalar.addi v626 c0_i32_386
  let c1_i32_387 : BitVec 32 := 1#32
  let v628 : BitVec 32 := Scalar.muli v627 c1_i32_387
  let v629 : BitVec 32 := Scalar.subi arg18 v628
  let c2_i32_388 : BitVec 32 := 2#32
  let v630 : BitVec 32 := Scalar.addi v629 c2_i32_388
  let v631 : BitVec 32 := Scalar.maxsi c0_i32_389 v630
  let v632 : BitVec 32 := Scalar.minsi c4_i32_390 v631
  let v633 : Index := Scalar.indexCast v632
  let c0_392 : Index := 0#32
  let c0_393 : Index := 0#32
  ![0, v633.toNat, 0, 0]
def k0_off8 (k0_t2 : Fin k0_t2_loop.trips) : Fin 4 → Nat :=
  let c0_409 : Index := 0#32
  let c0_i32_361 : BitVec 32 := 0#32
  let c1_i32_363 : BitVec 32 := 1#32
  let arg18 : BitVec 32 := Scf.iv c0_i32_361 c1_i32_363 k0_t2
  let v659 : Index := Scalar.indexCast arg18
  let c0_410 : Index := 0#32
  let c0_411 : Index := 0#32
  ![0, v659.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x128x16 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x5x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S8x8192x512 : Shape := ⟨3, ![8, 8192, 512]⟩
abbrev S16x512 : Shape := ⟨2, ![16, 512]⟩
abbrev S32x12 : Shape := ⟨2, ![32, 12]⟩
abbrev S64 : Shape := ⟨1, ![64]⟩
abbrev S128 : Shape := ⟨1, ![128]⟩
abbrev S8320 : Shape := ⟨1, ![8320]⟩
abbrev S_ : Shape := ⟨0, ![]⟩
abbrev S8192 : Shape := ⟨1, ![8192]⟩
abbrev S8x8192x4x2x64 : Shape := ⟨5, ![8, 8192, 4, 2, 64]⟩
abbrev S1x16x512 : Shape := ⟨3, ![1, 16, 512]⟩
abbrev S8x16x512 : Shape := ⟨3, ![8, 16, 512]⟩
abbrev S8x8208x512 : Shape := ⟨3, ![8, 8208, 512]⟩
abbrev S8x8320x512 : Shape := ⟨3, ![8, 8320, 512]⟩
abbrev S8x8320x4x2x64 : Shape := ⟨5, ![8, 8320, 4, 2, 64]⟩
abbrev S8x8320x4x128 : Shape := ⟨4, ![8, 8320, 4, 128]⟩
abbrev S8x4x2x8192x8320 : Shape := ⟨5, ![8, 4, 2, 8192, 8320]⟩
abbrev S32x4 : Shape := ⟨2, ![32, 4]⟩
abbrev S1x8320 : Shape := ⟨2, ![1, 8320]⟩
abbrev S8192x1 : Shape := ⟨2, ![8192, 1]⟩
abbrev S8192x8320 : Shape := ⟨2, ![8192, 8320]⟩
abbrev S8192x8320x1 : Shape := ⟨3, ![8192, 8320, 1]⟩
abbrev S8192x8320x4 : Shape := ⟨3, ![8192, 8320, 4]⟩
abbrev S4x8192x8320 : Shape := ⟨3, ![4, 8192, 8320]⟩
abbrev S1x4x1x8192x8320 : Shape := ⟨5, ![1, 4, 1, 8192, 8320]⟩
abbrev S1x1x1x1x8320 : Shape := ⟨5, ![1, 1, 1, 1, 8320]⟩
abbrev S8x4x2x8192 : Shape := ⟨4, ![8, 4, 2, 8192]⟩
abbrev S8x4x2x8192x1 : Shape := ⟨5, ![8, 4, 2, 8192, 1]⟩
abbrev S8x4x1x8192x8320 : Shape := ⟨5, ![8, 4, 1, 8192, 8320]⟩
abbrev S8x4x8192x8320 : Shape := ⟨4, ![8, 4, 8192, 8320]⟩
abbrev S8x4x128x8192 : Shape := ⟨4, ![8, 4, 128, 8192]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩

abbrev nBuf : Space → Nat
  | .hbm => 168
  | .vmem => 0
  | .smem => 0
  | _ => 0

abbrev hbmTy0_0 (i : Nat) : BufTy := match i % 128 with
  | 0 => ⟨S8x8192x512, .f32⟩
  | 1 => ⟨S8x8192x512, .f32⟩
  | 2 => ⟨S8x8192x512, .f32⟩
  | 3 => ⟨S8x8192x512, .f32⟩
  | 4 => ⟨S16x512, .f32⟩
  | 5 => ⟨S16x512, .f32⟩
  | 6 => ⟨S32x12, .f32⟩
  | 7 => ⟨S64, .f32⟩
  | 8 => ⟨S64, .f32⟩
  | 9 => ⟨S64, .f32⟩
  | 10 => ⟨S64, .f32⟩
  | 11 => ⟨S128, .f32⟩
  | 12 => ⟨S8320, .i32⟩
  | 13 => ⟨S_, .i32⟩
  | 14 => ⟨S8320, .i32⟩
  | 15 => ⟨S8320, .i32⟩
  | 16 => ⟨S_, .i32⟩
  | 17 => ⟨S8320, .i32⟩
  | 18 => ⟨S8320, .i1⟩
  | 19 => ⟨S8192, .i32⟩
  | 20 => ⟨S_, .i32⟩
  | 21 => ⟨S8192, .i32⟩
  | 22 => ⟨S8192, .i32⟩
  | 23 => ⟨S8x8192x4x2x64, .f32⟩
  | 24 => ⟨S1x16x512, .f32⟩
  | 25 => ⟨S8x16x512, .f32⟩
  | 26 => ⟨S8x8208x512, .f32⟩
  | 27 => ⟨S_, .i32⟩
  | 28 => ⟨S_, .f32⟩
  | 29 => ⟨S8x8320x512, .f32⟩
  | 30 => ⟨S8x8320x4x2x64, .f32⟩
  | 31 => ⟨S1x16x512, .f32⟩
  | 32 => ⟨S8x16x512, .f32⟩
  | 33 => ⟨S8x8208x512, .f32⟩
  | 34 => ⟨S_, .i32⟩
  | 35 => ⟨S_, .f32⟩
  | 36 => ⟨S8x8320x512, .f32⟩
  | 37 => ⟨S8x8320x4x128, .f32⟩
  | 38 => ⟨S64, .f32⟩
  | 39 => ⟨S_, .f32⟩
  | 40 => ⟨S_, .f32⟩
  | 41 => ⟨S_, .f32⟩
  | 42 => ⟨S64, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S8x4x2x8192x8320, .f32⟩
  | 50 => ⟨S_, .f32⟩
  | 51 => ⟨S8x4x2x8192x8320, .f32⟩
  | 52 => ⟨S8x4x2x8192x8320, .f32⟩
  | 53 => ⟨S32x4, .f32⟩
  | 54 => ⟨S1x8320, .i32⟩
  | 55 => ⟨S8192x1, .i32⟩
  | 56 => ⟨S8192x8320, .i32⟩
  | 57 => ⟨S8192x8320, .i32⟩
  | 58 => ⟨S8192x8320, .i32⟩
  | 59 => ⟨S_, .i32⟩
  | 60 => ⟨S8192x8320, .i32⟩
  | 61 => ⟨S8192x8320, .i1⟩
  | 62 => ⟨S_, .i32⟩
  | 63 => ⟨S_, .i32⟩
  | 64 => ⟨S8192x8320, .i32⟩
  | 65 => ⟨S8192x8320, .i32⟩
  | 66 => ⟨S8192x8320, .i32⟩
  | 67 => ⟨S8192x8320, .i32⟩
  | 68 => ⟨S_, .i32⟩
  | 69 => ⟨S8192x8320, .i32⟩
  | 70 => ⟨S8192x8320, .i32⟩
  | 71 => ⟨S8192x8320, .f32⟩
  | 72 => ⟨S_, .f32⟩
  | 73 => ⟨S8192x8320, .f32⟩
  | 74 => ⟨S8192x8320, .f32⟩
  | 75 => ⟨S8192x8320, .f32⟩
  | 76 => ⟨S_, .f32⟩
  | 77 => ⟨S8192x8320, .f32⟩
  | 78 => ⟨S8192x8320, .f32⟩
  | 79 => ⟨S_, .f32⟩
  | 80 => ⟨S8192x8320, .f32⟩
  | 81 => ⟨S8192x8320, .f32⟩
  | 82 => ⟨S8192x8320, .i32⟩
  | 83 => ⟨S_, .i32⟩
  | 84 => ⟨S8192x8320, .i32⟩
  | 85 => ⟨S8192x8320, .i32⟩
  | 86 => ⟨S_, .i32⟩
  | 87 => ⟨S8192x8320, .i32⟩
  | 88 => ⟨S8192x8320, .i32⟩
  | 89 => ⟨S_, .i32⟩
  | 90 => ⟨S8192x8320, .i32⟩
  | 91 => ⟨S8192x8320, .i1⟩
  | 92 => ⟨S8192x8320, .i32⟩
  | 93 => ⟨S8192x8320, .i32⟩
  | 94 => ⟨S8192x8320, .i32⟩
  | 95 => ⟨S_, .i32⟩
  | 96 => ⟨S8192x8320, .i32⟩
  | 97 => ⟨S8192x8320, .i1⟩
  | 98 => ⟨S_, .i32⟩
  | 99 => ⟨S8192x8320, .i32⟩
  | 100 => ⟨S8192x8320, .i32⟩
  | 101 => ⟨S8192x8320, .i32⟩
  | 102 => ⟨S8192x8320x1, .i32⟩
  | 103 => ⟨S8192x8320x4, .f32⟩
  | 104 => ⟨S4x8192x8320, .f32⟩
  | 105 => ⟨S1x4x1x8192x8320, .f32⟩
  | 106 => ⟨S8x4x2x8192x8320, .f32⟩
  | 107 => ⟨S8x4x2x8192x8320, .f32⟩
  | 108 => ⟨S1x1x1x1x8320, .i1⟩
  | 109 => ⟨S_, .f32⟩
  | 110 => ⟨S_, .f32⟩
  | 111 => ⟨S8x4x2x8192x8320, .i1⟩
  | 112 => ⟨S8x4x2x8192x8320, .f32⟩
  | 113 => ⟨S8x4x2x8192x8320, .f32⟩
  | 114 => ⟨S_, .f32⟩
  | 115 => ⟨S8x4x2x8192, .f32⟩
  | 116 => ⟨S_, .f32⟩
  | 117 => ⟨S8x4x2x8192, .f32⟩
  | 118 => ⟨S8x4x2x8192, .f32⟩
  | 119 => ⟨S8x4x2x8192x1, .f32⟩
  | 120 => ⟨S8x4x2x8192x8320, .f32⟩
  | 121 => ⟨S8x4x2x8192x8320, .f32⟩
  | 122 => ⟨S8x4x2x8192x8320, .f32⟩
  | 123 => ⟨S_, .f32⟩
  | 124 => ⟨S8x4x2x8192, .f32⟩
  | 125 => ⟨S8x4x2x8192x1, .f32⟩
  | 126 => ⟨S8x4x2x8192x8320, .f32⟩
  | 127 => ⟨S8x4x2x8192x8320, .f32⟩
  | _ => ⟨S8x8192x512, .f32⟩

abbrev hbmTy0_1 (i : Nat) : BufTy := match i % 128 with
  | 0 => ⟨S8x4x1x8192x8320, .f32⟩
  | 1 => ⟨S8x4x8192x8320, .f32⟩
  | 2 => ⟨S8x4x1x8192x8320, .f32⟩
  | 3 => ⟨S8x4x8192x8320, .f32⟩
  | 4 => ⟨S8x4x8192x8320, .f32⟩
  | 5 => ⟨S8x4x8192x8320, .f32⟩
  | 6 => ⟨S8x4x8192x8320, .f32⟩
  | 7 => ⟨S8x4x128x8192, .f32⟩
  | 8 => ⟨S8x8192x4x128, .f32⟩
  | 9 => ⟨S8x8192x4x128, .f32⟩
  | 10 => ⟨S_, .f32⟩
  | 11 => ⟨S8x8192x4, .f32⟩
  | 12 => ⟨S8x8192x4x1, .f32⟩
  | 13 => ⟨S_, .f32⟩
  | 14 => ⟨S8x8192x4x1, .f32⟩
  | 15 => ⟨S8x8192x4x1, .f32⟩
  | 16 => ⟨S_, .f32⟩
  | 17 => ⟨S8x8192x4x1, .f32⟩
  | 18 => ⟨S8x8192x4x1, .f32⟩
  | 19 => ⟨S8x8192x4x1, .f32⟩
  | 20 => ⟨S8x8192x4x128, .f32⟩
  | 21 => ⟨S8x8192x4x128, .f32⟩
  | 22 => ⟨S1x1x1x128, .f32⟩
  | 23 => ⟨S8x8192x4x128, .f32⟩
  | 24 => ⟨S8x8192x4x128, .f32⟩
  | 25 => ⟨S_, .f32⟩
  | 26 => ⟨S8x8192x4x128, .f32⟩
  | 27 => ⟨S8x8192x4x128, .f32⟩
  | 28 => ⟨S8x8192x512, .f32⟩
  | 29 => ⟨S8x8192x512, .f32⟩
  | 30 => ⟨S8x8192x512, .f32⟩
  | 31 => ⟨S_, .f32⟩
  | 32 => ⟨S8x8192x512, .f32⟩
  | 33 => ⟨S8x8192x512, .f32⟩
  | 34 => ⟨S_, .f32⟩
  | 35 => ⟨S8x8192x512, .f32⟩
  | 36 => ⟨S8x8192x512, .f32⟩
  | 37 => ⟨S8x8192x512, .f32⟩
  | 38 => ⟨S8x8192x512, .f32⟩
  | 39 => ⟨S8x8192x512, .bf16⟩
  | _ => ⟨S8x8192x512, .f32⟩

abbrev hbmTy (i : Nat) : BufTy := match i / 128 with
  | 0 => hbmTy0_0 i
  | 1 => hbmTy0_1 i
  | _ => ⟨S8x8192x512, .f32⟩

abbrev bufTy : (tb : Table) → Fin (tcTables nBuf tb) → BufTy
  | .hbm, ⟨i, _⟩ => hbmTy i
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_call0_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_call1_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_c_9 : Ref sig .tc := ⟨.hbm, 63, rfl⟩
abbrev main_call2_v0 : Ref sig .tc := ⟨.hbm, 64, rfl⟩
abbrev main_call2_v1 : Ref sig .tc := ⟨.hbm, 65, rfl⟩
abbrev main_v38 : Ref sig .tc := ⟨.hbm, 66, rfl⟩
abbrev main_v39 : Ref sig .tc := ⟨.hbm, 67, rfl⟩
abbrev main_c_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_11 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_12 : Ref sig .tc := ⟨.hbm, 76, rfl⟩
abbrev main_v46 : Ref sig .tc := ⟨.hbm, 77, rfl⟩
abbrev main_v47 : Ref sig .tc := ⟨.hbm, 78, rfl⟩
abbrev main_cst_13 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_14 : Ref sig .tc := ⟨.hbm, 83, rfl⟩
abbrev main_v51 : Ref sig .tc := ⟨.hbm, 84, rfl⟩
abbrev main_v52 : Ref sig .tc := ⟨.hbm, 85, rfl⟩
abbrev main_c_15 : Ref sig .tc := ⟨.hbm, 86, rfl⟩
abbrev main_v53 : Ref sig .tc := ⟨.hbm, 87, rfl⟩
abbrev main_v54 : Ref sig .tc := ⟨.hbm, 88, rfl⟩
abbrev main_c_16 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_17 : Ref sig .tc := ⟨.hbm, 95, rfl⟩
abbrev main_v60 : Ref sig .tc := ⟨.hbm, 96, rfl⟩
abbrev main_v61 : Ref sig .tc := ⟨.hbm, 97, rfl⟩
abbrev main_c_18 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_19 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v72 : Ref sig .tc := ⟨.hbm, 113, rfl⟩
abbrev main_cst_20 : Ref sig .tc := ⟨.hbm, 114, rfl⟩
abbrev main_v73 : Ref sig .tc := ⟨.hbm, 115, rfl⟩
abbrev main_cst_21 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_22 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_23 : Ref sig .tc := ⟨.hbm, 138, rfl⟩
abbrev main_v94 : Ref sig .tc := ⟨.hbm, 139, rfl⟩
abbrev main_v95 : Ref sig .tc := ⟨.hbm, 140, rfl⟩
abbrev main_cst_24 : Ref sig .tc := ⟨.hbm, 141, rfl⟩
abbrev main_v96 : Ref sig .tc := ⟨.hbm, 142, rfl⟩
abbrev main_v97 : Ref sig .tc := ⟨.hbm, 143, rfl⟩
abbrev main_cst_25 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_cst_26 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_call5_v0 : Ref sig .tc := ⟨.hbm, 157, rfl⟩
abbrev main_call5_v1 : Ref sig .tc := ⟨.hbm, 158, rfl⟩
abbrev main_call5_cst : Ref sig .tc := ⟨.hbm, 159, rfl⟩
abbrev main_call5_v2 : Ref sig .tc := ⟨.hbm, 160, rfl⟩
abbrev main_call5_v3 : Ref sig .tc := ⟨.hbm, 161, rfl⟩
abbrev main_call5_cst_0 : Ref sig .tc := ⟨.hbm, 162, rfl⟩
abbrev main_call5_v4 : Ref sig .tc := ⟨.hbm, 163, rfl⟩
abbrev main_call5_v5 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x8192x512 : Shape := ⟨3, ![8, 8192, 512]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S1x1024x512 : Shape := ⟨3, ![1, 1024, 512]⟩
abbrev S1024x512 : Shape := ⟨2, ![1024, 512]⟩
abbrev S1024x1 : Shape := ⟨2, ![1024, 1]⟩

abbrev nBuf : Space → Nat
  | .hbm => 16
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S8x8192x1024, .f32⟩
  | .hbm, ⟨4, _⟩ => ⟨S8x8192x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S8x8192x1024, .bf16⟩
  | .hbm, ⟨10, _⟩ => ⟨S8x8192x1024, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x1024, .f32⟩
  | .hbm, ⟨15, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8x8192x1024 : Shape := ⟨3, ![8, 8192, 1024]⟩
abbrev S8x8192x512 : Shape := ⟨3, ![8, 8192, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S8x8192x1024, .f32⟩
  | .hbm, ⟨4, _⟩ => ⟨S8x8192x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S8x8192x512, .f32⟩
  | .hbm, ⟨10, _⟩ => ⟨S8x8192x1024, .f32⟩
  | .hbm, ⟨11, _⟩ => ⟨S8x8192x512, .f32⟩
  | .hbm, ⟨12, _⟩ => ⟨S8x8192x1024, .f32⟩
  | .hbm, ⟨13, _⟩ => ⟨S8x8192x1024, .f32⟩
  | .hbm, ⟨14, _⟩ => ⟨S8x8192x1024, .f32⟩
  | .hbm, ⟨15, _⟩ => ⟨S_, .f32⟩
  | .hbm, ⟨16, _⟩ => ⟨S8x8192x1024, .f32⟩
  | .hbm, ⟨17, _⟩ => ⟨S8x8192x1024, .f32⟩
  | .hbm, ⟨18, _⟩ => ⟨S_, .f32⟩
  | .hbm, ⟨19, _⟩ => ⟨S8x8192x1024, .f32⟩
  | .hbm, ⟨20, _⟩ => ⟨S8x8192x1024, .f32⟩
  | .hbm, ⟨21, _⟩ => ⟨S8x8192x1024, .f32⟩
  | .hbm, ⟨22, _⟩ => ⟨S8x8192x1024, .f32⟩
  | .hbm, ⟨23, _⟩ => ⟨S8x8192x1024, .f32⟩
  | .hbm, ⟨24, _⟩ => ⟨S_, .f32⟩
  | .hbm, ⟨25, _⟩ => ⟨S8x8192x1024, .f32⟩
  | .hbm, ⟨26, _⟩ => ⟨S8x8192x1024, .f32⟩
  | .hbm, ⟨27, _⟩ => ⟨S_, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S8x8192x1024, .f32⟩
  | .hbm, ⟨33, _⟩ => ⟨S8x8192x1024, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S_, .f32⟩
  | .hbm, ⟨38, _⟩ => ⟨S8x8192x1, .f32⟩
  | .hbm, ⟨39, _⟩ => ⟨S8x8192x1, .f32⟩
  | .hbm, ⟨40, _⟩ => ⟨S_, .f32⟩
  | .hbm, ⟨41, _⟩ => ⟨S8x8192x1, .f32⟩
  | .hbm, ⟨42, _⟩ => ⟨S8x8192x1, .f32⟩
  | .hbm, ⟨43, _⟩ => ⟨S8x8192x1, .f32⟩
  | .hbm, ⟨44, _⟩ => ⟨S8x8192x1024, .f32⟩
  | .hbm, ⟨45, _⟩ => ⟨S8x8192x1024, .f32⟩
  | .hbm, ⟨46, _⟩ => ⟨S1x1x1024, .f32⟩
  | .hbm, ⟨47, _⟩ => ⟨S8x8192x1024, .f32⟩
  | .hbm, ⟨48, _⟩ => ⟨S8x8192x1024, .f32⟩
  | .hbm, ⟨49, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Kernel3.lean ====
abbrev S8x8192x1024 : Shape := ⟨3, ![8, 8192, 1024]⟩
abbrev S1024 : Shape := ⟨1, ![1024]⟩
abbrev S1024x5376 : Shape := ⟨2, ![1024, 5376]⟩
abbrev S5376 : Shape := ⟨1, ![5376]⟩
abbrev S1x1024 : Shape := ⟨2, ![1, 1024]⟩
abbrev S1x5376 : Shape := ⟨2, ![1, 5376]⟩
abbrev S8x8x512x1024 : Shape := ⟨4, ![8, 8, 512, 1024]⟩
abbrev S8x8192x512 : Shape := ⟨3, ![8, 8192, 512]⟩
abbrev S8x16x512x512 : Shape := ⟨4, ![8, 16, 512, 512]⟩
abbrev S8x64x512x128 : Shape := ⟨4, ![8, 64, 512, 128]⟩
abbrev S8x8192x128 : Shape := ⟨3, ![8, 8192, 128]⟩
abbrev S1x1024x1024 : Shape := ⟨3, ![1, 1024, 1024]⟩
abbrev S1x1x512x1024 : Shape := ⟨4, ![1, 1, 512, 1024]⟩
abbrev S1x1024x512 : Shape := ⟨3, ![1, 1024, 512]⟩
abbrev S1x2x512x512 : Shape := ⟨4, ![1, 2, 512, 512]⟩
abbrev S1x8x512x128 : Shape := ⟨4, ![1, 8, 512, 128]⟩
abbrev S1x1024x128 : Shape := ⟨3, ![1, 1024, 128]⟩
abbrev S1024x1024 : Shape := ⟨2, ![1024, 1024]⟩
abbrev S1024x1 : Shape := ⟨2, ![1024, 1]⟩
abbrev S1024x512 : Shape := ⟨2, ![1024, 512]⟩
abbrev S1x512 : Shape := ⟨2, ![1, 512]⟩
abbrev S512x1024 : Shape := ⟨2, ![512, 1024]⟩
abbrev S512x512 : Shape := ⟨2, ![512, 512]⟩
abbrev S1x1x512x512 : Shape := ⟨4, ![1, 1, 512, 512]⟩
abbrev S128x512 : Shape := ⟨2, ![128, 512]⟩
abbrev S512x128 : Shape := ⟨2, ![512, 128]⟩
abbrev S1x1x512x128 : Shape := ⟨4, ![1, 1, 512, 128]⟩
abbrev S1024x128 : Shape := ⟨2, ![1024, 128]⟩
abbrev S1x128 : Shape := ⟨2, ![1, 128]⟩

abbrev nBuf : Space → Nat
  | .hbm => 17
  | .vmem => 25
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5376, .f32⟩
  | .hbm, ⟨3, _⟩ => ⟨S5376, .f32⟩
  | .hbm, ⟨4, _⟩ => ⟨S1x1024, .f32⟩
  | .hbm, ⟨5, _⟩ => ⟨S1024x5376, .bf16⟩
  | .hbm, ⟨6, _⟩ => ⟨S1x5376, .f32⟩
  | .hbm, ⟨7, _⟩ => ⟨S8x8x512x1024, .bf16⟩
  | .hbm, ⟨8, _⟩ => ⟨S8x8192x512, .bf16⟩
  | .hbm, ⟨9, _⟩ => ⟨S8x16x512x512, .bf16⟩
  | .hbm, ⟨10, _⟩ => ⟨S8x8192x512, .bf16⟩
  | .hbm, ⟨11, _⟩ => ⟨S8x64x512x128, .bf16⟩
  | .hbm, ⟨12, _⟩ => ⟨S8x8192x128, .bf16⟩
  | .hbm, ⟨13, _⟩ => ⟨S8x8192x128, .bf16⟩
  | .hbm, ⟨14, _⟩ => ⟨S8x8192x512, .bf16⟩
  | .hbm, ⟨15, _⟩ => ⟨S8x8192x1024, .bf16⟩
  | .hbm, ⟨16, _⟩ => ⟨S8x8192x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x5376, .bf16⟩
  | .local _ .vmem, ⟨4, _⟩ => ⟨S1x5376, .f32⟩
  | .local _ .vmem, ⟨5, _⟩ => ⟨S1x1x512x1024, .bf16⟩
  | .local _ .vmem, ⟨6, _⟩ => ⟨S1x1x512x1024, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x2x512x512, .bf16⟩
  | .local _ .vmem, ⟨10, _⟩ => ⟨S1x2x512x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x8x512x128, .bf16⟩
  | .local _ .vmem, ⟨14, _⟩ => ⟨S1x8x512x128, .bf16⟩
  | .local _ .vmem, ⟨15, _⟩ => ⟨S1x1024x128, .bf16⟩
  | .local _ .vmem, ⟨16, _⟩ => ⟨S1x1024x128, .bf16⟩
  | .local _ .vmem, ⟨17, _⟩ => ⟨S1x1024x128, .bf16⟩
  | .local _ .vmem, ⟨18, _⟩ => ⟨S1x1024x128, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x1024, .bf16⟩
  | .local _ .vmem, ⟨22, _⟩ => ⟨S1x1024x1024, .bf16⟩
  | .local _ .vmem, ⟨23, _⟩ => ⟨S1x1024x1024, .bf16⟩
  | .local _ .vmem, ⟨24, _⟩ => ⟨S1x1024x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev main_v3_7 : Ref sig .tc := ⟨.hbm, 14, rfl⟩
abbrev main_v3_8 : Ref sig .tc := ⟨.hbm, 15, rfl⟩
abbrev main_v3_9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S8x8192x1024 : Shape := ⟨3, ![8, 8192, 1024]⟩
abbrev S1024 : Shape := ⟨1, ![1024]⟩
abbrev S1024x5376 : Shape := ⟨2, ![1024, 5376]⟩
abbrev S5376 : Shape := ⟨1, ![5376]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5376 : Shape := ⟨3, ![8, 8192, 5376]⟩
abbrev S1x1x5376 : Shape := ⟨3, ![1, 1, 5376]⟩
abbrev S8x8192x512 : Shape := ⟨3, ![8, 8192, 512]⟩
abbrev S8x8192x128 : Shape := ⟨3, ![8, 8192, 128]⟩
abbrev S8x8x1024x512 : Shape := ⟨4, ![8, 8, 1024, 512]⟩
abbrev S8x8x512x1024 : Shape := ⟨4, ![8, 8, 512, 1024]⟩
abbrev S8x16x512x512 : Shape := ⟨4, ![8, 16, 512, 512]⟩
abbrev S8x64x128x512 : Shape := ⟨4, ![8, 64, 128, 512]⟩
abbrev S8x64x512x128 : Shape := ⟨4, ![8, 64, 512, 128]⟩

abbrev nBuf : Space → Nat
  | .hbm => 56
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5376, .f32⟩
  | .hbm, ⟨3, _⟩ => ⟨S5376, .f32⟩
  | .hbm, ⟨4, _⟩ => ⟨S8x8192x1024, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S8x8192x1, .f32⟩
  | .hbm, ⟨15, _⟩ => ⟨S8x8192x1024, .f32⟩
  | .hbm, ⟨16, _⟩ => ⟨S8x8192x1024, .f32⟩
  | .hbm, ⟨17, _⟩ => ⟨S1x1x1024, .f32⟩
  | .hbm, ⟨18, _⟩ => ⟨S8x8192x1024, .f32⟩
  | .hbm, ⟨19, _⟩ => ⟨S8x8192x1024, .f32⟩
  | .hbm, ⟨20, _⟩ => ⟨S8x8192x5376, .f32⟩
  | .hbm, ⟨21, _⟩ => ⟨S1x1x5376, .f32⟩
  | .hbm, ⟨22, _⟩ => ⟨S8x8192x5376, .f32⟩
  | .hbm, ⟨23, _⟩ => ⟨S8x8192x5376, .f32⟩
  | .hbm, ⟨24, _⟩ => ⟨S8x8192x512, .f32⟩
  | .hbm, ⟨25, _⟩ => ⟨S8x8192x512, .f32⟩
  | .hbm, ⟨26, _⟩ => ⟨S8x8192x512, .f32⟩
  | .hbm, ⟨27, _⟩ => ⟨S8x8192x512, .f32⟩
  | .hbm, ⟨28, _⟩ => ⟨S8x8192x512, .f32⟩
  | .hbm, ⟨29, _⟩ => ⟨S8x8192x128, .f32⟩
  | .hbm, ⟨30, _⟩ => ⟨S8x8192x128, .f32⟩
  | .hbm, ⟨31, _⟩ => ⟨S8x8192x512, .f32⟩
  | .hbm, ⟨32, _⟩ => ⟨S8x8192x1024, .f32⟩
  | .hbm, ⟨33, _⟩ => ⟨S8x8192x1024, .f32⟩
  | .hbm, ⟨34, _⟩ => ⟨S_, .f32⟩
  | .hbm, ⟨35, _⟩ => ⟨S8x8192x512, .f32⟩
  | .hbm, ⟨36, _⟩ => ⟨S8x8192x512, .f32⟩
  | .hbm, ⟨37, _⟩ => ⟨S8x8x1024x512, .f32⟩
  | .hbm, ⟨38, _⟩ => ⟨S8x8x512x1024, .f32⟩
  | .hbm, ⟨39, _⟩ => ⟨S8x16x512x512, .f32⟩
  | .hbm, ⟨40, _⟩ => ⟨S8x16x512x512, .f32⟩
  | .hbm, ⟨41, _⟩ => ⟨S_, .f32⟩
  | .hbm, ⟨42, _⟩ => ⟨S8x8192x512, .f32⟩
  | .hbm, ⟨43, _⟩ => ⟨S8x8192x512, .f32⟩
  | .hbm, ⟨44, _⟩ => ⟨S8x64x128x512, .f32⟩
  | .hbm, ⟨45, _⟩ => ⟨S8x64x512x128, .f32⟩
  | .hbm, ⟨46, _⟩ => ⟨S8x8x512x1024, .bf16⟩
  | .hbm, ⟨47, _⟩ => ⟨S8x8192x512, .bf16⟩
  | .hbm, ⟨48, _⟩ => ⟨S8x16x512x512, .bf16⟩
  | .hbm, ⟨49, _⟩ => ⟨S8x8192x512, .bf16⟩
  | .hbm, ⟨50, _⟩ => ⟨S8x64x512x128, .bf16⟩
  | .hbm, ⟨51, _⟩ => ⟨S8x8192x128, .bf16⟩
  | .hbm, ⟨52, _⟩ => ⟨S8x8192x128, .bf16⟩
  | .hbm, ⟨53, _⟩ => ⟨S8x8192x512, .bf16⟩
  | .hbm, ⟨54, _⟩ => ⟨S8x8192x1024, .bf16⟩
  | .hbm, ⟨55, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]
-- ==== Proof.Run.lean ====
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.AttnA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
def headRun (c : Dev nD) (i : grid0.Coords) (arg3 : Memref sig .tc .smem S1 .f32) (harg3 : arg3.IsWhole) (arg4 : Memref sig .tc .vmem S1x1x128x1024 .bf16) (harg4 : arg4.IsWhole) (arg5 : Memref sig .tc .vmem S1x8192x128 .bf16) (harg5 : arg5.IsWhole) (arg6 : Memref sig .tc .vmem S1x16x128x512 .bf16) (harg6 : arg6.IsWhole) (arg7 : Memref sig .tc .vmem S1x16x128 .bf16) (harg7 : arg7.IsWhole) (arg8 : Memref sig .tc .vmem S1x1x128x16 .bf16) (harg8 : arg8.IsWhole) (arg9 : Memref sig .tc .vmem S1x5x512x512 .f32) (harg9 : arg9.IsWhole) (arg10 : Memref sig .tc .vmem S1x16x1024 .f32) (harg10 : arg10.IsWhole) (arg11 : Memref sig .tc .vmem S1x1024x128 .bf16) (harg11 : arg11.IsWhole) (arg12 : Memref sig .tc .vmem S1x128 .f32) (harg12 : arg12.IsWhole) (arg13 : Memref sig .tc .vmem S1x1024x128 .bf16) (harg13 : arg13.IsWhole) (arg14 : Memref sig .tc .vmem S128x2048 .bf16) (harg14 : arg14.IsWhole) (arg15 : Memref sig .tc .vmem S1x2048 .f32) (harg15 : arg15.IsWhole) (arg16 : Memref sig .tc .vmem S144x2048 .f32) (harg16 : arg16.IsWhole) (arg17 : Memref sig .tc .vmem S2x512x2048 .bf16) (harg17 : arg17.IsWhole) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) (x10 : BufTy.Contents (Elt F) arg10.view.ty) (x11 : BufTy.Contents (Elt F) arg11.view.ty) (x12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    Σ' (T : Prog (TpuEff nD τ sig (Elt F) Λ₀ .tc) PUnit) (g13 : BufTy.Contents (Elt F) arg13.view.ty) (g14 : BufTy.Contents (Elt F) arg14.view.ty) (g15 : BufTy.Contents (Elt F) arg15.view.ty) (g16 : BufTy.Contents (Elt F) arg16.view.ty), { g17 : BufTy.Contents (Elt F) arg17.view.ty // ∀ (E : Set ℕ) (Q : PUnit → sProp 𝕄),
      iprop((arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg9.view.loc (c : Thread nD τ) ↦[arg9.view.set]{fullShare} x9) ∗ (arg10.view.loc (c : Thread nD τ) ↦[arg10.view.set]{fullShare} x10) ∗ (arg11.view.loc (c : Thread nD τ) ↦[arg11.view.set]{fullShare} x11) ∗ (arg12.view.loc (c : Thread nD τ) ↦[arg12.view.set]{fullShare} x12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg9.view.loc (c : Thread nD τ) ↦[arg9.view.set]{fullShare} x9) ∗ (arg10.view.loc (c : Thread nD τ) ↦[arg10.view.set]{fullShare} x10) ∗ (arg11.view.loc (c : Thread nD τ) ↦[arg11.view.set]{fullShare} x11) ∗ (arg12.view.loc (c : Thread nD τ) ↦[arg12.view.set]{fullShare} x12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17)) -∗ wp frame (wpE (defs₀ (F := F)) Variants.none c none) E T Q))
      ⊢ wp frame (wpE (defs₀ (F := F)) Variants.none c none) E (cc0_attn_a i arg3 harg3 arg4 harg4 arg5 harg5 arg6 harg6 arg7 harg7 arg8 harg8 arg9 harg9 arg10 harg10 arg11 harg11 arg12 harg12 arg13 harg13 arg14 harg14 arg15 harg15 arg16 harg16 arg17 harg17) Q } := by
  simp only [cc0_attn_a_eq_skeleton]; unfold cc0_attn_a_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  refine ⟨?_, ?_, ?_, ?_, ?_, ?_, fun E Q => ?run⟩
  case run =>
    iintro ⟨H3, H4, H5, H6, H7, H8, H9, H10, H11, H12, H13, H14, H15, H16, H17, Hk⟩
    sl_exec
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

end Cert.AttnA

end
-- ==== Proof.RunTail.lean ====
module

public import proofs.«01_k».proof.Proof.Run

@[expose] public section

set_option maxRecDepth 16384

noncomputable section

namespace Cert.AttnA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
def tailRun (c : Dev nD) (i : grid0.Coords) (arg3 : Memref sig .tc .smem S1 .f32) (harg3 : arg3.IsWhole) (arg4 : Memref sig .tc .vmem S1x1x128x1024 .bf16) (harg4 : arg4.IsWhole) (arg5 : Memref sig .tc .vmem S1x8192x128 .bf16) (harg5 : arg5.IsWhole) (arg6 : Memref sig .tc .vmem S1x16x128x512 .bf16) (harg6 : arg6.IsWhole) (arg7 : Memref sig .tc .vmem S1x16x128 .bf16) (harg7 : arg7.IsWhole) (arg8 : Memref sig .tc .vmem S1x1x128x16 .bf16) (harg8 : arg8.IsWhole) (arg9 : Memref sig .tc .vmem S1x5x512x512 .f32) (harg9 : arg9.IsWhole) (arg10 : Memref sig .tc .vmem S1x16x1024 .f32) (harg10 : arg10.IsWhole) (arg11 : Memref sig .tc .vmem S1x1024x128 .bf16) (harg11 : arg11.IsWhole) (arg12 : Memref sig .tc .vmem S1x128 .f32) (harg12 : arg12.IsWhole) (arg13 : Memref sig .tc .vmem S1x1024x128 .bf16) (harg13 : arg13.IsWhole) (arg14 : Memref sig .tc .vmem S128x2048 .bf16) (harg14 : arg14.IsWhole) (arg15 : Memref sig .tc .vmem S1x2048 .f32) (harg15 : arg15.IsWhole) (arg16 : Memref sig .tc .vmem S144x2048 .f32) (harg16 : arg16.IsWhole) (arg17 : Memref sig .tc .vmem S2x512x2048 .bf16) (harg17 : arg17.IsWhole) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) (x10 : BufTy.Contents (Elt F) arg10.view.ty) (x11 : BufTy.Contents (Elt F) arg11.view.ty) (x12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (y13 : BufTy.Contents (Elt F) arg13.view.ty) (y14 : BufTy.Contents (Elt F) arg14.view.ty) (y15 : BufTy.Contents (Elt F) arg15.view.ty) (y16 : BufTy.Contents (Elt F) arg16.view.ty) (y17 : BufTy.Contents (Elt F) arg17.view.ty) :
    { L : BufTy.Contents (Elt F) arg13.view.ty // ∀ (E : Set ℕ) (Q : PUnit → sProp 𝕄),
      iprop((arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg9.view.loc (c : Thread nD τ) ↦[arg9.view.set]{fullShare} x9) ∗ (arg10.view.loc (c : Thread nD τ) ↦[arg10.view.set]{fullShare} x10) ∗ (arg11.view.loc (c : Thread nD τ) ↦[arg11.view.set]{fullShare} x11) ∗ (arg12.view.loc (c : Thread nD τ) ↦[arg12.view.set]{fullShare} x12) ∗ (arg13.view.loc (c : Thread nD τ) ↦[arg13.view.set]{fullShare} y13) ∗ (arg14.view.loc (c : Thread nD τ) ↦[arg14.view.set]{fullShare} y14) ∗ (arg15.view.loc (c : Thread nD τ) ↦[arg15.view.set]{fullShare} y15) ∗ (arg16.view.loc (c : Thread nD τ) ↦[arg16.view.set]{fullShare} y16) ∗ (arg17.view.loc (c : Thread nD τ) ↦[arg17.view.set]{fullShare} y17)
        ∗ (iprop((arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg9.view.loc (c : Thread nD τ) ↦[arg9.view.set]{fullShare} x9) ∗ (arg10.view.loc (c : Thread nD τ) ↦[arg10.view.set]{fullShare} x10) ∗ (arg11.view.loc (c : Thread nD τ) ↦[arg11.view.set]{fullShare} x11) ∗ (arg12.view.loc (c : Thread nD τ) ↦[arg12.view.set]{fullShare} x12) ∗ ((arg13.view.loc (c : Thread nD τ) ↦[arg13.view.set]{fullShare} y13) ∨ (arg13.view.loc (c : Thread nD τ) ↦[arg13.view.set]{fullShare} L)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))) -∗ Q ⟨⟩))
      ⊢ wp frame (wpE (defs₀ (F := F)) Variants.none c none) E (headRun c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17).1 Q } := by
  unfold headRun
  dsimp only
  refine ⟨?_, fun E Q => ?run⟩
  case run =>
    iintro ⟨H3, H4, H5, H6, H7, H8, H9, H10, H11, H12, H13, H14, H15, H16, H17, Hk⟩
    split_ifs with hC
    · sl_exec
      sl_step
      iapply Hk
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iright; iexact H13
      isplitl [H14]; · iexists _; iexact H14
      isplitl [H15]; · iexists _; iexact H15
      isplitl [H16]; · iexists _; iexact H16
      iexists _; iexact H17
    · sl_exec
      sl_step
      iapply Hk
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · ileft; iexact H13
      isplitl [H14]; · iexists _; iexact H14
      isplitl [H15]; · iexists _; iexact H15
      isplitl [H16]; · iexists _; iexact H16
      iexists _; iexact H17

end Cert.AttnA

end
-- ==== Proof.AttnFrame.lean ====
/-
  Hand-written, untrusted. The frame of `KernelIdeal`, the attention's launch. The body is run once (Run.lean, RunTail.lean); here its run is
  put into the form the launch asks for: from the ten input blocks and the five buffers it writes at any contents it returns
  the inputs as they were, and in the output block one of two values (`Left`): what the first finish leaves, or what the guard's
  exact pass leaves over it. The output window is held to that relation, since the value depends in form on what the scratch
  buffers held before the point.
-/
module

public import proofs.«01_k».proof.Proof.RunTail
public import proofs.«01_k».proof.Proof.Gen.KernelIdeal.Frame
public import Idealize.ShloMosaic.Lib.Pipeline.DatRel
public import Idealize.ShloMosaic.Lib.Pipeline.ArrRel
public import Idealize.ShloMosaic.Lib.Pipeline.Frame

@[expose] public section

set_option maxRecDepth 16384

noncomputable section

namespace Cert.AttnA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F] [Named F]

local notation "𝕄" => MT nD τ sig Unit (Elt F) ℕ (UR sig nD τ) ℕ

/-- What the body may leave in the output block, from the input blocks `v3 … v12`: for some contents of the buffers read as those blocks
    and some former contents of the output's and the scratch buffers, the first finish's value or the exact pass's. -/
def Left (c : Dev nD) (i : grid0.Coords) (arg3 : Memref sig .tc .smem S1 .f32) (harg3 : arg3.IsWhole) (arg4 : Memref sig .tc .vmem S1x1x128x1024 .bf16) (harg4 : arg4.IsWhole) (arg5 : Memref sig .tc .vmem S1x8192x128 .bf16) (harg5 : arg5.IsWhole) (arg6 : Memref sig .tc .vmem S1x16x128x512 .bf16) (harg6 : arg6.IsWhole) (arg7 : Memref sig .tc .vmem S1x16x128 .bf16) (harg7 : arg7.IsWhole) (arg8 : Memref sig .tc .vmem S1x1x128x16 .bf16) (harg8 : arg8.IsWhole) (arg9 : Memref sig .tc .vmem S1x5x512x512 .f32) (harg9 : arg9.IsWhole) (arg10 : Memref sig .tc .vmem S1x16x1024 .f32) (harg10 : arg10.IsWhole) (arg11 : Memref sig .tc .vmem S1x1024x128 .bf16) (harg11 : arg11.IsWhole) (arg12 : Memref sig .tc .vmem S1x128 .f32) (harg12 : arg12.IsWhole) (arg13 : Memref sig .tc .vmem S1x1024x128 .bf16) (harg13 : arg13.IsWhole) (arg14 : Memref sig .tc .vmem S128x2048 .bf16) (harg14 : arg14.IsWhole) (arg15 : Memref sig .tc .vmem S1x2048 .f32) (harg15 : arg15.IsWhole) (arg16 : Memref sig .tc .vmem S144x2048 .f32) (harg16 : arg16.IsWhole) (arg17 : Memref sig .tc .vmem S2x512x2048 .bf16) (harg17 : arg17.IsWhole) (v3 : S1.Idx → Elt F .f32) (v4 : S1x1x128x1024.Idx → Elt F .bf16) (v5 : S1x8192x128.Idx → Elt F .bf16) (v6 : S1x16x128x512.Idx → Elt F .bf16) (v7 : S1x16x128.Idx → Elt F .bf16) (v8 : S1x1x128x16.Idx → Elt F .bf16) (v9 : S1x5x512x512.Idx → Elt F .f32) (v10 : S1x16x1024.Idx → Elt F .f32) (v11 : S1x1024x128.Idx → Elt F .bf16) (v12 : S1x128.Idx → Elt F .f32) (X : S1x1024x128.Idx → Elt F .bf16) : Prop :=
  ∃ x3 : BufTy.Contents (Elt F) arg3.view.ty, arg3.view.read (Elt F) x3 = v3 ∧ ∃ x4 : BufTy.Contents (Elt F) arg4.view.ty, arg4.view.read (Elt F) x4 = v4 ∧ ∃ x5 : BufTy.Contents (Elt F) arg5.view.ty, arg5.view.read (Elt F) x5 = v5 ∧ ∃ x6 : BufTy.Contents (Elt F) arg6.view.ty, arg6.view.read (Elt F) x6 = v6 ∧ ∃ x7 : BufTy.Contents (Elt F) arg7.view.ty, arg7.view.read (Elt F) x7 = v7 ∧ ∃ x8 : BufTy.Contents (Elt F) arg8.view.ty, arg8.view.read (Elt F) x8 = v8 ∧ ∃ x9 : BufTy.Contents (Elt F) arg9.view.ty, arg9.view.read (Elt F) x9 = v9 ∧ ∃ x10 : BufTy.Contents (Elt F) arg10.view.ty, arg10.view.read (Elt F) x10 = v10 ∧ ∃ x11 : BufTy.Contents (Elt F) arg11.view.ty, arg11.view.read (Elt F) x11 = v11 ∧ ∃ x12 : BufTy.Contents (Elt F) arg12.view.ty, arg12.view.read (Elt F) x12 = v12 ∧
  ∃ f13 : BufTy.Contents (Elt F) arg13.view.ty, ∃ f14 : BufTy.Contents (Elt F) arg14.view.ty, ∃ f15 : BufTy.Contents (Elt F) arg15.view.ty, ∃ f16 : BufTy.Contents (Elt F) arg16.view.ty, ∃ f17 : BufTy.Contents (Elt F) arg17.view.ty,
    (X = arg13.view.read (Elt F) (headRun c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17).2.1 ∨ X = arg13.view.read (Elt F) (tailRun c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17 (headRun c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17).2.1 (headRun c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17).2.2.1 (headRun c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17).2.2.2.1 (headRun c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17).2.2.2.2.1 (headRun c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17).2.2.2.2.2.1).1)

/-- The body's triple over owned blocks. -/
theorem sound_kernel (c : Dev nD) (E : Set ℕ) (i : grid0.Coords) (arg3 : Memref sig .tc .smem S1 .f32) (harg3 : arg3.IsWhole) (arg4 : Memref sig .tc .vmem S1x1x128x1024 .bf16) (harg4 : arg4.IsWhole) (arg5 : Memref sig .tc .vmem S1x8192x128 .bf16) (harg5 : arg5.IsWhole) (arg6 : Memref sig .tc .vmem S1x16x128x512 .bf16) (harg6 : arg6.IsWhole) (arg7 : Memref sig .tc .vmem S1x16x128 .bf16) (harg7 : arg7.IsWhole) (arg8 : Memref sig .tc .vmem S1x1x128x16 .bf16) (harg8 : arg8.IsWhole) (arg9 : Memref sig .tc .vmem S1x5x512x512 .f32) (harg9 : arg9.IsWhole) (arg10 : Memref sig .tc .vmem S1x16x1024 .f32) (harg10 : arg10.IsWhole) (arg11 : Memref sig .tc .vmem S1x1024x128 .bf16) (harg11 : arg11.IsWhole) (arg12 : Memref sig .tc .vmem S1x128 .f32) (harg12 : arg12.IsWhole) (arg13 : Memref sig .tc .vmem S1x1024x128 .bf16) (harg13 : arg13.IsWhole) (arg14 : Memref sig .tc .vmem S128x2048 .bf16) (harg14 : arg14.IsWhole) (arg15 : Memref sig .tc .vmem S1x2048 .f32) (harg15 : arg15.IsWhole) (arg16 : Memref sig .tc .vmem S144x2048 .f32) (harg16 : arg16.IsWhole) (arg17 : Memref sig .tc .vmem S2x512x2048 .bf16) (harg17 : arg17.IsWhole) (v3 : S1.Idx → Elt F .f32) (v4 : S1x1x128x1024.Idx → Elt F .bf16) (v5 : S1x8192x128.Idx → Elt F .bf16) (v6 : S1x16x128x512.Idx → Elt F .bf16) (v7 : S1x16x128.Idx → Elt F .bf16) (v8 : S1x1x128x16.Idx → Elt F .bf16) (v9 : S1x5x512x512.Idx → Elt F .f32) (v10 : S1x16x1024.Idx → Elt F .f32) (v11 : S1x1024x128.Idx → Elt F .bf16) (v12 : S1x128.Idx → Elt F .f32) (K : PUnit → sProp 𝕄) :
    iprop(owns (c : Thread nD τ) arg3 fullShare v3 ∗ owns (c : Thread nD τ) arg4 fullShare v4 ∗ owns (c : Thread nD τ) arg5 fullShare v5 ∗ owns (c : Thread nD τ) arg6 fullShare v6 ∗ owns (c : Thread nD τ) arg7 fullShare v7 ∗ owns (c : Thread nD τ) arg8 fullShare v8 ∗ owns (c : Thread nD τ) arg9 fullShare v9 ∗ owns (c : Thread nD τ) arg10 fullShare v10 ∗ owns (c : Thread nD τ) arg11 fullShare v11 ∗ owns (c : Thread nD τ) arg12 fullShare v12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg3 fullShare v3 ∗ owns (c : Thread nD τ) arg4 fullShare v4 ∗ owns (c : Thread nD τ) arg5 fullShare v5 ∗ owns (c : Thread nD τ) arg6 fullShare v6 ∗ owns (c : Thread nD τ) arg7 fullShare v7 ∗ owns (c : Thread nD τ) arg8 fullShare v8 ∗ owns (c : Thread nD τ) arg9 fullShare v9 ∗ owns (c : Thread nD τ) arg10 fullShare v10 ∗ owns (c : Thread nD τ) arg11 fullShare v11 ∗ owns (c : Thread nD τ) arg12 fullShare v12 ∗ (∃ X, ⌜Left c i arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v8 v9 v10 v11 v12 X⌝ ∗ owns (c : Thread nD τ) arg13 fullShare X) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_attn_a i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%x3, %h3, H3⟩, ⟨%x4, %h4, H4⟩, ⟨%x5, %h5, H5⟩, ⟨%x6, %h6, H6⟩, ⟨%x7, %h7, H7⟩, ⟨%x8, %h8, H8⟩, ⟨%x9, %h9, H9⟩, ⟨%x10, %h10, H10⟩, ⟨%x11, %h11, H11⟩, ⟨%x12, %h12, H12⟩, ⟨%d13, %f13, -, H13⟩, ⟨%d14, %f14, -, H14⟩, ⟨%d15, %f15, -, H15⟩, ⟨%d16, %f16, -, H16⟩, ⟨%d17, %f17, -, H17⟩, Hk⟩
  iapply ((headRun c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17).2.2.2.2.2.2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H3, H4, H5, H6, H7, H8, H9, H10, H11, H12, H13, H14, H15, H16, H17⟩
  iapply ((tailRun c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17 (headRun c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17).2.1 (headRun c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17).2.2.1 (headRun c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17).2.2.2.1 (headRun c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17).2.2.2.2.1 (headRun c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17).2.2.2.2.2.1).2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H3, H4, H5, H6, H7, H8, H9, H10, H11, H12, H13, ⟨%g14, H14⟩, ⟨%g15, H15⟩, ⟨%g16, H16⟩, ⟨%g17, H17⟩⟩
  iapply Hk
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · icases H13 with (H13 | H13)
    · iexists _; isplitr; swap
      · iexists _; isplitr; swap; · iexact H13
        ipureintro; rfl
      ipureintro; exact ⟨x3, h3, x4, h4, x5, h5, x6, h6, x7, h7, x8, h8, x9, h9, x10, h10, x11, h11, x12, h12, f13, f14, f15, f16, f17, Or.inl rfl⟩
    · iexists _; isplitr; swap
      · iexists _; isplitr; swap; · iexact H13
        ipureintro; rfl
      ipureintro; exact ⟨x3, h3, x4, h4, x5, h5, x6, h6, x7, h7, x8, h8, x9, h9, x10, h10, x11, h11, x12, h12, f13, f14, f15, f16, f17, Or.inr rfl⟩
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

variable (m : (ℓ : Loc nD τ sig) → Buf (Elt F) ℓ) (ρ : Dev nD → PrngReg)

/-! ## The proof data -/

/-- The output's window is the one held to a relation. -/
def fgt : Fin 11 → Bool := fun w => decide (w.val = 10)

/-- What the body may leave in the output's block at point `t`, from the input blocks at `t`. -/
def LeftAt (c : Dev nD) (t : Fin cfg0.N) (X : S1x1024x128.Idx → Elt F .bf16) : Prop :=
  Left c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) X

/-- The relation the windows are held to: the output's. -/
def Rl (c : Dev nD) : (w : Fin cfg0.W) → Fin cfg0.N → ((cfg0.win w).block.Idx → Elt F (cfg0.win w).elt) → Prop
  | ⟨10, _⟩ => fun t X => LeftAt m c t X
  | _ => fun _ _ => True

/-- The proof data: every input's block as it was found; the output's value not named (it is held to `Rl`). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The invariant between points: the four scratch buffers at some contents, and the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ Y, ⌜((dats m 0 c).toRRel fgt (Rl m c)).Finds 10 t Y⌝ ∗ owns (c : Thread nD τ) (st0_10 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ X, ⌜Rl m c 10 t X⌝ ∗ owns (c : Thread nD τ) (st0_10 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5, after0_6, after0_7, after0_8, after0_9]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, -, H10⟩⟩
  iapply (sound_kernel c Set.univ (grid0.coords t) _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  iintro ⟨H0, H1, H2, H3, H4, H5, H6, H7, H8, H9, ⟨%X, %hX, H10⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists X; isplitr
  · ipureintro; exact hX
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation with the output held to `Rl`. -/
theorem body_obligation (c : Dev nD) :
    BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The launch -/

/-- The proof data read as relations, the output's window held to `Rl`. -/
abbrev rdat (c : Dev nD) : RDat τ (Elt F) Unit ℕ (UR sig nD τ) ℕ cfg0 c := (dats m 0 c).toRRel fgt (Rl m c)

set_option backward.isDefEq.respectTransparency.types false in
set_option maxHeartbeats 800000 in
/-- Every weakly fair execution of @main from any memory with zero counters terminates with every array as the relations allow, every other
    unscoped buffer as the launch found it, and every counter at zero. -/
theorem run_main : θ_run defs (onTc (τ := τ) (main (F := F))) (s₀ m ρ)
    (fun r => RDat.FramePost (cfgs 0) (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The arguments end as they began, from the run's post. -/
theorem args_of {r : PUnit × MemSt nD τ sig (Elt F)} (h : RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c)⟩

/-- The frame: the run terminates, the argument arrays end unchanged and every counter is at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => args_of m h.1 c, h.2⟩) (run_main m ρ)

end Cert.AttnA

end
-- ==== Proof.AttnPay.lean ====
/-
  Hand-written, untrusted. The attention's block, operation by operation over the extended reals: what each stored or carried
  value of the kernel's body holds at one index.
-/
module

public import proofs.«01_k».proof.Proof.AttnFrame
public import Idealize.ShloMosaic.Lib.Pointwise

@[expose] public section

set_option maxRecDepth 16384

noncomputable section

namespace Cert.AttnV

open Cert.KernelIdeal Cert.KernelIdeal.Gen
open Idealize.ShloMosaic Idealize.ShloMosaic.TcCoe

/-- The two named constants, `1/8 · log₂ e` and `log₂ e`. -/
abbrev qs : EReal := Named.named (F := Ideal) κ (φ := .f32) "qscale" 1043900987#32
abbrev lg : EReal := Named.named (F := Ideal) κ (φ := .f32) "log2e" 1069066811#32

/-- `2 ^ x`, the kernel's exponential. -/
abbrev ex2 (x : EReal) : EReal := FloatOps.exp2 (F := Ideal) (φ := .f32) x

/-- Column `c` of the 2048 is query `c % 1024` of the block. -/
abbrev col (c : Fin 2048) : Fin 1024 := ⟨c.val % 1024, by omega⟩
/-- Its place among the 512 columns of a bias tile. -/
abbrev cl5 (c : Fin 2048) : Fin 512 := ⟨c.val % 512, by omega⟩

/-- Two bias tiles side by side, twice: the bias of a tile of keys at column `c`. -/
def bcat (v v' : Vec Ideal S1x1x512x512 .f32) (k : Fin 512) (c : Fin 2048) : EReal :=
  if c.val % 1024 < 512 then v (ix4 0 0 k (cl5 c)) else v' (ix4 0 0 k (cl5 c))

/-- Values and a row of ones against weights: entries `e < 128` are weighted sums of values, the others the sum of the weights. -/
def pvs {n : Nat} (vt : Fin 128 → Fin n → EReal) (P : Fin n → EReal) (e : Fin 144) : EReal :=
  ∑ x, (if h : e.val < 128 then vt ⟨e.val, h⟩ x else 1) * P x

/-- The two halves of the columns: the two maps of query `p`. -/
abbrev cL (p : Fin 1024) : Fin 2048 := ⟨p.val, by omega⟩
abbrev cR (p : Fin 1024) : Fin 2048 := ⟨1024 + p.val, by omega⟩
abbrev e8 (d : Fin 128) : Fin 144 := ⟨d.val, by omega⟩

/-- The difference of the two maps' averages, from the accumulator. -/
def odiff (a : Vec Ideal S144x2048 .f32) (l : EReal) (p : Fin 1024) (d : Fin 128) : EReal :=
  a (ix2 (e8 d) (cL p)) * Ideal.div 1 (a (ix2 128 (cL p))) - l * (a (ix2 (e8 d) (cR p)) * Ideal.div 1 (a (ix2 128 (cR p))))

/-- The norm over the 128 entries, its weight and the gate. -/
def fin128 (o : Fin 128 → EReal) (g z : EReal) (d : Fin 128) : EReal :=
  o d * Ideal.rsqrt ((∑ x, o x * o x) * Ideal.ofBits FTy.f32 1006632960#32 + Ideal.ofBits FTy.f32 897988541#32) * g
    * Ideal.ofBits FTy.f32 1061997773#32 * (z * Ideal.logistic z)

theorem cat4 (f g : Fin 512 → EReal) (c : Fin 2048) :
    (if h : c.val < 512 then f ⟨c.val, h⟩ else if h : c.val - 512 < 512 then g ⟨c.val - 512, h⟩
      else if h : c.val - 512 - 512 < 512 then f ⟨c.val - 512 - 512, h⟩ else g ⟨c.val - 512 - 512 - 512, by omega⟩)
      = if c.val % 1024 < 512 then f (cl5 c) else g (cl5 c) := by
  by_cases h1 : c.val < 512
  · rw [dif_pos h1, if_pos (by omega)]
    exact congrArg f (Fin.ext (show c.val = c.val % 512 by omega))
  rw [dif_neg h1]
  by_cases h2 : c.val - 512 < 512
  · rw [dif_pos h2, if_neg (by omega)]
    exact congrArg g (Fin.ext (show c.val - 512 = c.val % 512 by omega))
  rw [dif_neg h2]
  by_cases h3 : c.val - 512 - 512 < 512
  · rw [dif_pos h3, if_pos (by omega)]
    exact congrArg f (Fin.ext (show c.val - 512 - 512 = c.val % 512 by omega))
  · rw [dif_neg h3, if_neg (by omega)]
    exact congrArg g (Fin.ext (show c.val - 512 - 512 - 512 = c.val % 512 by omega))

theorem bcat_eq (v v' : Vec Ideal S1x1x512x512 .f32) (k : Fin 512) (c : Fin 2048) :
    (if h : c.val < 512 then v (ix4 0 0 k ⟨c.val, h⟩) else if h : c.val - 512 < 512 then v' (ix4 0 0 k ⟨c.val - 512, h⟩)
      else if h : c.val - 512 - 512 < 512 then v (ix4 0 0 k ⟨c.val - 512 - 512, h⟩) else v' (ix4 0 0 k ⟨c.val - 512 - 512 - 512, by omega⟩))
      = bcat v v' k c := cat4 (fun x => v (ix4 0 0 k x)) (fun x => v' (ix4 0 0 k x)) c

theorem row_eq (v : Vec Ideal S1x1x1x512 .f32) (c : Fin 2048) :
    (if h : c.val < 512 then v (ix4 0 0 0 ⟨c.val, h⟩) else if h : c.val - 512 < 512 then v (ix4 0 0 0 ⟨c.val - 512, h⟩)
      else if h : c.val - 512 - 512 < 512 then v (ix4 0 0 0 ⟨c.val - 512 - 512, h⟩) else v (ix4 0 0 0 ⟨c.val - 512 - 512 - 512, by omega⟩))
      = v (ix4 0 0 0 (cl5 c)) := (cat4 (fun x => v (ix4 0 0 0 x)) (fun x => v (ix4 0 0 0 x)) c).trans (ite_self _)

theorem fin_add_sub (c : Fin 2048) (h : ¬ c.val < 1024) (h' : 1024 + (c.val - 1024) < 2048) : (⟨1024 + (c.val - 1024), h'⟩ : Fin 2048) = c :=
  Fin.ext (by show 1024 + (c.val - 1024) = c.val; omega)

theorem halves {n : Nat} (f : Fin 2048 → EReal) (c : Fin 2048) :
    (if h : c.val < 1024 then f c else f ⟨1024 + (c.val - 1024), by omega⟩) = f c := by
  split_ifs with h
  · rfl
  · rw [fin_add_sub c h]

theorem pay30 (v21 : Vec Ideal S128x2048 .bf16) (v : Vec Ideal S1x512x128 .bf16) (k : Fin 512) (c : Fin 2048) :
    k0_pay30 v21 v (ix2 k c) = ∑ x : Fin 128, v (ix3 0 k x) * v21 (ix2 x c) := by
  pointwise [k0_pay30]

theorem pay36 (v21 : Vec Ideal S128x2048 .bf16) (v : Vec Ideal S1x512x128 .bf16) (k : Fin 512) (c : Fin 2048) :
    k0_pay36 v21 v (ix2 k c) = ∑ x : Fin 128, v (ix3 0 k x) * v21 (ix2 x c) := by
  pointwise [k0_pay36]

theorem pay40 (v21 : Vec Ideal S128x2048 .bf16) (v : Vec Ideal S1x512x128 .bf16) (k : Fin 512) (c : Fin 2048) :
    k0_pay40 v21 v (ix2 k c) = ∑ x : Fin 128, v (ix3 0 k x) * v21 (ix2 x c) := by
  pointwise [k0_pay40]

theorem pay31 (m : FVec Ideal S1x2048 .f32) (s : FVec Ideal S512x2048 .f32) (v v' : Vec Ideal S1x1x512x512 .f32) (k : Fin 512) (c : Fin 2048) :
    k0_pay31 m s v v' (ix3 0 k c) = ex2 (s (ix2 k c) + bcat v v' k c * lg - m (ix2 0 c)) := by
  pointwise [k0_pay31]
  rw [bcat_eq]

theorem pay38 (m : FVec Ideal S1x2048 .f32) (s : FVec Ideal S512x2048 .f32) (v v' : Vec Ideal S1x1x512x512 .f32) (k : Fin 512) (c : Fin 2048) :
    k0_pay38 m s (k0_pay37 v) v' (ix3 0 k c) = ex2 (s (ix2 k c) + bcat v v' k c * lg - m (ix2 0 c)) := by
  pointwise [k0_pay38, k0_pay37]
  rw [bcat_eq]

theorem pay42 (m : FVec Ideal S1x2048 .f32) (s : FVec Ideal S512x2048 .f32) (v v' : Vec Ideal S1x1x512x512 .f32) (k : Fin 512) (c : Fin 2048) :
    k0_pay42 m s (k0_pay41 v v') (ix3 0 k c) = ex2 (s (ix2 k c) + bcat v v' k c * lg - m (ix2 0 c)) := by
  pointwise [k0_pay42, k0_pay41]
  rw [bcat_eq]

theorem pay45 (v21 : Vec Ideal S128x2048 .bf16) (m : FVec Ideal S1x2048 .f32) (w : Vec Ideal S1x512x128 .bf16) (v v' : Vec Ideal S1x1x512x512 .f32) (k : Fin 512) (c : Fin 2048) :
    k0_pay45 (k0_pay44 v21 m w v v') (ix3 0 k c) = ex2 (∑ x : Fin 128, w (ix3 0 k x) * v21 (ix2 x c) + bcat v v' k c * lg - m (ix2 0 c)) := by
  pointwise [k0_pay45, k0_pay44]
  rw [bcat_eq]

theorem pay48 (v21 : Vec Ideal S128x2048 .bf16) (lo hi : FVec Ideal S1x2048 .f32) (w : Vec Ideal S1x512x128 .bf16) (b : BitVec 1) (k : Fin 512) (c : Fin 2048) :
    k0_pay48 v21 lo hi b (k0_pay47 w) (constant S512x2048 .f32 0#32) (ix3 0 k c) = ex2 (∑ x : Fin 128, w (ix3 0 k x) * v21 (ix2 x c) - Scalar.select b (lo (ix2 0 c)) (hi (ix2 0 c))) := by
  pointwise [k0_pay48, k0_pay47]

theorem pay51 (v21 : Vec Ideal S128x2048 .bf16) (lo hi : FVec Ideal S1x2048 .f32) (w : Vec Ideal S1x512x128 .bf16) (v34 : BitVec 32) (k : Fin 512) (c : Fin 2048) :
    k0_pay51 v21 v34 lo hi w (ix3 0 k c) = ex2 (∑ x : Fin 128, w (ix3 0 k x) * v21 (ix2 x c) - Scalar.select (Scalar.cmpi .sge (Scalar.addi v34 13#32) 16#32) (lo (ix2 0 c)) (hi (ix2 0 c))) := by
  pointwise [k0_pay51]

theorem pay55 (v21 : Vec Ideal S128x2048 .bf16) (lo hi : FVec Ideal S1x2048 .f32) (w : Vec Ideal S1x512x128 .bf16) (v34 : BitVec 32) (k : Fin 512) (c : Fin 2048) :
    k0_pay55 v21 v34 lo hi w (ix3 0 k c) = ex2 (∑ x : Fin 128, w (ix3 0 k x) * v21 (ix2 x c) - Scalar.select (Scalar.cmpi .sge (Scalar.addi v34 14#32) 16#32) (lo (ix2 0 c)) (hi (ix2 0 c))) := by
  pointwise [k0_pay55]

theorem pay57 (v21 : Vec Ideal S128x2048 .bf16) (lo hi : FVec Ideal S1x2048 .f32) (w : Vec Ideal S1x512x128 .bf16) (v34 : BitVec 32) (k : Fin 512) (c : Fin 2048) :
    k0_pay57 v21 v34 lo hi w (ix3 0 k c) = ex2 (∑ x : Fin 128, w (ix3 0 k x) * v21 (ix2 x c) - Scalar.select (Scalar.cmpi .sge (Scalar.addi v34 15#32) 16#32) (lo (ix2 0 c)) (hi (ix2 0 c))) := by
  pointwise [k0_pay57]

theorem pay39 (v : Vec Ideal S1x1x128x512 .bf16) (P : Vec Ideal S1x512x2048 .bf16) (e : Fin 144) (c : Fin 2048) :
    k0_pay39 v P (ix2 e c) = pvs (fun d x => v (ix4 0 0 d x)) (fun x => P (ix3 0 x c)) e := by
  pointwise [k0_pay39]
  exact halves (n := 0) (fun c => pvs (fun d x => v (ix4 0 0 d x)) (fun x => P (ix3 0 x c)) e) c

theorem pay54 (v : Vec Ideal S1x1x128x512 .bf16) (P : Vec Ideal S1x512x2048 .bf16) (e : Fin 144) (c : Fin 2048) :
    k0_pay54 (k0_pay52 v) (k0_pay53 P) (ix2 e c) = pvs (fun d x => v (ix4 0 0 d x)) (fun x => P (ix3 0 x c)) e := by
  pointwise [k0_pay54, k0_pay52, k0_pay53]
  exact halves (n := 0) (fun c => pvs (fun d x => v (ix4 0 0 d x)) (fun x => P (ix3 0 x c)) e) c

theorem pay43 (a : FVec Ideal S144x2048 .f32) (v : Vec Ideal S1x1x128x512 .bf16) (P : Vec Ideal S1x512x2048 .bf16) (e : Fin 144) (c : Fin 2048) :
    k0_pay43 a v P (ix2 e c) = a (ix2 e c) + pvs (fun d x => v (ix4 0 0 d x)) (fun x => P (ix3 0 x c)) e := by
  pointwise [k0_pay43]
  exact congrArg (a (ix2 e c) + ·) (halves (n := 0) (fun c => pvs (fun d x => v (ix4 0 0 d x)) (fun x => P (ix3 0 x c)) e) c)

theorem pay46 (a : FVec Ideal S144x2048 .f32) (v : Vec Ideal S1x1x128x512 .bf16) (P : Vec Ideal S1x512x2048 .bf16) (e : Fin 144) (c : Fin 2048) :
    k0_pay46 a v P (ix2 e c) = a (ix2 e c) + pvs (fun d x => v (ix4 0 0 d x)) (fun x => P (ix3 0 x c)) e := by
  pointwise [k0_pay46]
  exact congrArg (a (ix2 e c) + ·) (halves (n := 0) (fun c => pvs (fun d x => v (ix4 0 0 d x)) (fun x => P (ix3 0 x c)) e) c)

theorem pay56 (a : FVec Ideal S144x2048 .f32) (v : Vec Ideal S1x1x128x512 .bf16) (P : Vec Ideal S1x512x2048 .bf16) (e : Fin 144) (c : Fin 2048) :
    k0_pay56 a v P (ix2 e c) = a (ix2 e c) + pvs (fun d x => v (ix4 0 0 d x)) (fun x => P (ix3 0 x c)) e := by
  pointwise [k0_pay56]
  exact congrArg (a (ix2 e c) + ·) (halves (n := 0) (fun c => pvs (fun d x => v (ix4 0 0 d x)) (fun x => P (ix3 0 x c)) e) c)

theorem pay49 (a : FVec Ideal S144x2048 .f32) (v : Vec Ideal S1x1x128x512 .bf16) (P : Vec Ideal S1x512x2048 .bf16) (g : Vec Ideal S144x2048 .f32) (e : Fin 144) (c : Fin 2048) :
    k0_pay49 a v P g (ix2 e c) = g (ix2 e c) + (a (ix2 e c) + pvs (fun d x => v (ix4 0 0 d x)) (fun x => P (ix3 0 x c)) e) := by
  pointwise [k0_pay49]
  exact congrArg (fun z => g (ix2 e c) + (a (ix2 e c) + z)) (halves (n := 0) (fun c => pvs (fun d x => v (ix4 0 0 d x)) (fun x => P (ix3 0 x c)) e) c)

theorem pay58 (a : FVec Ideal S144x2048 .f32) (v : Vec Ideal S1x1x128x512 .bf16) (P : Vec Ideal S1x512x2048 .bf16) (v' : Vec Ideal S1x1x128x512 .bf16) (P' : Vec Ideal S1x512x2048 .bf16) (e : Fin 144) (c : Fin 2048) :
    k0_pay58 a v P v' P' (ix2 e c) = a (ix2 e c) + pvs (fun d x => v (ix4 0 0 d x)) (fun x => P (ix3 0 x c)) e + pvs (fun d x => v' (ix4 0 0 d x)) (fun x => P' (ix3 0 x c)) e := by
  pointwise [k0_pay58]
  exact congrArg₂ (fun z z' => a (ix2 e c) + z + z') (halves (n := 0) (fun c => pvs (fun d x => v (ix4 0 0 d x)) (fun x => P (ix3 0 x c)) e) c)
    (halves (n := 0) (fun c => pvs (fun d x => v' (ix4 0 0 d x)) (fun x => P' (ix3 0 x c)) e) c)

theorem pay59 (a : FVec Ideal S144x2048 .f32) (g : Vec Ideal S144x2048 .f32) (e : Fin 144) (c : Fin 2048) :
    k0_pay59 a g (ix2 e c) = g (ix2 e c) + a (ix2 e c) := by
  pointwise [k0_pay59]

theorem pay50 (a : FVec Ideal S144x2048 .f32) (e : Fin 144) (c : Fin 2048) :
    k0_pay50 a (ix2 e c) = a (ix2 e c) := by
  pointwise [k0_pay50]

theorem pay35 (s : FVec Ideal S16x2048 .f32) (m : FVec Ideal S1x2048 .f32) (v : Vec Ideal S1x1x128x16 .bf16) (e : Fin 144) (c : Fin 2048) :
    k0_pay35 (k0_pay32 s m) (k0_pay33 v) (k0_pay34 s m v) (ix2 e c) = pvs (fun d x => v (ix4 0 0 d x)) (fun x => ex2 (s (ix2 x c) - m (ix2 0 c))) e := by
  pointwise [k0_pay35, k0_pay34, k0_pay33, k0_pay32]
  exact halves (n := 0) (fun c => pvs (fun d x => v (ix4 0 0 d x)) (fun x => ex2 (s (ix2 x c) - m (ix2 0 c))) e) c

theorem pay16 (s : FVec Ideal S16x2048 .f32) (m : FVec Ideal S1x2048 .f32) (v : Vec Ideal S1x1x128x16 .bf16) (e : Fin 144) (c : Fin 2048) :
    k0_pay16 s m v (ix2 e c) = pvs (fun d x => v (ix4 0 0 d x)) (fun x => ex2 (s (ix2 x c) - m (ix2 0 c))) e := by
  pointwise [k0_pay16]
  exact halves (n := 0) (fun c => pvs (fun d x => v (ix4 0 0 d x)) (fun x => ex2 (s (ix2 x c) - m (ix2 0 c))) e) c

theorem pay26 (v21 : Vec Ideal S128x2048 .bf16) (b : Vec Ideal S1x16x1024 .f32) (w : Vec Ideal S1x16x128 .bf16) (k : Fin 16) (c : Fin 2048) :
    k0_pay26 v21 b w (ix2 k c) = ∑ x : Fin 128, w (ix3 0 k x) * v21 (ix2 x c) + b (ix3 0 k (col c)) * lg := by
  pointwise [k0_pay26]
  refine congrArg (∑ x : Fin 128, w (ix3 0 k x) * v21 (ix2 x c) + ·) ?_
  split_ifs with h
  · exact congrArg (fun y => b (ix3 0 k y) * lg) (Fin.ext (show c.val = c.val % 1024 by omega))
  · exact congrArg (fun y => b (ix3 0 k y) * lg) (Fin.ext (show c.val - 1024 = c.val % 1024 by omega))
  · exact absurd rfl ‹¬ _›

theorem pay27 (s : FVec Ideal S16x2048 .f32) (c : Fin 2048) :
    k0_pay27 s (ix2 0 c) = Finset.fold max (Ideal.ofBits FTy.f32 4286578688#32) (fun x => s (ix2 x c)) Finset.univ := by
  pointwise [k0_pay27]

theorem pay28 (s : FVec Ideal S16x2048 .f32) (v : Vec Ideal S1x1x1x512 .f32) (c : Fin 2048) :
    k0_pay28 s v (ix2 0 c) = k0_pay27 s (ix2 0 c) - v (ix4 0 0 0 (cl5 c)) * lg := by
  pointwise [k0_pay28]
  rw [row_eq]

theorem pay29 (s : FVec Ideal S16x2048 .f32) (v : Vec Ideal S1x1x1x512 .f32) (c : Fin 2048) :
    k0_pay29 s v (ix2 0 c) = k0_pay27 s (ix2 0 c) - v (ix4 0 0 0 (cl5 c)) * lg := by
  pointwise [k0_pay29]
  rw [row_eq]

theorem pay24 (v : Vec Ideal S1x1x128x1024 .bf16) (d : Fin 128) (p : Fin 1024) :
    k0_pay24 v (ix2 d p) = if d.val < 64 then v (ix4 0 0 d p) * qs else 0 := by
  pointwise [k0_pay24, k0_pay23]
  have h : ∀ d : Fin 128, IntOp.cmpi CmpIPredicate.slt (BitVec.ofNat 32 d.val) 64#32 = if d.val < 64 then 1#1 else 0#1 := by decide
  rw [h d]
  split_ifs <;> rfl

theorem pay25 (v : Vec Ideal S1x1x128x1024 .bf16) (d : Fin 128) (p : Fin 1024) :
    k0_pay25 v (ix2 d p) = if 64 ≤ d.val then v (ix4 0 0 d p) * qs else 0 := by
  pointwise [k0_pay25, k0_pay23]
  have h : ∀ d : Fin 128, IntOp.cmpi CmpIPredicate.sge (BitVec.ofNat 32 d.val) 64#32 = if 64 ≤ d.val then 1#1 else 0#1 := by decide
  rw [h d]
  split_ifs <;> rfl

theorem pay14 (v21 : Vec Ideal S128x2048 .bf16) (w : Vec Ideal S1x512x128 .bf16) (v v' : Vec Ideal S1x1x512x512 .f32) (k : Fin 512) (c : Fin 2048) :
    k0_pay14 v21 w v v' (ix2 k c) = ∑ x : Fin 128, w (ix3 0 k x) * v21 (ix2 x c) + bcat v v' k c * lg := by
  pointwise [k0_pay14]
  rw [bcat_eq]

theorem pay15 (v21 : Vec Ideal S128x2048 .bf16) (w : Vec Ideal S1x512x128 .bf16) (v v' : Vec Ideal S1x1x512x512 .f32) (c : Fin 2048) :
    k0_pay15 v21 w v v' (ix2 0 c) = Finset.fold max (Ideal.ofBits FTy.f32 4286578688#32) (fun x => k0_pay14 v21 w v v' (ix2 x c)) Finset.univ := by
  pointwise [k0_pay15]

theorem pay20 (m : Vec Ideal S1x2048 .f32) (m' : FVec Ideal S1x2048 .f32) (c : Fin 2048) :
    k0_pay20 m m' (ix2 0 c) = max (m (ix2 0 c)) (m' (ix2 0 c)) := by
  pointwise [k0_pay20, k0_pay18]

theorem pay17 (m : FVec Ideal S1x2048 .f32) (c : Fin 2048) :
    k0_pay17 m (ix2 0 c) = m (ix2 0 c) := by
  pointwise [k0_pay17]

theorem pay19 (s : FVec Ideal S512x2048 .f32) (m : Vec Ideal S1x2048 .f32) (m' : FVec Ideal S1x2048 .f32) (a : Vec Ideal S144x2048 .f32) (v : Vec Ideal S1x1x128x512 .bf16) (e : Fin 144) (c : Fin 2048) :
    k0_pay19 s m m' a v (ix2 e c) = ex2 (m (ix2 0 c) - max (m (ix2 0 c)) (m' (ix2 0 c))) * a (ix2 e c)
      + pvs (fun d x => v (ix4 0 0 d x)) (fun x => ex2 (s (ix2 x c) - max (m (ix2 0 c)) (m' (ix2 0 c)))) e := by
  pointwise [k0_pay19, k0_pay18]
  exact congrArg (ex2 (m (ix2 0 c) - max (m (ix2 0 c)) (m' (ix2 0 c))) * a (ix2 e c) + ·)
    (halves (n := 0) (fun c => pvs (fun d x => v (ix4 0 0 d x)) (fun x => ex2 (s (ix2 x c) - max (m (ix2 0 c)) (m' (ix2 0 c)))) e) c)

theorem pay61 (a : Vec Ideal S144x2048 .f32) (l : Elt Ideal .f32) (d : Fin 128) (p : Fin 1024) :
    k0_pay61 a l (ix2 d p) = odiff a l p d := by
  pointwise [k0_pay61, k0_pay60]
  rfl

theorem pay21 (a : Vec Ideal S144x2048 .f32) (l : Elt Ideal .f32) (d : Fin 128) (p : Fin 1024) :
    k0_pay21 a l (ix2 d p) = odiff a l p d := by
  pointwise [k0_pay21]
  rfl

theorem pay1 (a : Vec Ideal S144x2048 .f32) (l : Elt Ideal .f32) (z : Vec Ideal S1x1024x128 .bf16) (g : Vec Ideal S1x128 .f32) (p : Fin 1024) (d : Fin 128) :
    k0_pay1 (k0_pay63 z) (k0_pay64 a l g) (k0_pay65 z) (ix3 0 p d) = fin128 (odiff a l p) (g (ix2 0 d)) (z (ix3 0 p d)) d := by
  pointwise [k0_pay1, k0_pay63, k0_pay64, k0_pay65, k0_pay62]
  simp only [pay61]
  rfl

theorem pay3 (a : Vec Ideal S144x2048 .f32) (l : Elt Ideal .f32) (z : Vec Ideal S1x1024x128 .bf16) (g : Vec Ideal S1x128 .f32) (p : Fin 1024) (d : Fin 128) :
    k0_pay3 (k0_pay21 a l) (k0_pay22 a l) z g (ix3 0 p d) = fin128 (odiff a l p) (g (ix2 0 d)) (z (ix3 0 p d)) d := by
  pointwise [k0_pay3, k0_pay22]
  simp only [pay21]
  rfl

end Cert.AttnV

end
-- ==== Proof.AttnRead.lean ====
/-
  Hand-written, untrusted. The attention's reads: which entries of its blocks the body's moving windows take.
-/
module

public import proofs.«01_k».proof.Proof.AttnPay
public import Idealize.ShloMosaic.Lib.Pipeline.ReadBack
public import Idealize.ShloMosaic.Lib.VecWindow

@[expose] public section

set_option maxRecDepth 16384

noncomputable section

namespace Cert.AttnV

open Cert.KernelIdeal Cert.KernelIdeal.Gen
open Idealize.ShloMosaic Idealize.ShloMosaic.TcCoe

/-- The query block of a grid point. -/
abbrev iq (i : grid0.Coords) : Fin 8 := i 2
/-- The tile of keys taken at place `p` by query block `n`: the tiles are visited from the one before the block on, cyclically. -/
def tl (n : Fin 8) (p : Fin 16) : Fin 16 := ⟨(2 * n.val + p.val + 15) % 16, by omega⟩
/-- The bias tile for tile `j` of keys and half `u` of query block `n`. -/
def bi (n : Fin 8) (j : Fin 16) (u : Fin 2) : Fin 5 := ⟨min 4 (j.val + 2 - (2 * n.val + u.val)), by omega⟩
/-- Row `k` of tile `j`. -/
abbrev rw (j : Fin 16) (k : Fin 512) : Fin 8192 := ⟨512 * j.val + k.val, by omega⟩
/-- The half of the query block that column `c` belongs to. -/
abbrev uh (c : Fin 2048) : Fin 2 := ⟨c.val % 1024 / 512, by omega⟩
/-- The bias of row `k` of tile `j` at column `c`. -/
def bt (v9 : Vec Ideal S1x5x512x512 .f32) (n : Fin 8) (j : Fin 16) (k : Fin 512) (c : Fin 2048) : EReal :=
  v9 (ix4 0 (bi n j (uh c)) k (cl5 c))

abbrev p4 (k : Fin k0_t1_loop.trips) (c : Fin 4) : Fin 16 := ⟨4 * (1 + k.val) + c.val, by
  have h : k.val < 2 := lt_of_lt_of_eq k.isLt (by decide)
  omega⟩
abbrev p5 (k : Fin k0_t1_loop.trips) (c : Fin 4) : Fin 16 := ⟨4 * (1 + k.val) + c.val + 1, by
  have h : k.val < 2 := lt_of_lt_of_eq k.isLt (by decide)
  omega⟩

/-- A grid point of query block `n`. -/
abbrev at3 (n : Fin 8) : grid0.Coords := fun a => match a with
  | ⟨0, _⟩ => (0 : Fin 8)
  | ⟨1, _⟩ => (0 : Fin 4)
  | ⟨2, _⟩ => n

theorem off1_eq (i : grid0.Coords) (p : Fin 16) : k0_off1 i (BitVec.ofNat 32 p.val) = ![0, 512 * (tl (iq i) p).val, 0] := by
  have h : ∀ i : Fin 8, ∀ p : Fin 16, k0_off1 (at3 i) (BitVec.ofNat 32 p.val) = ![0, 512 * (tl i p).val, 0] := by decide +kernel
  exact h (iq i) p

theorem off2_eq (i : grid0.Coords) (p : Fin 4) (u : Fin 2) :
    k0_off2 i (BitVec.ofNat 32 p.val) (BitVec.ofNat 32 u.val) = ![0, (bi (iq i) (tl (iq i) ⟨p.val, by omega⟩) u).val, 0, 0] := by
  have h : ∀ i : Fin 8, ∀ p : Fin 4, ∀ u : Fin 2, k0_off2 (at3 i) (BitVec.ofNat 32 p.val) (BitVec.ofNat 32 u.val)
      = ![0, (bi i (tl i ⟨p.val, by omega⟩) u).val, 0, 0] := by decide +kernel
  exact h (iq i) p u

theorem off3_eq (i : grid0.Coords) (p : Fin 16) : k0_off3 i (BitVec.ofNat 32 p.val) = ![0, (tl (iq i) p).val, 0, 0] := by
  have h : ∀ i : Fin 8, ∀ p : Fin 16, k0_off3 (at3 i) (BitVec.ofNat 32 p.val) = ![0, (tl i p).val, 0, 0] := by decide +kernel
  exact h (iq i) p

theorem off4_eq (i : grid0.Coords) (k : Fin k0_t1_loop.trips) (c : Fin 4) :
    k0_off4 i k (BitVec.ofNat 32 c.val) = ![0, 512 * (tl (iq i) (p5 k c)).val, 0] := by
  have h : ∀ i : Fin 8, ∀ k : Fin k0_t1_loop.trips, ∀ c : Fin 4, k0_off4 (at3 i) k (BitVec.ofNat 32 c.val)
      = ![0, 512 * (tl i (p5 k c)).val, 0] := by decide +kernel
  exact h (iq i) k c

theorem off5_eq (i : grid0.Coords) (k : Fin k0_t1_loop.trips) (c : Fin 4) :
    k0_off5 i k (BitVec.ofNat 32 c.val) = ![0, (tl (iq i) (p4 k c)).val, 0, 0] := by
  have h : ∀ i : Fin 8, ∀ k : Fin k0_t1_loop.trips, ∀ c : Fin 4, k0_off5 (at3 i) k (BitVec.ofNat 32 c.val)
      = ![0, (tl i (p4 k c)).val, 0, 0] := by decide +kernel
  exact h (iq i) k c

abbrev tj (k : Fin k0_t2_loop.trips) : Fin 16 := ⟨k.val, lt_of_lt_of_eq k.isLt (by decide)⟩

theorem off7_eq (i : grid0.Coords) (k : Fin k0_t2_loop.trips) (u : Fin 2) :
    k0_off7 i k (BitVec.ofNat 32 u.val) = ![0, (bi (iq i) (tj k) u).val, 0, 0] := by
  have h : ∀ i : Fin 8, ∀ k : Fin k0_t2_loop.trips, ∀ u : Fin 2, k0_off7 (at3 i) k (BitVec.ofNat 32 u.val)
      = ![0, (bi i (tj k) u).val, 0, 0] := by decide +kernel
  exact h (iq i) k u

section Reads

variable (arg3 : Memref sig .tc .smem S1 .f32) (arg4 : Memref sig .tc .vmem S1x1x128x1024 .bf16) (arg5 : Memref sig .tc .vmem S1x8192x128 .bf16)
  (arg6 : Memref sig .tc .vmem S1x16x128x512 .bf16) (arg9 : Memref sig .tc .vmem S1x5x512x512 .f32)

theorem rd5 (x5 : BufTy.Contents (Elt Ideal) arg5.view.ty) {off : Fin 3 → Nat} (inb) (j : Fin 16) (h : off = ![0, 512 * j.val, 0]) (k : Fin 512) (x : Fin 128) :
    arg5.view.readAt (Elt Ideal) (Rect.unit (s := S1x8192x128) off S1x512x128.size inb).toLoadRect x5 (ix3 0 k x) = arg5.view.read (Elt Ideal) x5 (ix3 0 (rw j k) x) := by
  subst h
  refine congrArg (arg5.view.read (Elt Ideal) x5) (funext fun a => Fin.ext ?_)
  match a with
  | ⟨0, _⟩ => rfl
  | ⟨1, _⟩ => show 512 * j.val + 1 * k.val = 512 * j.val + k.val; omega
  | ⟨2, _⟩ => show 0 + 1 * x.val = x.val; omega

theorem rd6 (x6 : BufTy.Contents (Elt Ideal) arg6.view.ty) {off : Fin 4 → Nat} (inb) (j : Fin 16) (h : off = ![0, j.val, 0, 0]) (d : Fin 128) (x : Fin 512) :
    arg6.view.readAt (Elt Ideal) (Rect.unit (s := S1x16x128x512) off S1x1x128x512.size inb).toLoadRect x6 (ix4 0 0 d x) = arg6.view.read (Elt Ideal) x6 (ix4 0 j d x) := by
  subst h
  refine congrArg (arg6.view.read (Elt Ideal) x6) (funext fun a => Fin.ext ?_)
  match a with
  | ⟨0, _⟩ => rfl
  | ⟨1, _⟩ => show j.val + 1 * 0 = j.val; omega
  | ⟨2, _⟩ => show 0 + 1 * d.val = d.val; omega
  | ⟨3, _⟩ => show 0 + 1 * x.val = x.val; omega

theorem rd9 (x9 : BufTy.Contents (Elt Ideal) arg9.view.ty) {off : Fin 4 → Nat} (inb) (j : Fin 5) (h : off = ![0, j.val, 0, 0]) (d : Fin 512) (x : Fin 512) :
    arg9.view.readAt (Elt Ideal) (Rect.unit (s := S1x5x512x512) off S1x1x512x512.size inb).toLoadRect x9 (ix4 0 0 d x) = arg9.view.read (Elt Ideal) x9 (ix4 0 j d x) := by
  subst h
  refine congrArg (arg9.view.read (Elt Ideal) x9) (funext fun a => Fin.ext ?_)
  match a with
  | ⟨0, _⟩ => rfl
  | ⟨1, _⟩ => show j.val + 1 * 0 = j.val; omega
  | ⟨2, _⟩ => show 0 + 1 * d.val = d.val; omega
  | ⟨3, _⟩ => show 0 + 1 * x.val = x.val; omega

theorem rd9row (x9 : BufTy.Contents (Elt Ideal) arg9.view.ty) {off : Fin 4 → Nat} (inb) (j : Fin 5) (h : off = ![0, j.val, 0, 0]) (x : Fin 512) :
    arg9.view.readAt (Elt Ideal) (Rect.unit (s := S1x5x512x512) off S1x1x1x512.size inb).toLoadRect x9 (ix4 0 0 0 x) = arg9.view.read (Elt Ideal) x9 (ix4 0 j 0 x) := by
  subst h
  refine congrArg (arg9.view.read (Elt Ideal) x9) (funext fun a => Fin.ext ?_)
  match a with
  | ⟨0, _⟩ => rfl
  | ⟨1, _⟩ => show j.val + 1 * 0 = j.val; omega
  | ⟨2, _⟩ => rfl
  | ⟨3, _⟩ => show 0 + 1 * x.val = x.val; omega

theorem rdbt (x9 : BufTy.Contents (Elt Ideal) arg9.view.ty) {off off' : Fin 4 → Nat} (inb inb') (n : Fin 8) (j : Fin 16)
    (h : off = ![0, (bi n j 0).val, 0, 0]) (h' : off' = ![0, (bi n j 1).val, 0, 0]) (k : Fin 512) (c : Fin 2048) :
    bcat (arg9.view.readAt (Elt Ideal) (Rect.unit (s := S1x5x512x512) off S1x1x512x512.size inb).toLoadRect x9)
      (arg9.view.readAt (Elt Ideal) (Rect.unit (s := S1x5x512x512) off' S1x1x512x512.size inb').toLoadRect x9) k c = bt (arg9.view.read (Elt Ideal) x9) n j k c := by
  unfold bcat bt
  split_ifs with hc
  · rw [rd9 arg9 x9 inb _ h, show uh c = 0 from Fin.ext (show c.val % 1024 / 512 = 0 by omega)]
  · rw [rd9 arg9 x9 inb' _ h', show uh c = 1 from Fin.ext (show c.val % 1024 / 512 = 1 by omega)]

end Reads

end Cert.AttnV
-- ==== Proof.AttnTrip.lean ====
/-
  Hand-written, untrusted. One trip of the attention's loop over the key tiles away from the diagonal: the weights it writes and what
  it adds to the accumulator.
-/
module

public import proofs.«01_k».proof.Proof.AttnRead

@[expose] public section

set_option maxRecDepth 16384

noncomputable section

namespace Cert.AttnV

open Cert.KernelIdeal Cert.KernelIdeal.Gen Cert.AttnA
open Idealize.ShloMosaic Idealize.ShloMosaic.TcCoe

/-- The score of row `k` of tile `j` at column `c`, before the bias. -/
def raw (Q : Vec Ideal S128x2048 .bf16) (v5 : Vec Ideal S1x8192x128 .bf16) (j : Fin 16) (k : Fin 512) (c : Fin 2048) : EReal :=
  ∑ x : Fin 128, v5 (ix3 0 (rw j k) x) * Q (ix2 x c)

/-- The weight of row `k` of the tile at place `p`, away from the diagonal: one shift for the tiles before the block, one for those after. -/
def far (Q : Vec Ideal S128x2048 .bf16) (lo hi : FVec Ideal S1x2048 .f32) (v5 : Vec Ideal S1x8192x128 .bf16) (n : Fin 8) (p : Fin 16) (k : Fin 512) (c : Fin 2048) : EReal :=
  ex2 (raw Q v5 (tl n p) k c - if 17 ≤ 2 * n.val + p.val then lo (ix2 0 c) else hi (ix2 0 c))

/-- The weights of a tile as one array. -/
def farV (Q : Vec Ideal S128x2048 .bf16) (lo hi : FVec Ideal S1x2048 .f32) (v5 : Vec Ideal S1x8192x128 .bf16) (n : Fin 8) (p : Fin 16) : Vec Ideal S1x512x2048 .bf16 :=
  fun y => far Q lo hi v5 n p (y 1) (y 2)

/-- What the tile at place `p` adds to the accumulator under the weights `P`. -/
def addT (v6 : Vec Ideal S1x16x128x512 .bf16) (n : Fin 8) (p : Fin 16) (P : Vec Ideal S1x512x2048 .bf16) (e : Fin 144) (c : Fin 2048) : EReal :=
  pvs (fun d x => v6 (ix4 0 (tl n p) d x)) (fun x => P (ix3 0 x c)) e

theorem sel_ite (P : Prop) [Decidable P] (a b : EReal) : Scalar.select (if P then 1#1 else 0#1) a b = if P then a else b := by
  split_ifs <;> rfl

theorem ext3 {f g : Vec Ideal S1x512x2048 .bf16} (h : ∀ (k : Fin 512) (c : Fin 2048), f (ix3 0 k c) = g (ix3 0 k c)) : f = g := by
  funext y
  obtain ⟨a, k, c, rfl⟩ : ∃ (a : Fin 1) (k : Fin 512) (c : Fin 2048), y = ix3 a k c := ⟨y 0, y 1, y 2, eq_ix3 y⟩
  obtain rfl := Fin.eq_zero a
  exact h k c

section Trip

variable (i : grid0.Coords) (arg5 : Memref sig .tc .vmem S1x8192x128 .bf16) (arg6 : Memref sig .tc .vmem S1x16x128x512 .bf16)
  (arg16 : Memref sig .tc .vmem S144x2048 .f32) (arg17 : Memref sig .tc .vmem S2x512x2048 .bf16)
  (Q : Vec Ideal S128x2048 .bf16) (lo hi : FVec Ideal S1x2048 .f32)
  (x5 : BufTy.Contents (Elt Ideal) arg5.view.ty) (x6 : BufTy.Contents (Elt Ideal) arg6.view.ty) (k : Fin k0_t1_loop.trips)
  (f16 : BufTy.Contents (Elt Ideal) arg16.view.ty) (f17 : BufTy.Contents (Elt Ideal) arg17.view.ty)

theorem v561_eq : trip_k0_t1.sl.v561 (headRun.sl.v34 i) 1#32 k = if 17 ≤ 2 * (iq i).val + (p5 k 0).val then 1#1 else 0#1 := by
  have h : ∀ i : Fin 8, ∀ k : Fin k0_t1_loop.trips, trip_k0_t1.sl.v561 (headRun.sl.v34 (at3 i)) 1#32 k = if 17 ≤ 2 * i.val + (p5 k 0).val then 1#1 else 0#1 := by
    decide +kernel
  exact h (iq i) k

theorem v580_eq : (trip_k0_t1.sl.v580 i arg5 Q (headRun.sl.v34 i) lo hi 1#32 x5 k) = farV Q lo hi (arg5.view.read (Elt Ideal) x5) (iq i) (p5 k 0) := by
  refine ext3 fun r c => ?_
  pointwise [trip_k0_t1.sl.v580, trip_k0_t1.sl.v577, trip_k0_t1.sl.v576, trip_k0_t1.sl.v575, trip_k0_t1.sl.v574, trip_k0_t1.sl.v573, trip_k0_t1.sl.v572, trip_k0_t1.sl.cst_360, trip_k0_t1.sl.v571]
  rw [v561_eq, sel_ite]
  exact congrArg (fun z => ex2 (z - if 17 ≤ 2 * (iq i).val + (p5 k 0).val then lo (ix2 0 c) else hi (ix2 0 c)))
    (Finset.sum_congr rfl fun x _ => congrArg (· * Q (ix2 x c)) (rd5 arg5 x5 (k0_off4_inb i k 0) _ (off4_eq i k 0) r x))

theorem v604_eq : trip_k0_t1.sl.v604 (headRun.sl.v34 i) 1#32 k = if 17 ≤ 2 * (iq i).val + (p5 k 1).val then 1#1 else 0#1 := by
  have h : ∀ i : Fin 8, ∀ k : Fin k0_t1_loop.trips, trip_k0_t1.sl.v604 (headRun.sl.v34 (at3 i)) 1#32 k = if 17 ≤ 2 * i.val + (p5 k 1).val then 1#1 else 0#1 := by
    decide +kernel
  exact h (iq i) k

theorem v623_eq : (trip_k0_t1.sl.v623 i arg5 Q (headRun.sl.v34 i) lo hi 1#32 x5 k) = farV Q lo hi (arg5.view.read (Elt Ideal) x5) (iq i) (p5 k 1) := by
  refine ext3 fun r c => ?_
  pointwise [trip_k0_t1.sl.v623, trip_k0_t1.sl.v620, trip_k0_t1.sl.v619, trip_k0_t1.sl.v618, trip_k0_t1.sl.v617, trip_k0_t1.sl.v616, trip_k0_t1.sl.v615, trip_k0_t1.sl.cst_360, trip_k0_t1.sl.v614]
  rw [v604_eq, sel_ite]
  exact congrArg (fun z => ex2 (z - if 17 ≤ 2 * (iq i).val + (p5 k 1).val then lo (ix2 0 c) else hi (ix2 0 c)))
    (Finset.sum_congr rfl fun x _ => congrArg (· * Q (ix2 x c)) (rd5 arg5 x5 (k0_off4_inb i k 1) _ (off4_eq i k 1) r x))

theorem v648_eq : trip_k0_t1.sl.v648 (headRun.sl.v34 i) 1#32 k = if 17 ≤ 2 * (iq i).val + (p5 k 2).val then 1#1 else 0#1 := by
  have h : ∀ i : Fin 8, ∀ k : Fin k0_t1_loop.trips, trip_k0_t1.sl.v648 (headRun.sl.v34 (at3 i)) 1#32 k = if 17 ≤ 2 * i.val + (p5 k 2).val then 1#1 else 0#1 := by
    decide +kernel
  exact h (iq i) k

theorem v667_eq : (trip_k0_t1.sl.v667 i arg5 Q (headRun.sl.v34 i) lo hi 1#32 x5 k) = farV Q lo hi (arg5.view.read (Elt Ideal) x5) (iq i) (p5 k 2) := by
  refine ext3 fun r c => ?_
  pointwise [trip_k0_t1.sl.v667, trip_k0_t1.sl.v664, trip_k0_t1.sl.v663, trip_k0_t1.sl.v662, trip_k0_t1.sl.v661, trip_k0_t1.sl.v660, trip_k0_t1.sl.v659, trip_k0_t1.sl.cst_360, trip_k0_t1.sl.v658]
  rw [v648_eq, sel_ite]
  exact congrArg (fun z => ex2 (z - if 17 ≤ 2 * (iq i).val + (p5 k 2).val then lo (ix2 0 c) else hi (ix2 0 c)))
    (Finset.sum_congr rfl fun x _ => congrArg (· * Q (ix2 x c)) (rd5 arg5 x5 (k0_off4_inb i k 2) _ (off4_eq i k 2) r x))

theorem v692_eq : trip_k0_t1.sl.v692 (headRun.sl.v34 i) 1#32 k = if 17 ≤ 2 * (iq i).val + (p5 k 3).val then 1#1 else 0#1 := by
  have h : ∀ i : Fin 8, ∀ k : Fin k0_t1_loop.trips, trip_k0_t1.sl.v692 (headRun.sl.v34 (at3 i)) 1#32 k = if 17 ≤ 2 * i.val + (p5 k 3).val then 1#1 else 0#1 := by
    decide +kernel
  exact h (iq i) k

theorem v711_eq : (trip_k0_t1.sl.v711 i arg5 Q (headRun.sl.v34 i) lo hi 1#32 x5 k) = farV Q lo hi (arg5.view.read (Elt Ideal) x5) (iq i) (p5 k 3) := by
  refine ext3 fun r c => ?_
  pointwise [trip_k0_t1.sl.v711, trip_k0_t1.sl.v708, trip_k0_t1.sl.v707, trip_k0_t1.sl.v706, trip_k0_t1.sl.v705, trip_k0_t1.sl.v704, trip_k0_t1.sl.v703, trip_k0_t1.sl.cst_360, trip_k0_t1.sl.v702, trip_k0_t1.sl.r]
  rw [v692_eq, sel_ite]
  exact congrArg (fun z => ex2 (z - if 17 ≤ 2 * (iq i).val + (p5 k 3).val then lo (ix2 0 c) else hi (ix2 0 c)))
    (Finset.sum_congr rfl fun x _ => congrArg (· * Q (ix2 x c)) (rd5 arg5 x5 (k0_off4_inb i k 3) _ (off4_eq i k 3) r x))

theorem add_eq {off : Fin 4 → Nat} (inb) (n : Fin 8) (p : Fin 16) (h : off = ![0, (tl n p).val, 0, 0]) (P : Vec Ideal S1x512x2048 .bf16) (e : Fin 144) (c : Fin 2048) :
    k0_pay39 (arg6.view.readAt (Elt Ideal) (Rect.unit (s := S1x16x128x512) off S1x1x128x512.size inb).toLoadRect x6) P (ix2 e c)
      = addT (arg6.view.read (Elt Ideal) x6) n p P e c := by
  rw [pay39]
  simp only [rd6 arg6 x6 inb _ h]
  rfl

theorem v599_eq (e : Fin 144) (c : Fin 2048) : (trip_k0_t1.sl.v599 i arg6 arg17 x6 k f17) (ix2 e c) = addT (arg6.view.read (Elt Ideal) x6) (iq i) (p4 k 0) (trip_k0_t1.sl.v591 arg17 f17) e c := by
  have h : (trip_k0_t1.sl.v599 i arg6 arg17 x6 k f17) = k0_pay39 (arg6.view.readAt (Elt Ideal) (Rect.unit (s := S1x16x128x512) (k0_off5 i k 0#32) S1x1x128x512.size (k0_off5_inb i k 0)).toLoadRect x6) (trip_k0_t1.sl.v591 arg17 f17) := by
    unfold trip_k0_t1.sl.v599 trip_k0_t1.sl.v598 trip_k0_t1.sl.cst_375 trip_k0_t1.sl.v597 trip_k0_t1.sl.v592 trip_k0_t1.sl.v594 trip_k0_t1.sl.v593 trip_k0_t1.sl.cst_374 trip_k0_t1.sl.v590 trip_k0_t1.sl.v596 trip_k0_t1.sl.v595 k0_pay39
    rfl
  rw [h]
  exact add_eq arg6 x6 _ _ _ (off5_eq i k 0) _ e c

theorem v634_eq : (trip_k0_t1.sl.v634 i arg5 arg17 Q (headRun.sl.v34 i) lo hi 1#32 x5 k) = farV Q lo hi (arg5.view.read (Elt Ideal) x5) (iq i) (p5 k 0) := by
  unfold trip_k0_t1.sl.v634 trip_k0_t1.sl.HW_arg17_2
  rw [View.readCov_skip _ _ _ _ _ (by decide +kernel), View.readCov_cons_toLoadRect, v580_eq]

theorem v642_eq (e : Fin 144) (c : Fin 2048) : (trip_k0_t1.sl.v642 i arg5 arg6 arg17 Q (headRun.sl.v34 i) lo hi 1#32 x5 x6 k) (ix2 e c) = addT (arg6.view.read (Elt Ideal) x6) (iq i) (p4 k 1) (trip_k0_t1.sl.v634 i arg5 arg17 Q (headRun.sl.v34 i) lo hi 1#32 x5 k) e c := by
  have h : (trip_k0_t1.sl.v642 i arg5 arg6 arg17 Q (headRun.sl.v34 i) lo hi 1#32 x5 x6 k) = k0_pay39 (arg6.view.readAt (Elt Ideal) (Rect.unit (s := S1x16x128x512) (k0_off5 i k 1#32) S1x1x128x512.size (k0_off5_inb i k 1)).toLoadRect x6) (trip_k0_t1.sl.v634 i arg5 arg17 Q (headRun.sl.v34 i) lo hi 1#32 x5 k) := by
    unfold trip_k0_t1.sl.v642 trip_k0_t1.sl.v641 trip_k0_t1.sl.cst_375 trip_k0_t1.sl.v640 trip_k0_t1.sl.v635 trip_k0_t1.sl.v637 trip_k0_t1.sl.v593 trip_k0_t1.sl.cst_374 trip_k0_t1.sl.v633 trip_k0_t1.sl.v639 trip_k0_t1.sl.v638 k0_pay39
    rfl
  rw [h]
  exact add_eq arg6 x6 _ _ _ (off5_eq i k 1) _ e c

theorem v678_eq : (trip_k0_t1.sl.v678 i arg5 arg17 Q (headRun.sl.v34 i) lo hi 1#32 x5 k) = farV Q lo hi (arg5.view.read (Elt Ideal) x5) (iq i) (p5 k 1) := by
  unfold trip_k0_t1.sl.v678 trip_k0_t1.sl.HW_arg17_3 trip_k0_t1.sl.HW_arg17_2
  rw [View.readCov_skip _ _ _ _ _ (by decide +kernel), View.readCov_cons_toLoadRect, v623_eq]

theorem v686_eq (e : Fin 144) (c : Fin 2048) : (trip_k0_t1.sl.v686 i arg5 arg6 arg17 Q (headRun.sl.v34 i) lo hi 1#32 x5 x6 k) (ix2 e c) = addT (arg6.view.read (Elt Ideal) x6) (iq i) (p4 k 2) (trip_k0_t1.sl.v678 i arg5 arg17 Q (headRun.sl.v34 i) lo hi 1#32 x5 k) e c := by
  have h : (trip_k0_t1.sl.v686 i arg5 arg6 arg17 Q (headRun.sl.v34 i) lo hi 1#32 x5 x6 k) = k0_pay39 (arg6.view.readAt (Elt Ideal) (Rect.unit (s := S1x16x128x512) (k0_off5 i k 2#32) S1x1x128x512.size (k0_off5_inb i k 2)).toLoadRect x6) (trip_k0_t1.sl.v678 i arg5 arg17 Q (headRun.sl.v34 i) lo hi 1#32 x5 k) := by
    unfold trip_k0_t1.sl.v686 trip_k0_t1.sl.v685 trip_k0_t1.sl.cst_375 trip_k0_t1.sl.v684 trip_k0_t1.sl.v679 trip_k0_t1.sl.v681 trip_k0_t1.sl.v593 trip_k0_t1.sl.cst_374 trip_k0_t1.sl.v677 trip_k0_t1.sl.v683 trip_k0_t1.sl.v682 k0_pay39
    rfl
  rw [h]
  exact add_eq arg6 x6 _ _ _ (off5_eq i k 2) _ e c

theorem v722_eq : (trip_k0_t1.sl.v722 i arg5 arg17 Q (headRun.sl.v34 i) lo hi 1#32 x5 k) = farV Q lo hi (arg5.view.read (Elt Ideal) x5) (iq i) (p5 k 2) := by
  unfold trip_k0_t1.sl.v722 trip_k0_t1.sl.HW_arg17_4 trip_k0_t1.sl.HW_arg17_3 trip_k0_t1.sl.HW_arg17_2
  rw [View.readCov_skip _ _ _ _ _ (by decide +kernel), View.readCov_cons_toLoadRect, v667_eq]

theorem v730_eq (e : Fin 144) (c : Fin 2048) : (trip_k0_t1.sl.v730 i arg5 arg6 arg17 Q (headRun.sl.v34 i) lo hi 1#32 x5 x6 k) (ix2 e c) = addT (arg6.view.read (Elt Ideal) x6) (iq i) (p4 k 3) (trip_k0_t1.sl.v722 i arg5 arg17 Q (headRun.sl.v34 i) lo hi 1#32 x5 k) e c := by
  have h : (trip_k0_t1.sl.v730 i arg5 arg6 arg17 Q (headRun.sl.v34 i) lo hi 1#32 x5 x6 k) = k0_pay39 (arg6.view.readAt (Elt Ideal) (Rect.unit (s := S1x16x128x512) (k0_off5 i k 3#32) S1x1x128x512.size (k0_off5_inb i k 3)).toLoadRect x6) (trip_k0_t1.sl.v722 i arg5 arg17 Q (headRun.sl.v34 i) lo hi 1#32 x5 k) := by
    unfold trip_k0_t1.sl.v730 trip_k0_t1.sl.v729 trip_k0_t1.sl.cst_375 trip_k0_t1.sl.v728 trip_k0_t1.sl.v723 trip_k0_t1.sl.v725 trip_k0_t1.sl.v593 trip_k0_t1.sl.cst_374 trip_k0_t1.sl.v721 trip_k0_t1.sl.v727 trip_k0_t1.sl.v726 k0_pay39
    rfl
  rw [h]
  exact add_eq arg6 x6 _ _ _ (off5_eq i k 3) _ e c

theorem v733_eq (e : Fin 144) (c : Fin 2048) : (trip_k0_t1.sl.v733 i arg5 arg6 arg16 arg17 Q (headRun.sl.v34 i) lo hi 1#32 x5 x6 k f16 f17) (ix2 e c)
    = arg16.view.readAt (Elt Ideal) (Rect.unit (s := S144x2048) ![0, 0] S144x2048.size inb_S144x2048_S144x2048_0_0).toLoadRect f16 (ix2 e c)
      + (addT (arg6.view.read (Elt Ideal) x6) (iq i) (p4 k 0) (trip_k0_t1.sl.v591 arg17 f17) e c
        + addT (arg6.view.read (Elt Ideal) x6) (iq i) (p4 k 1) (farV Q lo hi (arg5.view.read (Elt Ideal) x5) (iq i) (p5 k 0)) e c
        + addT (arg6.view.read (Elt Ideal) x6) (iq i) (p4 k 2) (farV Q lo hi (arg5.view.read (Elt Ideal) x5) (iq i) (p5 k 1)) e c
        + addT (arg6.view.read (Elt Ideal) x6) (iq i) (p4 k 3) (farV Q lo hi (arg5.view.read (Elt Ideal) x5) (iq i) (p5 k 2)) e c) := by
  unfold trip_k0_t1.sl.v733 trip_k0_t1.sl.v731 trip_k0_t1.sl.v687 trip_k0_t1.sl.v643
  rw [addf_apply, addf_apply, addf_apply, addf_apply, v599_eq, v642_eq, v686_eq, v730_eq, v634_eq, v678_eq, v722_eq]
  rfl

end Trip

end Cert.AttnV
-- ==== Proof.AttnLoop.lean ====
/-
  Hand-written, untrusted. The attention's loop over the key tiles away from the diagonal, both trips: what it leaves in the
  accumulator and in the weights' buffer.
-/
module

public import proofs.«01_k».proof.Proof.AttnTrip
public import Idealize.ShloMosaic.Lib.WritesUnit

@[expose] public section

set_option maxRecDepth 16384

noncomputable section

namespace Cert.AttnV

open Cert.KernelIdeal Cert.KernelIdeal.Gen Cert.AttnA
open Idealize.ShloMosaic Idealize.ShloMosaic.TcCoe

/-- A load through the last store's own window reads what was stored. -/
theorem readAt_last {κ : Kind} {sp : Space} {s : Shape} {e : EltTy} (v : View sig κ sp s e) (f : BufTy.Contents (Elt Ideal) v.ty)
    {off size : Fin s.rank → Nat} (inb : ∀ a, off a + size a ≤ s.size a) (w : (Rect.unit off size inb).shape.Idx → Elt Ideal e)
    (L : List (View.Piece (Elt Ideal) s e)) :
    v.readAt (Elt Ideal) (Rect.unit off size inb).toLoadRect (v.writes (Elt Ideal) f (⟨Rect.unit off size inb, w⟩ :: L)) = w :=
  funext fun j => View.read_writes_cons_unit_of_mem v f inb w L _ j rfl (fun a => by
    show off a + 1 * (j a).val = off a + (j a).val
    omega)

abbrev k0 : Fin k0_t1_loop.trips := ⟨0, by decide⟩
abbrev k1 : Fin k0_t1_loop.trips := ⟨1, by decide⟩

section Loop

variable (dv : Dev nD) (i : grid0.Coords) (arg3 : Memref sig .tc .smem S1 .f32) (harg3 : arg3.IsWhole) (arg4 : Memref sig .tc .vmem S1x1x128x1024 .bf16) (harg4 : arg4.IsWhole) (arg5 : Memref sig .tc .vmem S1x8192x128 .bf16) (harg5 : arg5.IsWhole) (arg6 : Memref sig .tc .vmem S1x16x128x512 .bf16) (harg6 : arg6.IsWhole) (arg7 : Memref sig .tc .vmem S1x16x128 .bf16) (harg7 : arg7.IsWhole) (arg8 : Memref sig .tc .vmem S1x1x128x16 .bf16) (harg8 : arg8.IsWhole) (arg9 : Memref sig .tc .vmem S1x5x512x512 .f32) (harg9 : arg9.IsWhole) (arg10 : Memref sig .tc .vmem S1x16x1024 .f32) (harg10 : arg10.IsWhole) (arg11 : Memref sig .tc .vmem S1x1024x128 .bf16) (harg11 : arg11.IsWhole) (arg12 : Memref sig .tc .vmem S1x128 .f32) (harg12 : arg12.IsWhole) (arg13 : Memref sig .tc .vmem S1x1024x128 .bf16) (harg13 : arg13.IsWhole) (arg14 : Memref sig .tc .vmem S128x2048 .bf16) (harg14 : arg14.IsWhole) (arg15 : Memref sig .tc .vmem S1x2048 .f32) (harg15 : arg15.IsWhole) (arg16 : Memref sig .tc .vmem S144x2048 .f32) (harg16 : arg16.IsWhole) (arg17 : Memref sig .tc .vmem S2x512x2048 .bf16) (harg17 : arg17.IsWhole)
  (Q : Vec Ideal S128x2048 .bf16) (lo hi : FVec Ideal S1x2048 .f32)
  (x5 : BufTy.Contents (Elt Ideal) arg5.view.ty) (x6 : BufTy.Contents (Elt Ideal) arg6.view.ty)

theorem tripL_eq (k : Fin k0_t1_loop.trips) (f16 : BufTy.Contents (Elt Ideal) arg16.view.ty) (f17 : BufTy.Contents (Elt Ideal) arg17.view.ty) :
    tripL_k0_t1 (F := Ideal) Variants.none dv none i arg3 harg3 arg4 harg4 arg5 harg5 arg6 harg6 arg7 harg7 arg8 harg8 arg9 harg9 arg10 harg10 arg11 harg11 arg12 harg12 arg13 harg13 arg14 harg14 arg15 harg15 arg16 harg16 arg17 harg17 Q (headRun.sl.v34 i) lo hi 1#32 x5 x6 k f16 f17 = ([⟨(Rect.unit (s := S144x2048) ![0, 0] S144x2048.size inb_S144x2048_S144x2048_0_0), k0_pay50 (trip_k0_t1.sl.v733 i arg5 arg6 arg16 arg17 Q (headRun.sl.v34 i) lo hi 1#32 x5 x6 k f16 f17)⟩], trip_k0_t1.sl.HW_arg17_4 i arg5 Q (headRun.sl.v34 i) lo hi 1#32 x5 k) := by
  unfold tripL_k0_t1 trip_k0_t1
  rfl

theorem pb_eq (G16 : BufTy.Contents (Elt Ideal) arg16.view.ty) (G17 : BufTy.Contents (Elt Ideal) arg17.view.ty) :
    pb_k0_t1 (F := Ideal) Variants.none dv none i arg3 harg3 arg4 harg4 arg5 harg5 arg6 harg6 arg7 harg7 arg8 harg8 arg9 harg9 arg10 harg10 arg11 harg11 arg12 harg12 arg13 harg13 arg14 harg14 arg15 harg15 arg16 harg16 arg17 harg17 Q (headRun.sl.v34 i) lo hi 1#32 x5 x6 G16 G17 2
      = (⟨(Rect.unit (s := S144x2048) ![0, 0] S144x2048.size inb_S144x2048_S144x2048_0_0), k0_pay50 (trip_k0_t1.sl.v733 i arg5 arg6 arg16 arg17 Q (headRun.sl.v34 i) lo hi 1#32 x5 x6 k1
            (arg16.view.writes (Elt Ideal) G16 [⟨(Rect.unit (s := S144x2048) ![0, 0] S144x2048.size inb_S144x2048_S144x2048_0_0), k0_pay50 (trip_k0_t1.sl.v733 i arg5 arg6 arg16 arg17 Q (headRun.sl.v34 i) lo hi 1#32 x5 x6 k0 G16 G17)⟩])
            (arg17.view.writes (Elt Ideal) G17 (trip_k0_t1.sl.HW_arg17_4 i arg5 Q (headRun.sl.v34 i) lo hi 1#32 x5 k0)))⟩
          :: [⟨(Rect.unit (s := S144x2048) ![0, 0] S144x2048.size inb_S144x2048_S144x2048_0_0), k0_pay50 (trip_k0_t1.sl.v733 i arg5 arg6 arg16 arg17 Q (headRun.sl.v34 i) lo hi 1#32 x5 x6 k0 G16 G17)⟩],
        trip_k0_t1.sl.HW_arg17_4 i arg5 Q (headRun.sl.v34 i) lo hi 1#32 x5 k1 ++ trip_k0_t1.sl.HW_arg17_4 i arg5 Q (headRun.sl.v34 i) lo hi 1#32 x5 k0) := by
  have h0 : pb_k0_t1 (F := Ideal) Variants.none dv none i arg3 harg3 arg4 harg4 arg5 harg5 arg6 harg6 arg7 harg7 arg8 harg8 arg9 harg9 arg10 harg10 arg11 harg11 arg12 harg12 arg13 harg13 arg14 harg14 arg15 harg15 arg16 harg16 arg17 harg17 Q (headRun.sl.v34 i) lo hi 1#32 x5 x6 G16 G17 0 = ([], []) := by rw [pb_k0_t1.eq_1]
  have h1 : pb_k0_t1 (F := Ideal) Variants.none dv none i arg3 harg3 arg4 harg4 arg5 harg5 arg6 harg6 arg7 harg7 arg8 harg8 arg9 harg9 arg10 harg10 arg11 harg11 arg12 harg12 arg13 harg13 arg14 harg14 arg15 harg15 arg16 harg16 arg17 harg17 Q (headRun.sl.v34 i) lo hi 1#32 x5 x6 G16 G17 1 = ([⟨(Rect.unit (s := S144x2048) ![0, 0] S144x2048.size inb_S144x2048_S144x2048_0_0), k0_pay50 (trip_k0_t1.sl.v733 i arg5 arg6 arg16 arg17 Q (headRun.sl.v34 i) lo hi 1#32 x5 x6 k0 G16 G17)⟩], trip_k0_t1.sl.HW_arg17_4 i arg5 Q (headRun.sl.v34 i) lo hi 1#32 x5 k0) := by
    refine (pb_k0_t1_succ (F := Ideal) Variants.none dv none i arg3 harg3 arg4 harg4 arg5 harg5 arg6 harg6 arg7 harg7 arg8 harg8 arg9 harg9 arg10 harg10 arg11 harg11 arg12 harg12 arg13 harg13 arg14 harg14 arg15 harg15 arg16 harg16 arg17 harg17 Q (headRun.sl.v34 i) lo hi 1#32 x5 x6 G16 G17 k0).trans ?_
    rw [show (k0 : Fin k0_t1_loop.trips).val = 0 from rfl, h0, tripL_eq]
    simp only [List.append_nil]
    rfl
  refine (pb_k0_t1_succ (F := Ideal) Variants.none dv none i arg3 harg3 arg4 harg4 arg5 harg5 arg6 harg6 arg7 harg7 arg8 harg8 arg9 harg9 arg10 harg10 arg11 harg11 arg12 harg12 arg13 harg13 arg14 harg14 arg15 harg15 arg16 harg16 arg17 harg17 Q (headRun.sl.v34 i) lo hi 1#32 x5 x6 G16 G17 k1).trans ?_
  rw [show (k1 : Fin k0_t1_loop.trips).val = 1 from rfl, h1, tripL_eq]
  rfl

theorem last_slot (k : Fin k0_t1_loop.trips) (G17 : BufTy.Contents (Elt Ideal) arg17.view.ty) :
    arg17.view.readAt (Elt Ideal) (Rect.unit (s := S2x512x2048) ![0, 0, 0] S1x512x2048.size inb_S2x512x2048_S1x512x2048_0_0_0).toLoadRect (arg17.view.writes (Elt Ideal) G17 (trip_k0_t1.sl.HW_arg17_4 i arg5 Q (headRun.sl.v34 i) lo hi 1#32 x5 k)) = farV Q lo hi (arg5.view.read (Elt Ideal) x5) (iq i) (p5 k 3) := by
  rw [trip_k0_t1.sl.HW_arg17_4, readAt_last, v711_eq]

/-- After the loop the accumulator has gained eight tiles: the one waiting at its start and the next seven. -/
theorem loop_acc (G16 : BufTy.Contents (Elt Ideal) arg16.view.ty) (G17 : BufTy.Contents (Elt Ideal) arg17.view.ty) (L16 : List (View.Piece (Elt Ideal) S144x2048 .f32))
    (A0 : Vec Ideal S144x2048 .f32) (P4 : Vec Ideal S1x512x2048 .bf16)
    (hA : arg16.view.readAt (Elt Ideal) (Rect.unit (s := S144x2048) ![0, 0] S144x2048.size inb_S144x2048_S144x2048_0_0).toLoadRect G16 = A0)
    (hP : arg17.view.readAt (Elt Ideal) (Rect.unit (s := S2x512x2048) ![0, 0, 0] S1x512x2048.size inb_S2x512x2048_S1x512x2048_0_0_0).toLoadRect G17 = P4) (e : Fin 144) (c : Fin 2048) :
    arg16.view.readCov ((pb_k0_t1 (F := Ideal) Variants.none dv none i arg3 harg3 arg4 harg4 arg5 harg5 arg6 harg6 arg7 harg7 arg8 harg8 arg9 harg9 arg10 harg10 arg11 harg11 arg12 harg12 arg13 harg13 arg14 harg14 arg15 harg15 arg16 harg16 arg17 harg17 Q (headRun.sl.v34 i) lo hi 1#32 x5 x6 G16 G17 (Scf.trips k0_t1_loop.lb k0_t1_loop.ub k0_t1_loop.st)).1 ++ L16) (Rect.unit (s := S144x2048) ![0, 0] S144x2048.size inb_S144x2048_S144x2048_0_0).toLoadRect (ix2 e c)
      = A0 (ix2 e c)
        + (addT (arg6.view.read (Elt Ideal) x6) (iq i) 4 P4 e c + addT (arg6.view.read (Elt Ideal) x6) (iq i) 5 (farV Q lo hi (arg5.view.read (Elt Ideal) x5) (iq i) 5) e c + addT (arg6.view.read (Elt Ideal) x6) (iq i) 6 (farV Q lo hi (arg5.view.read (Elt Ideal) x5) (iq i) 6) e c + addT (arg6.view.read (Elt Ideal) x6) (iq i) 7 (farV Q lo hi (arg5.view.read (Elt Ideal) x5) (iq i) 7) e c)
        + (addT (arg6.view.read (Elt Ideal) x6) (iq i) 8 (farV Q lo hi (arg5.view.read (Elt Ideal) x5) (iq i) 8) e c + addT (arg6.view.read (Elt Ideal) x6) (iq i) 9 (farV Q lo hi (arg5.view.read (Elt Ideal) x5) (iq i) 9) e c + addT (arg6.view.read (Elt Ideal) x6) (iq i) 10 (farV Q lo hi (arg5.view.read (Elt Ideal) x5) (iq i) 10) e c + addT (arg6.view.read (Elt Ideal) x6) (iq i) 11 (farV Q lo hi (arg5.view.read (Elt Ideal) x5) (iq i) 11) e c) := by
  rw [show Scf.trips k0_t1_loop.lb k0_t1_loop.ub k0_t1_loop.st = 2 by decide, pb_eq]
  rw [List.cons_append, View.readCov_cons_toLoadRect, pay50, v733_eq, readAt_last, pay50, v733_eq, hA]
  unfold trip_k0_t1.sl.v591
  rw [hP, last_slot]
  rfl

/-- And the weights' buffer holds, in its first half, the weights of the tile at place 12. -/
theorem loop_slot (G16 : BufTy.Contents (Elt Ideal) arg16.view.ty) (G17 : BufTy.Contents (Elt Ideal) arg17.view.ty) (L17 : List (View.Piece (Elt Ideal) S2x512x2048 .bf16)) :
    arg17.view.readCov ((pb_k0_t1 (F := Ideal) Variants.none dv none i arg3 harg3 arg4 harg4 arg5 harg5 arg6 harg6 arg7 harg7 arg8 harg8 arg9 harg9 arg10 harg10 arg11 harg11 arg12 harg12 arg13 harg13 arg14 harg14 arg15 harg15 arg16 harg16 arg17 harg17 Q (headRun.sl.v34 i) lo hi 1#32 x5 x6 G16 G17 (Scf.trips k0_t1_loop.lb k0_t1_loop.ub k0_t1_loop.st)).2 ++ L17) (Rect.unit (s := S2x512x2048) ![0, 0, 0] S1x512x2048.size inb_S2x512x2048_S1x512x2048_0_0_0).toLoadRect = farV Q lo hi (arg5.view.read (Elt Ideal) x5) (iq i) 12 := by
  rw [show Scf.trips k0_t1_loop.lb k0_t1_loop.ub k0_t1_loop.st = 2 by decide, pb_eq]
  dsimp only
  rw [trip_k0_t1.sl.HW_arg17_4, List.cons_append, List.cons_append, View.readCov_cons_toLoadRect, v711_eq]
  rfl

end Loop

end Cert.AttnV
-- ==== Proof.AttnHead.lean ====
/-
  Hand-written, untrusted. The attention's first pass, both maps' weights shifted by the memory tokens' maximum: its accumulator is the
  memory tokens' contribution and the sixteen key tiles'.
-/
module

public import proofs.«01_k».proof.Proof.AttnLoop

@[expose] public section

set_option maxRecDepth 16384

noncomputable section

namespace Cert.AttnV

open Cert.KernelIdeal Cert.KernelIdeal.Gen Cert.AttnA
open Idealize.ShloMosaic Idealize.ShloMosaic.TcCoe

/-- The weight of row `k` of the tile at place `p`, near the diagonal: its own bias, shifted by the memory tokens' maximum. -/
def near (Q : Vec Ideal S128x2048 .bf16) (M : FVec Ideal S1x2048 .f32) (v5 : Vec Ideal S1x8192x128 .bf16) (v9 : Vec Ideal S1x5x512x512 .f32)
    (n : Fin 8) (p : Fin 16) (k : Fin 512) (c : Fin 2048) : EReal :=
  ex2 (raw Q v5 (tl n p) k c + bt v9 n (tl n p) k c * lg - M (ix2 0 c))

def nearV (Q : Vec Ideal S128x2048 .bf16) (M : FVec Ideal S1x2048 .f32) (v5 : Vec Ideal S1x8192x128 .bf16) (v9 : Vec Ideal S1x5x512x512 .f32)
    (n : Fin 8) (p : Fin 16) : Vec Ideal S1x512x2048 .bf16 :=
  fun y => near Q M v5 v9 n p (y 1) (y 2)

theorem nearV_apply (Q : Vec Ideal S128x2048 .bf16) (M : FVec Ideal S1x2048 .f32) (v5 : Vec Ideal S1x8192x128 .bf16) (v9 : Vec Ideal S1x5x512x512 .f32)
    (n : Fin 8) (p : Fin 16) (k : Fin 512) (c : Fin 2048) :
    nearV Q M v5 v9 n p (ix3 0 k c) = ex2 (∑ x : Fin 128, v5 (ix3 0 (rw (tl n p) k) x) * Q (ix2 x c) + bt v9 n (tl n p) k c * lg - M (ix2 0 c)) := rfl

theorem farV_apply (Q : Vec Ideal S128x2048 .bf16) (lo hi : FVec Ideal S1x2048 .f32) (v5 : Vec Ideal S1x8192x128 .bf16)
    (n : Fin 8) (p : Fin 16) (k : Fin 512) (c : Fin 2048) :
    farV Q lo hi v5 n p (ix3 0 k c) = ex2 (∑ x : Fin 128, v5 (ix3 0 (rw (tl n p) k) x) * Q (ix2 x c) - if 17 ≤ 2 * n.val + p.val then lo (ix2 0 c) else hi (ix2 0 c)) := rfl

section Head

variable (dv : Dev nD) (i : grid0.Coords) (arg3 : Memref sig .tc .smem S1 .f32) (harg3 : arg3.IsWhole) (arg4 : Memref sig .tc .vmem S1x1x128x1024 .bf16) (harg4 : arg4.IsWhole) (arg5 : Memref sig .tc .vmem S1x8192x128 .bf16) (harg5 : arg5.IsWhole) (arg6 : Memref sig .tc .vmem S1x16x128x512 .bf16) (harg6 : arg6.IsWhole) (arg7 : Memref sig .tc .vmem S1x16x128 .bf16) (harg7 : arg7.IsWhole) (arg8 : Memref sig .tc .vmem S1x1x128x16 .bf16) (harg8 : arg8.IsWhole) (arg9 : Memref sig .tc .vmem S1x5x512x512 .f32) (harg9 : arg9.IsWhole) (arg10 : Memref sig .tc .vmem S1x16x1024 .f32) (harg10 : arg10.IsWhole) (arg11 : Memref sig .tc .vmem S1x1024x128 .bf16) (harg11 : arg11.IsWhole) (arg12 : Memref sig .tc .vmem S1x128 .f32) (harg12 : arg12.IsWhole) (arg13 : Memref sig .tc .vmem S1x1024x128 .bf16) (harg13 : arg13.IsWhole) (arg14 : Memref sig .tc .vmem S128x2048 .bf16) (harg14 : arg14.IsWhole) (arg15 : Memref sig .tc .vmem S1x2048 .f32) (harg15 : arg15.IsWhole) (arg16 : Memref sig .tc .vmem S144x2048 .f32) (harg16 : arg16.IsWhole) (arg17 : Memref sig .tc .vmem S2x512x2048 .bf16) (harg17 : arg17.IsWhole)
  (x3 : BufTy.Contents (Elt Ideal) arg3.view.ty) (x4 : BufTy.Contents (Elt Ideal) arg4.view.ty)
  (x5 : BufTy.Contents (Elt Ideal) arg5.view.ty) (x6 : BufTy.Contents (Elt Ideal) arg6.view.ty)
  (x7 : BufTy.Contents (Elt Ideal) arg7.view.ty) (x8 : BufTy.Contents (Elt Ideal) arg8.view.ty)
  (x9 : BufTy.Contents (Elt Ideal) arg9.view.ty) (x10 : BufTy.Contents (Elt Ideal) arg10.view.ty)
  (x11 : BufTy.Contents (Elt Ideal) arg11.view.ty) (x12 : BufTy.Contents (Elt Ideal) arg12.view.ty)

theorem raw5 {off : Fin 3 → Nat} (inb) (j : Fin 16) (h : off = ![0, 512 * j.val, 0]) (Q : Vec Ideal S128x2048 .bf16) (k : Fin 512) (c : Fin 2048) :
    ∑ x : Fin 128, arg5.view.readAt (Elt Ideal) (Rect.unit (s := S1x8192x128) off S1x512x128.size inb).toLoadRect x5 (ix3 0 k x) * Q (ix2 x c)
      = ∑ x : Fin 128, arg5.view.read (Elt Ideal) x5 (ix3 0 (rw j k) x) * Q (ix2 x c) :=
  Finset.sum_congr rfl fun x _ => congrArg (· * Q (ix2 x c)) (rd5 arg5 x5 inb j h k x)

theorem v161_eq : (headRun.sl.v161 (F := Ideal) i arg4 arg5 arg7 arg9 arg10 arg14 arg17 x4 x5 x7 x9 x10) = nearV (headRun.sl.v21 (F := Ideal) arg4 arg14 x4) (headRun.sl.r_1 (F := Ideal) arg4 arg7 arg10 arg14 x4 x7 x10) (arg5.view.read (Elt Ideal) x5) (arg9.view.read (Elt Ideal) x9) (iq i) 0 := by
  unfold headRun.sl.v161 headRun.sl.H17_2
  rw [View.readCov_skip _ _ _ _ _ (by decide +kernel), View.readCov_cons_toLoadRect]
  refine ext3 fun k c => ?_
  unfold headRun.sl.r_4
  rw [pay31, pay30, rdbt arg9 x9 _ _ (iq i) (tl (iq i) 0) (show k0_off2 i 0#32 0#32 = ![0, (bi (iq i) (tl (iq i) 0) 0).val, 0, 0] from off2_eq i 0 0) (show k0_off2 i 0#32 1#32 = ![0, (bi (iq i) (tl (iq i) 0) 1).val, 0, 0] from off2_eq i 0 1)]
  rw [nearV_apply]
  exact congrArg (fun z => ex2 (z + bt (arg9.view.read (Elt Ideal) x9) (iq i) (tl (iq i) 0) k c * lg - (headRun.sl.r_1 (F := Ideal) arg4 arg7 arg10 arg14 x4 x7 x10) (ix2 0 c))) (raw5 arg5 x5 _ (tl (iq i) 0) (show k0_off1 i 0#32 = ![0, 512 * (tl (iq i) 0).val, 0] from off1_eq i 0) (headRun.sl.v21 (F := Ideal) arg4 arg14 x4) k c)

theorem v224_eq : (headRun.sl.v224 (F := Ideal) i arg4 arg5 arg7 arg9 arg10 arg14 arg17 x4 x5 x7 x9 x10) = nearV (headRun.sl.v21 (F := Ideal) arg4 arg14 x4) (headRun.sl.r_1 (F := Ideal) arg4 arg7 arg10 arg14 x4 x7 x10) (arg5.view.read (Elt Ideal) x5) (arg9.view.read (Elt Ideal) x9) (iq i) 1 := by
  unfold headRun.sl.v224 headRun.sl.H17_3 headRun.sl.H17_2
  rw [View.readCov_skip _ _ _ _ _ (by decide +kernel), View.readCov_cons_toLoadRect]
  refine ext3 fun k c => ?_
  unfold headRun.sl.r_8 headRun.sl.r_9
  rw [pay38, pay36, rdbt arg9 x9 _ _ (iq i) (tl (iq i) 1) (show k0_off2 i 1#32 0#32 = ![0, (bi (iq i) (tl (iq i) 1) 0).val, 0, 0] from off2_eq i 1 0) (show k0_off2 i 1#32 1#32 = ![0, (bi (iq i) (tl (iq i) 1) 1).val, 0, 0] from off2_eq i 1 1)]
  rw [nearV_apply]
  exact congrArg (fun z => ex2 (z + bt (arg9.view.read (Elt Ideal) x9) (iq i) (tl (iq i) 1) k c * lg - (headRun.sl.r_1 (F := Ideal) arg4 arg7 arg10 arg14 x4 x7 x10) (ix2 0 c))) (raw5 arg5 x5 _ (tl (iq i) 1) (show k0_off1 i 1#32 = ![0, 512 * (tl (iq i) 1).val, 0] from off1_eq i 1) (headRun.sl.v21 (F := Ideal) arg4 arg14 x4) k c)

theorem v288_eq : (headRun.sl.v288 (F := Ideal) i arg4 arg5 arg7 arg9 arg10 arg14 arg17 x4 x5 x7 x9 x10) = nearV (headRun.sl.v21 (F := Ideal) arg4 arg14 x4) (headRun.sl.r_1 (F := Ideal) arg4 arg7 arg10 arg14 x4 x7 x10) (arg5.view.read (Elt Ideal) x5) (arg9.view.read (Elt Ideal) x9) (iq i) 2 := by
  unfold headRun.sl.v288 headRun.sl.H17_4 headRun.sl.H17_3
  rw [View.readCov_skip _ _ _ _ _ (by decide +kernel), View.readCov_cons_toLoadRect]
  refine ext3 fun k c => ?_
  unfold headRun.sl.r_11 headRun.sl.r_12
  rw [pay42, pay40, rdbt arg9 x9 _ _ (iq i) (tl (iq i) 2) (show k0_off2 i 2#32 0#32 = ![0, (bi (iq i) (tl (iq i) 2) 0).val, 0, 0] from off2_eq i 2 0) (show k0_off2 i 2#32 1#32 = ![0, (bi (iq i) (tl (iq i) 2) 1).val, 0, 0] from off2_eq i 2 1)]
  rw [nearV_apply]
  exact congrArg (fun z => ex2 (z + bt (arg9.view.read (Elt Ideal) x9) (iq i) (tl (iq i) 2) k c * lg - (headRun.sl.r_1 (F := Ideal) arg4 arg7 arg10 arg14 x4 x7 x10) (ix2 0 c))) (raw5 arg5 x5 _ (tl (iq i) 2) (show k0_off1 i 2#32 = ![0, 512 * (tl (iq i) 2).val, 0] from off1_eq i 2) (headRun.sl.v21 (F := Ideal) arg4 arg14 x4) k c)

theorem v329_eq : (headRun.sl.v329 (F := Ideal) i arg4 arg5 arg7 arg9 arg10 arg14 arg17 x4 x5 x7 x9 x10) = nearV (headRun.sl.v21 (F := Ideal) arg4 arg14 x4) (headRun.sl.r_1 (F := Ideal) arg4 arg7 arg10 arg14 x4 x7 x10) (arg5.view.read (Elt Ideal) x5) (arg9.view.read (Elt Ideal) x9) (iq i) 3 := by
  unfold headRun.sl.v329 headRun.sl.H17_5 headRun.sl.H17_4
  rw [View.readCov_skip _ _ _ _ _ (by decide +kernel), View.readCov_cons_toLoadRect]
  refine ext3 fun k c => ?_
  unfold headRun.sl.r_14
  rw [pay45, rdbt arg9 x9 _ _ (iq i) (tl (iq i) 3) (show k0_off2 i 3#32 0#32 = ![0, (bi (iq i) (tl (iq i) 3) 0).val, 0, 0] from off2_eq i 3 0) (show k0_off2 i 3#32 1#32 = ![0, (bi (iq i) (tl (iq i) 3) 1).val, 0, 0] from off2_eq i 3 1)]
  rw [nearV_apply]
  exact congrArg (fun z => ex2 (z + bt (arg9.view.read (Elt Ideal) x9) (iq i) (tl (iq i) 3) k c * lg - (headRun.sl.r_1 (F := Ideal) arg4 arg7 arg10 arg14 x4 x7 x10) (ix2 0 c))) (raw5 arg5 x5 _ (tl (iq i) 3) (show k0_off1 i 3#32 = ![0, 512 * (tl (iq i) 3).val, 0] from off1_eq i 3) (headRun.sl.v21 (F := Ideal) arg4 arg14 x4) k c)

theorem sel4_eq : headRun.sl.v299 i = if 17 ≤ 2 * (iq i).val + (4 : Fin 16).val then 1#1 else 0#1 := by
  have h : ∀ i : Fin 8, headRun.sl.v299 (at3 i) = if 17 ≤ 2 * i.val + (4 : Fin 16).val then 1#1 else 0#1 := by decide +kernel
  exact h (iq i)

theorem sel13_eq : Scalar.cmpi .sge (Scalar.addi (headRun.sl.v34 i) 13#32) 16#32 = if 17 ≤ 2 * (iq i).val + (13 : Fin 16).val then 1#1 else 0#1 := by
  have h : ∀ i : Fin 8, Scalar.cmpi .sge (Scalar.addi (headRun.sl.v34 (at3 i)) 13#32) 16#32 = if 17 ≤ 2 * i.val + (13 : Fin 16).val then 1#1 else 0#1 := by decide +kernel
  exact h (iq i)

theorem sel14_eq : Scalar.cmpi .sge (Scalar.addi (headRun.sl.v34 i) 14#32) 16#32 = if 17 ≤ 2 * (iq i).val + (14 : Fin 16).val then 1#1 else 0#1 := by
  have h : ∀ i : Fin 8, Scalar.cmpi .sge (Scalar.addi (headRun.sl.v34 (at3 i)) 14#32) 16#32 = if 17 ≤ 2 * i.val + (14 : Fin 16).val then 1#1 else 0#1 := by decide +kernel
  exact h (iq i)

theorem sel15_eq : Scalar.cmpi .sge (Scalar.addi (headRun.sl.v34 i) 15#32) 16#32 = if 17 ≤ 2 * (iq i).val + (15 : Fin 16).val then 1#1 else 0#1 := by
  have h : ∀ i : Fin 8, Scalar.cmpi .sge (Scalar.addi (headRun.sl.v34 (at3 i)) 15#32) 16#32 = if 17 ≤ 2 * i.val + (15 : Fin 16).val then 1#1 else 0#1 := by decide +kernel
  exact h (iq i)

theorem slot4_eq (G17 : BufTy.Contents (Elt Ideal) arg17.view.ty) :
    arg17.view.readAt (Elt Ideal) (Rect.unit (s := S2x512x2048) ![0, 0, 0] S1x512x2048.size inb_S2x512x2048_S1x512x2048_0_0_0).toLoadRect
      (arg17.view.writes (Elt Ideal) G17 (headRun.sl.H17_5 (F := Ideal) i arg4 arg5 arg7 arg9 arg10 arg14 x4 x5 x7 x9 x10)) = farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 4 := by
  unfold headRun.sl.H17_5 headRun.sl.r_16 headRun.sl.cst_206
  rw [readAt_last]
  refine ext3 fun k c => ?_
  rw [pay48, sel4_eq, sel_ite]
  rw [farV_apply]
  exact congrArg (fun z => ex2 (z - if 17 ≤ 2 * (iq i).val + (4 : Fin 16).val then (headRun.sl.r_2 (F := Ideal) arg4 arg7 arg9 arg10 arg14 x4 x7 x9 x10) (ix2 0 c) else (headRun.sl.r_3 (F := Ideal) arg4 arg7 arg9 arg10 arg14 x4 x7 x9 x10) (ix2 0 c))) (raw5 arg5 x5 _ (tl (iq i) 4) (show k0_off1 i 4#32 = ![0, 512 * (tl (iq i) 4).val, 0] from off1_eq i 4) (headRun.sl.v21 (F := Ideal) arg4 arg14 x4) k c)

theorem v416_eq : (headRun.sl.v416 (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 x8 x9 x10) = farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 13 := by
  unfold headRun.sl.v416 headRun.sl.H17_2_1 headRun.sl.H17_1
  rw [View.readCov_skip _ _ _ _ _ (by decide +kernel), View.readCov_cons_toLoadRect]
  refine ext3 fun k c => ?_
  rw [pay51, sel13_eq, sel_ite]
  rw [farV_apply]
  exact congrArg (fun z => ex2 (z - if 17 ≤ 2 * (iq i).val + (13 : Fin 16).val then (headRun.sl.r_2 (F := Ideal) arg4 arg7 arg9 arg10 arg14 x4 x7 x9 x10) (ix2 0 c) else (headRun.sl.r_3 (F := Ideal) arg4 arg7 arg9 arg10 arg14 x4 x7 x9 x10) (ix2 0 c))) (raw5 arg5 x5 _ (tl (iq i) 13) (show k0_off1 i 13#32 = ![0, 512 * (tl (iq i) 13).val, 0] from off1_eq i 13) (headRun.sl.v21 (F := Ideal) arg4 arg14 x4) k c)

theorem v457_eq : (headRun.sl.v457 (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 x8 x9 x10) = farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 14 := by
  unfold headRun.sl.v457 headRun.sl.H17_3_1 headRun.sl.H17_2_1
  rw [View.readCov_skip _ _ _ _ _ (by decide +kernel), View.readCov_cons_toLoadRect]
  refine ext3 fun k c => ?_
  rw [pay55, sel14_eq, sel_ite]
  rw [farV_apply]
  exact congrArg (fun z => ex2 (z - if 17 ≤ 2 * (iq i).val + (14 : Fin 16).val then (headRun.sl.r_2 (F := Ideal) arg4 arg7 arg9 arg10 arg14 x4 x7 x9 x10) (ix2 0 c) else (headRun.sl.r_3 (F := Ideal) arg4 arg7 arg9 arg10 arg14 x4 x7 x9 x10) (ix2 0 c))) (raw5 arg5 x5 _ (tl (iq i) 14) (show k0_off1 i 14#32 = ![0, 512 * (tl (iq i) 14).val, 0] from off1_eq i 14) (headRun.sl.v21 (F := Ideal) arg4 arg14 x4) k c)

theorem v477_eq : (headRun.sl.v477 (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 x8 x9 x10) = farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 15 := by
  unfold headRun.sl.v477 headRun.sl.H17_3_1
  rw [View.readCov_cons_toLoadRect]
  refine ext3 fun k c => ?_
  rw [pay57, sel15_eq, sel_ite]
  rw [farV_apply]
  exact congrArg (fun z => ex2 (z - if 17 ≤ 2 * (iq i).val + (15 : Fin 16).val then (headRun.sl.r_2 (F := Ideal) arg4 arg7 arg9 arg10 arg14 x4 x7 x9 x10) (ix2 0 c) else (headRun.sl.r_3 (F := Ideal) arg4 arg7 arg9 arg10 arg14 x4 x7 x9 x10) (ix2 0 c))) (raw5 arg5 x5 _ (tl (iq i) 15) (show k0_off1 i 15#32 = ![0, 512 * (tl (iq i) 15).val, 0] from off1_eq i 15) (headRun.sl.v21 (F := Ideal) arg4 arg14 x4) k c)

theorem v376_eq : (headRun.sl.v376 (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 x8 x9 x10) = farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 12 := by
  unfold headRun.sl.v376 headRun.sl.H17_1
  rw [View.readCov_skip _ _ _ _ _ (by decide +kernel), loop_slot]

theorem v339_eq (e : Fin 144) (c : Fin 2048) : (headRun.sl.v339 (F := Ideal) arg4 arg7 arg8 arg10 arg14 arg16 x4 x7 x8 x10) (ix2 e c) = pvs (fun d x => arg8.view.readAt (Elt Ideal) (Rect.unit (s := S1x1x128x16) ![0, 0, 0, 0] S1x1x128x16.size inb_S1x1x128x16_S1x1x128x16_0_0_0_0).toLoadRect x8 (ix4 0 0 d x)) (fun x => ex2 ((headRun.sl.r (F := Ideal) arg4 arg7 arg10 arg14 x4 x7 x10) (ix2 x c) - (headRun.sl.r_1 (F := Ideal) arg4 arg7 arg10 arg14 x4 x7 x10) (ix2 0 c))) e := by
  unfold headRun.sl.v339 headRun.sl.H16_1
  rw [View.readCov_cons_toLoadRect]
  unfold headRun.sl.r_5 headRun.sl.r_6 headRun.sl.r_7
  rw [pay35]

theorem pv_eq {off : Fin 4 → Nat} (inb) (n : Fin 8) (p : Fin 16) (h : off = ![0, (tl n p).val, 0, 0]) (P : Vec Ideal S1x512x2048 .bf16) (e : Fin 144) (c : Fin 2048) :
    pvs (fun d x => arg6.view.readAt (Elt Ideal) (Rect.unit (s := S1x16x128x512) off S1x1x128x512.size inb).toLoadRect x6 (ix4 0 0 d x)) (fun x => P (ix3 0 x c)) e
      = addT (arg6.view.read (Elt Ideal) x6) n p P e c := by
  simp only [rd6 arg6 x6 inb _ h]
  rfl

/-- The accumulator as the loop finds it: the memory tokens and the four tiles at the diagonal. -/
theorem acc4_eq (G16 : BufTy.Contents (Elt Ideal) arg16.view.ty) (e : Fin 144) (c : Fin 2048) :
    arg16.view.readAt (Elt Ideal) (Rect.unit (s := S144x2048) ![0, 0] S144x2048.size inb_S144x2048_S144x2048_0_0).toLoadRect
      (arg16.view.writes (Elt Ideal) G16 (headRun.sl.H16_2 (F := Ideal) i arg4 arg5 arg6 arg7 arg8 arg9 arg10 arg14 arg16 arg17 x4 x5 x6 x7 x8 x9 x10)) (ix2 e c)
      = pvs (fun d x => arg8.view.readAt (Elt Ideal) (Rect.unit (s := S1x1x128x16) ![0, 0, 0, 0] S1x1x128x16.size inb_S1x1x128x16_S1x1x128x16_0_0_0_0).toLoadRect x8 (ix4 0 0 d x)) (fun x => ex2 ((headRun.sl.r (F := Ideal) arg4 arg7 arg10 arg14 x4 x7 x10) (ix2 x c) - (headRun.sl.r_1 (F := Ideal) arg4 arg7 arg10 arg14 x4 x7 x10) (ix2 0 c))) e
        + (addT (arg6.view.read (Elt Ideal) x6) (iq i) 0 (nearV (headRun.sl.v21 (F := Ideal) arg4 arg14 x4) (headRun.sl.r_1 (F := Ideal) arg4 arg7 arg10 arg14 x4 x7 x10) (arg5.view.read (Elt Ideal) x5) (arg9.view.read (Elt Ideal) x9) (iq i) 0) e c + addT (arg6.view.read (Elt Ideal) x6) (iq i) 1 (nearV (headRun.sl.v21 (F := Ideal) arg4 arg14 x4) (headRun.sl.r_1 (F := Ideal) arg4 arg7 arg10 arg14 x4 x7 x10) (arg5.view.read (Elt Ideal) x5) (arg9.view.read (Elt Ideal) x9) (iq i) 1) e c
          + addT (arg6.view.read (Elt Ideal) x6) (iq i) 2 (nearV (headRun.sl.v21 (F := Ideal) arg4 arg14 x4) (headRun.sl.r_1 (F := Ideal) arg4 arg7 arg10 arg14 x4 x7 x10) (arg5.view.read (Elt Ideal) x5) (arg9.view.read (Elt Ideal) x9) (iq i) 2) e c + addT (arg6.view.read (Elt Ideal) x6) (iq i) 3 (nearV (headRun.sl.v21 (F := Ideal) arg4 arg14 x4) (headRun.sl.r_1 (F := Ideal) arg4 arg7 arg10 arg14 x4 x7 x10) (arg5.view.read (Elt Ideal) x5) (arg9.view.read (Elt Ideal) x9) (iq i) 3) e c) := by
  unfold headRun.sl.H16_2
  rw [readAt_last, pay49, v339_eq]
  unfold headRun.sl.r_15
  rw [pay46]
  unfold headRun.sl.r_13
  rw [pay43]
  unfold headRun.sl.r_10
  rw [pay39, v161_eq, v224_eq, v288_eq, v329_eq]
  exact congrArg₂ (· + ·) rfl (congrArg₂ (· + ·) (congrArg₂ (· + ·) (congrArg₂ (· + ·) (pv_eq arg6 x6 _ _ _ (show k0_off3 i 0#32 = ![0, (tl (iq i) 0).val, 0, 0] from off3_eq i 0) (nearV (headRun.sl.v21 (F := Ideal) arg4 arg14 x4) (headRun.sl.r_1 (F := Ideal) arg4 arg7 arg10 arg14 x4 x7 x10) (arg5.view.read (Elt Ideal) x5) (arg9.view.read (Elt Ideal) x9) (iq i) 0) e c) (pv_eq arg6 x6 _ _ _ (show k0_off3 i 1#32 = ![0, (tl (iq i) 1).val, 0, 0] from off3_eq i 1) (nearV (headRun.sl.v21 (F := Ideal) arg4 arg14 x4) (headRun.sl.r_1 (F := Ideal) arg4 arg7 arg10 arg14 x4 x7 x10) (arg5.view.read (Elt Ideal) x5) (arg9.view.read (Elt Ideal) x9) (iq i) 1) e c)) (pv_eq arg6 x6 _ _ _ (show k0_off3 i 2#32 = ![0, (tl (iq i) 2).val, 0, 0] from off3_eq i 2) (nearV (headRun.sl.v21 (F := Ideal) arg4 arg14 x4) (headRun.sl.r_1 (F := Ideal) arg4 arg7 arg10 arg14 x4 x7 x10) (arg5.view.read (Elt Ideal) x5) (arg9.view.read (Elt Ideal) x9) (iq i) 2) e c)) (pv_eq arg6 x6 _ _ _ (show k0_off3 i 3#32 = ![0, (tl (iq i) 3).val, 0, 0] from off3_eq i 3) (nearV (headRun.sl.v21 (F := Ideal) arg4 arg14 x4) (headRun.sl.r_1 (F := Ideal) arg4 arg7 arg10 arg14 x4 x7 x10) (arg5.view.read (Elt Ideal) x5) (arg9.view.read (Elt Ideal) x9) (iq i) 3) e c))

theorem v487_eq (e : Fin 144) (c : Fin 2048) : (headRun.sl.v487 (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 x8 x9 x10) (ix2 e c)
      = pvs (fun d x => arg8.view.readAt (Elt Ideal) (Rect.unit (s := S1x1x128x16) ![0, 0, 0, 0] S1x1x128x16.size inb_S1x1x128x16_S1x1x128x16_0_0_0_0).toLoadRect x8 (ix4 0 0 d x)) (fun x => ex2 ((headRun.sl.r (F := Ideal) arg4 arg7 arg10 arg14 x4 x7 x10) (ix2 x c) - (headRun.sl.r_1 (F := Ideal) arg4 arg7 arg10 arg14 x4 x7 x10) (ix2 0 c))) e
        + (addT (arg6.view.read (Elt Ideal) x6) (iq i) 0 (nearV (headRun.sl.v21 (F := Ideal) arg4 arg14 x4) (headRun.sl.r_1 (F := Ideal) arg4 arg7 arg10 arg14 x4 x7 x10) (arg5.view.read (Elt Ideal) x5) (arg9.view.read (Elt Ideal) x9) (iq i) 0) e c + addT (arg6.view.read (Elt Ideal) x6) (iq i) 1 (nearV (headRun.sl.v21 (F := Ideal) arg4 arg14 x4) (headRun.sl.r_1 (F := Ideal) arg4 arg7 arg10 arg14 x4 x7 x10) (arg5.view.read (Elt Ideal) x5) (arg9.view.read (Elt Ideal) x9) (iq i) 1) e c
          + addT (arg6.view.read (Elt Ideal) x6) (iq i) 2 (nearV (headRun.sl.v21 (F := Ideal) arg4 arg14 x4) (headRun.sl.r_1 (F := Ideal) arg4 arg7 arg10 arg14 x4 x7 x10) (arg5.view.read (Elt Ideal) x5) (arg9.view.read (Elt Ideal) x9) (iq i) 2) e c + addT (arg6.view.read (Elt Ideal) x6) (iq i) 3 (nearV (headRun.sl.v21 (F := Ideal) arg4 arg14 x4) (headRun.sl.r_1 (F := Ideal) arg4 arg7 arg10 arg14 x4 x7 x10) (arg5.view.read (Elt Ideal) x5) (arg9.view.read (Elt Ideal) x9) (iq i) 3) e c)
        + (addT (arg6.view.read (Elt Ideal) x6) (iq i) 4 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 4) e c + addT (arg6.view.read (Elt Ideal) x6) (iq i) 5 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 5) e c
          + addT (arg6.view.read (Elt Ideal) x6) (iq i) 6 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 6) e c + addT (arg6.view.read (Elt Ideal) x6) (iq i) 7 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 7) e c)
        + (addT (arg6.view.read (Elt Ideal) x6) (iq i) 8 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 8) e c + addT (arg6.view.read (Elt Ideal) x6) (iq i) 9 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 9) e c
          + addT (arg6.view.read (Elt Ideal) x6) (iq i) 10 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 10) e c + addT (arg6.view.read (Elt Ideal) x6) (iq i) 11 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 11) e c) := by
  unfold headRun.sl.v487
  rw [loop_acc dv i arg3 harg3 arg4 harg4 arg5 harg5 arg6 harg6 arg7 harg7 arg8 harg8 arg9 harg9 arg10 harg10 arg11 harg11 arg12 harg12 arg13 harg13 arg14 harg14 arg15 harg15 arg16 harg16 arg17 harg17 (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) x5 x6 _ _ _ _ _ rfl (slot4_eq _ _ _ _ _ _ _ _ _ _ _ _ _ _)]
  rw [acc4_eq]

/-- The first pass's accumulator. -/
theorem v492_eq (e : Fin 144) (c : Fin 2048) : (headRun.sl.v492 (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 x8 x9 x10) (ix2 e c)
      = pvs (fun d x => arg8.view.readAt (Elt Ideal) (Rect.unit (s := S1x1x128x16) ![0, 0, 0, 0] S1x1x128x16.size inb_S1x1x128x16_S1x1x128x16_0_0_0_0).toLoadRect x8 (ix4 0 0 d x)) (fun x => ex2 ((headRun.sl.r (F := Ideal) arg4 arg7 arg10 arg14 x4 x7 x10) (ix2 x c) - (headRun.sl.r_1 (F := Ideal) arg4 arg7 arg10 arg14 x4 x7 x10) (ix2 0 c))) e
        + (addT (arg6.view.read (Elt Ideal) x6) (iq i) 0 (nearV (headRun.sl.v21 (F := Ideal) arg4 arg14 x4) (headRun.sl.r_1 (F := Ideal) arg4 arg7 arg10 arg14 x4 x7 x10) (arg5.view.read (Elt Ideal) x5) (arg9.view.read (Elt Ideal) x9) (iq i) 0) e c + addT (arg6.view.read (Elt Ideal) x6) (iq i) 1 (nearV (headRun.sl.v21 (F := Ideal) arg4 arg14 x4) (headRun.sl.r_1 (F := Ideal) arg4 arg7 arg10 arg14 x4 x7 x10) (arg5.view.read (Elt Ideal) x5) (arg9.view.read (Elt Ideal) x9) (iq i) 1) e c
          + addT (arg6.view.read (Elt Ideal) x6) (iq i) 2 (nearV (headRun.sl.v21 (F := Ideal) arg4 arg14 x4) (headRun.sl.r_1 (F := Ideal) arg4 arg7 arg10 arg14 x4 x7 x10) (arg5.view.read (Elt Ideal) x5) (arg9.view.read (Elt Ideal) x9) (iq i) 2) e c + addT (arg6.view.read (Elt Ideal) x6) (iq i) 3 (nearV (headRun.sl.v21 (F := Ideal) arg4 arg14 x4) (headRun.sl.r_1 (F := Ideal) arg4 arg7 arg10 arg14 x4 x7 x10) (arg5.view.read (Elt Ideal) x5) (arg9.view.read (Elt Ideal) x9) (iq i) 3) e c)
        + (addT (arg6.view.read (Elt Ideal) x6) (iq i) 4 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 4) e c + addT (arg6.view.read (Elt Ideal) x6) (iq i) 5 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 5) e c
          + addT (arg6.view.read (Elt Ideal) x6) (iq i) 6 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 6) e c + addT (arg6.view.read (Elt Ideal) x6) (iq i) 7 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 7) e c)
        + (addT (arg6.view.read (Elt Ideal) x6) (iq i) 8 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 8) e c + addT (arg6.view.read (Elt Ideal) x6) (iq i) 9 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 9) e c
          + addT (arg6.view.read (Elt Ideal) x6) (iq i) 10 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 10) e c + addT (arg6.view.read (Elt Ideal) x6) (iq i) 11 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 11) e c)
        + (addT (arg6.view.read (Elt Ideal) x6) (iq i) 12 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 12) e c + addT (arg6.view.read (Elt Ideal) x6) (iq i) 13 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 13) e c
          + addT (arg6.view.read (Elt Ideal) x6) (iq i) 14 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 14) e c + addT (arg6.view.read (Elt Ideal) x6) (iq i) 15 (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 15) e c) := by
  unfold headRun.sl.v492 headRun.sl.H16_1_1
  rw [View.readCov_cons_toLoadRect, pay59, v487_eq]
  unfold headRun.sl.r_21
  rw [pay58]
  unfold headRun.sl.r_20
  rw [pay56]
  unfold headRun.sl.r_19 headRun.sl.r_17 headRun.sl.r_18
  rw [pay54, v376_eq, v416_eq, v457_eq, v477_eq]
  exact congrArg₂ (· + ·) rfl (congrArg₂ (· + ·) (congrArg₂ (· + ·) (congrArg₂ (· + ·) (pv_eq arg6 x6 _ _ _ (show k0_off3 i 12#32 = ![0, (tl (iq i) 12).val, 0, 0] from off3_eq i 12) (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 12) e c) (pv_eq arg6 x6 _ _ _ (show k0_off3 i 13#32 = ![0, (tl (iq i) 13).val, 0, 0] from off3_eq i 13) (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 13) e c)) (pv_eq arg6 x6 _ _ _ (show k0_off3 i 14#32 = ![0, (tl (iq i) 14).val, 0, 0] from off3_eq i 14) (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 14) e c)) (pv_eq arg6 x6 _ _ _ (show k0_off3 i 15#32 = ![0, (tl (iq i) 15).val, 0, 0] from off3_eq i 15) (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) 15) e c))

end Head

end Cert.AttnV
-- ==== Proof.AttnTail.lean ====
/-
  Hand-written, untrusted. The attention's second pass, the one with a running maximum: its accumulator after all tiles.
-/
module

public import proofs.«01_k».proof.Proof.AttnHead

@[expose] public section

set_option maxRecDepth 16384

noncomputable section

namespace Cert.AttnV

open Cert.KernelIdeal Cert.KernelIdeal.Gen Cert.AttnA
open Idealize.ShloMosaic Idealize.ShloMosaic.TcCoe

/-- The score of row `k` of tile `j` at column `c`, with its bias. -/
def sc (Q : Vec Ideal S128x2048 .bf16) (v5 : Vec Ideal S1x8192x128 .bf16) (v9 : Vec Ideal S1x5x512x512 .f32) (n : Fin 8)
    (j : Fin 16) (k : Fin 512) (c : Fin 2048) : EReal :=
  raw Q v5 j k c + bt v9 n j k c * lg

/-- Tile `n`. -/
abbrev tn (n : ℕ) : Fin 16 := ⟨n % 16, by omega⟩

/-- The running maximum after `n` tiles, from `M`. -/
def mS (M : Fin 2048 → EReal) (s : Fin 16 → Fin 512 → Fin 2048 → EReal) : ℕ → Fin 2048 → EReal
  | 0, c => M c
  | n + 1, c => max (mS M s n c) (Finset.fold max (Ideal.ofBits FTy.f32 4286578688#32) (fun x => s (tn n) x c) Finset.univ)

/-- The accumulator after `n` tiles, from `A`. -/
def aS (M : Fin 2048 → EReal) (A : Fin 144 → Fin 2048 → EReal) (s : Fin 16 → Fin 512 → Fin 2048 → EReal) (v6 : Vec Ideal S1x16x128x512 .bf16) :
    ℕ → Fin 144 → Fin 2048 → EReal
  | 0, e, c => A e c
  | n + 1, e, c => ex2 (mS M s n c - mS M s (n + 1) c) * aS M A s v6 n e c
      + pvs (fun d x => v6 (ix4 0 (tn n) d x)) (fun x => ex2 (s (tn n) x c - mS M s (n + 1) c)) e

section Tail

variable (dv : Dev nD) (i : grid0.Coords) (arg3 : Memref sig .tc .smem S1 .f32) (harg3 : arg3.IsWhole) (arg4 : Memref sig .tc .vmem S1x1x128x1024 .bf16) (harg4 : arg4.IsWhole) (arg5 : Memref sig .tc .vmem S1x8192x128 .bf16) (harg5 : arg5.IsWhole) (arg6 : Memref sig .tc .vmem S1x16x128x512 .bf16) (harg6 : arg6.IsWhole) (arg7 : Memref sig .tc .vmem S1x16x128 .bf16) (harg7 : arg7.IsWhole) (arg8 : Memref sig .tc .vmem S1x1x128x16 .bf16) (harg8 : arg8.IsWhole) (arg9 : Memref sig .tc .vmem S1x5x512x512 .f32) (harg9 : arg9.IsWhole) (arg10 : Memref sig .tc .vmem S1x16x1024 .f32) (harg10 : arg10.IsWhole) (arg11 : Memref sig .tc .vmem S1x1024x128 .bf16) (harg11 : arg11.IsWhole) (arg12 : Memref sig .tc .vmem S1x128 .f32) (harg12 : arg12.IsWhole) (arg13 : Memref sig .tc .vmem S1x1024x128 .bf16) (harg13 : arg13.IsWhole) (arg14 : Memref sig .tc .vmem S128x2048 .bf16) (harg14 : arg14.IsWhole) (arg15 : Memref sig .tc .vmem S1x2048 .f32) (harg15 : arg15.IsWhole) (arg16 : Memref sig .tc .vmem S144x2048 .f32) (harg16 : arg16.IsWhole) (arg17 : Memref sig .tc .vmem S2x512x2048 .bf16) (harg17 : arg17.IsWhole)
  (x3 : BufTy.Contents (Elt Ideal) arg3.view.ty) (x4 : BufTy.Contents (Elt Ideal) arg4.view.ty)
  (x5 : BufTy.Contents (Elt Ideal) arg5.view.ty) (x6 : BufTy.Contents (Elt Ideal) arg6.view.ty)
  (x7 : BufTy.Contents (Elt Ideal) arg7.view.ty) (x8 : BufTy.Contents (Elt Ideal) arg8.view.ty)
  (x9 : BufTy.Contents (Elt Ideal) arg9.view.ty) (x10 : BufTy.Contents (Elt Ideal) arg10.view.ty)
  (x11 : BufTy.Contents (Elt Ideal) arg11.view.ty) (x12 : BufTy.Contents (Elt Ideal) arg12.view.ty)
  (a2 : BitVec 32) (Q : Vec Ideal S128x2048 .bf16) (s0 : FVec Ideal S16x2048 .f32) (m0 : FVec Ideal S1x2048 .f32)

theorem trip2_eq (k : Fin k0_t2_loop.trips) (f15 : BufTy.Contents (Elt Ideal) arg15.view.ty) (f16 : BufTy.Contents (Elt Ideal) arg16.view.ty) :
    tripL_k0_t2 (F := Ideal) Variants.none dv none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 Q s0 m0 x5 x6 x9 k f15 f16 = ([⟨(Rect.unit (s := S1x2048) ![0, 0] S1x2048.size inb_S1x2048_S1x2048_0_0), k0_pay20 (trip_k0_t2.sl.r_1 arg15 f15) (trip_k0_t2.sl.r_2 (F := Ideal) i arg5 arg9 Q x5 x9 k)⟩],
      [⟨(Rect.unit (s := S144x2048) ![0, 0] S144x2048.size inb_S144x2048_S144x2048_0_0), k0_pay19 (trip_k0_t2.sl.r (F := Ideal) i arg5 arg9 Q x5 x9 k) (trip_k0_t2.sl.r_1 arg15 f15) (trip_k0_t2.sl.r_2 (F := Ideal) i arg5 arg9 Q x5 x9 k) (arg16.view.readAt (Elt Ideal) (Rect.unit (s := S144x2048) ![0, 0] S144x2048.size inb_S144x2048_S144x2048_0_0).toLoadRect f16) (arg6.view.readAt (Elt Ideal) (Rect.unit (s := S1x16x128x512) (k0_off8 k) S1x1x128x512.size (k0_off8_inb k)).toLoadRect x6)⟩]) := by
  unfold tripL_k0_t2 trip_k0_t2
  rfl

theorem tn_tj (k : Fin k0_t2_loop.trips) : tn k.val = tj k := by
  have h : k.val < 16 := lt_of_lt_of_eq k.isLt (by decide)
  exact Fin.ext (Nat.mod_eq_of_lt h)

theorem t2r_eq (k : Fin k0_t2_loop.trips) (r : Fin 512) (c : Fin 2048) : (trip_k0_t2.sl.r (F := Ideal) i arg5 arg9 Q x5 x9 k) (ix2 r c) = (sc Q (arg5.view.read (Elt Ideal) x5) (arg9.view.read (Elt Ideal) x9) (iq i)) (tn k.val) r c := by
  rw [tn_tj]
  unfold trip_k0_t2.sl.r
  rw [pay14, rdbt arg9 x9 _ _ (iq i) (tj k) (show k0_off7 i k 0#32 = ![0, (bi (iq i) (tj k) 0).val, 0, 0] from off7_eq i k 0)
    (show k0_off7 i k 1#32 = ![0, (bi (iq i) (tj k) 1).val, 0, 0] from off7_eq i k 1)]
  exact congrArg (fun z => z + bt (arg9.view.read (Elt Ideal) x9) (iq i) (tj k) r c * lg) (raw5 arg5 x5 _ (tj k) (k0_off6_eq k) Q r c)

theorem t2m_eq (k : Fin k0_t2_loop.trips) (c : Fin 2048) :
    (trip_k0_t2.sl.r_2 (F := Ideal) i arg5 arg9 Q x5 x9 k) (ix2 0 c) = Finset.fold max (Ideal.ofBits FTy.f32 4286578688#32) (fun x => (sc Q (arg5.view.read (Elt Ideal) x5) (arg9.view.read (Elt Ideal) x9) (iq i)) (tn k.val) x c) Finset.univ := by
  unfold trip_k0_t2.sl.r_2
  rw [pay15]
  exact congrArg (fun f => Finset.fold max (Ideal.ofBits FTy.f32 4286578688#32) f Finset.univ) (funext fun r => t2r_eq i arg5 arg9 x5 x9 Q k r c)

theorem tail_state (G15 : BufTy.Contents (Elt Ideal) arg15.view.ty) (G16 : BufTy.Contents (Elt Ideal) arg16.view.ty)
    (M : Fin 2048 → EReal) (A : Fin 144 → Fin 2048 → EReal)
    (hM : ∀ c, arg15.view.readAt (Elt Ideal) (Rect.unit (s := S1x2048) ![0, 0] S1x2048.size inb_S1x2048_S1x2048_0_0).toLoadRect G15 (ix2 0 c) = M c)
    (hA : ∀ e c, arg16.view.readAt (Elt Ideal) (Rect.unit (s := S144x2048) ![0, 0] S144x2048.size inb_S144x2048_S144x2048_0_0).toLoadRect G16 (ix2 e c) = A e c) (n : ℕ) (hn : n ≤ k0_t2_loop.trips) :
    (∀ c, arg15.view.readAt (Elt Ideal) (Rect.unit (s := S1x2048) ![0, 0] S1x2048.size inb_S1x2048_S1x2048_0_0).toLoadRect (arg15.view.writes (Elt Ideal) G15 (pb_k0_t2 (F := Ideal) Variants.none dv none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 Q s0 m0 x5 x6 x9 G15 G16 n).1) (ix2 0 c) = mS M (sc Q (arg5.view.read (Elt Ideal) x5) (arg9.view.read (Elt Ideal) x9) (iq i)) n c)
    ∧ (∀ e c, arg16.view.readAt (Elt Ideal) (Rect.unit (s := S144x2048) ![0, 0] S144x2048.size inb_S144x2048_S144x2048_0_0).toLoadRect (arg16.view.writes (Elt Ideal) G16 (pb_k0_t2 (F := Ideal) Variants.none dv none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 Q s0 m0 x5 x6 x9 G15 G16 n).2) (ix2 e c) = aS M A (sc Q (arg5.view.read (Elt Ideal) x5) (arg9.view.read (Elt Ideal) x9) (iq i)) (arg6.view.read (Elt Ideal) x6) n e c) := by
  induction n with
  | zero =>
    rw [pb_k0_t2.eq_1]
    exact ⟨hM, hA⟩
  | succ n ih =>
    obtain ⟨h1, h2⟩ := ih (by omega)
    have e := pb_k0_t2_succ (F := Ideal) Variants.none dv none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 Q s0 m0 x5 x6 x9 G15 G16 ⟨n, hn⟩
    rw [show (pb_k0_t2 (F := Ideal) Variants.none dv none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 Q s0 m0 x5 x6 x9 G15 G16 (n + 1)) = _ from e, trip2_eq]
    dsimp only
    rw [List.cons_append, List.cons_append, readAt_last, readAt_last]
    constructor
    · intro c
      rw [pay20, t2m_eq, trip_k0_t2.sl.r_1, h1]
      rfl
    · intro e c
      rw [pay19, t2m_eq, trip_k0_t2.sl.r_1, h1, h2]
      refine congrArg₂ (· + ·) rfl ?_
      refine (congrArg (fun f => pvs f _ e) (funext fun d => funext fun x => rd6 arg6 x6 _ (tj ⟨n, hn⟩) (k0_off8_eq ⟨n, hn⟩) d x)).trans ?_
      rw [← tn_tj]
      exact congrArg (fun f => pvs _ f e) (funext fun x => by rw [t2r_eq]; rfl)

/-- The second pass's accumulator. -/
theorem v577_eq (e : Fin 144) (c : Fin 2048) : (tailRun.sl.v577 (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 x8 x9 x10) (ix2 e c)
    = aS (fun c => (headRun.sl.r_1 (F := Ideal) arg4 arg7 arg10 arg14 x4 x7 x10) (ix2 0 c)) (fun e c => pvs (fun d x => arg8.view.readAt (Elt Ideal) (Rect.unit (s := S1x1x128x16) ![0, 0, 0, 0] S1x1x128x16.size inb_S1x1x128x16_S1x1x128x16_0_0_0_0).toLoadRect x8 (ix4 0 0 d x)) (fun x => ex2 ((headRun.sl.r (F := Ideal) arg4 arg7 arg10 arg14 x4 x7 x10) (ix2 x c) - (headRun.sl.r_1 (F := Ideal) arg4 arg7 arg10 arg14 x4 x7 x10) (ix2 0 c))) e) (sc (headRun.sl.v21 (F := Ideal) arg4 arg14 x4) (arg5.view.read (Elt Ideal) x5) (arg9.view.read (Elt Ideal) x9) (iq i)) (arg6.view.read (Elt Ideal) x6) 16 e c := by
  have e1 := pb_k0_t2_succ (F := Ideal) Variants.none dv none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (headRun.sl.v21 (F := Ideal) arg4 arg14 x4) (headRun.sl.r (F := Ideal) arg4 arg7 arg10 arg14 x4 x7 x10) (headRun.sl.r_1 (F := Ideal) arg4 arg7 arg10 arg14 x4 x7 x10) x5 x6 x9
    (arg15.view.writes (Elt Ideal) arg15.view.junk (tailRun.sl.H15_1 (F := Ideal) arg4 arg7 arg10 arg14 x4 x7 x10)) (arg16.view.writes (Elt Ideal) arg16.view.junk (tailRun.sl.H16_1 (F := Ideal) arg4 arg7 arg8 arg10 arg14 x4 x7 x8 x10)) ⟨15, by decide⟩
  have h := (tail_state dv i arg3 harg3 arg4 harg4 arg5 harg5 arg6 harg6 arg7 harg7 arg8 harg8 arg9 harg9 arg10 harg10 arg11 harg11 arg12 harg12 arg13 harg13 arg14 harg14 arg15 harg15 arg16 harg16 arg17 harg17 x5 x6 x9 (BitVec.ofNat 32 (i 2).val) (headRun.sl.v21 (F := Ideal) arg4 arg14 x4) (headRun.sl.r (F := Ideal) arg4 arg7 arg10 arg14 x4 x7 x10) (headRun.sl.r_1 (F := Ideal) arg4 arg7 arg10 arg14 x4 x7 x10)
    (arg15.view.writes (Elt Ideal) arg15.view.junk (tailRun.sl.H15_1 (F := Ideal) arg4 arg7 arg10 arg14 x4 x7 x10)) (arg16.view.writes (Elt Ideal) arg16.view.junk (tailRun.sl.H16_1 (F := Ideal) arg4 arg7 arg8 arg10 arg14 x4 x7 x8 x10))
    (fun c => (headRun.sl.r_1 (F := Ideal) arg4 arg7 arg10 arg14 x4 x7 x10) (ix2 0 c)) (fun e c => pvs (fun d x => arg8.view.readAt (Elt Ideal) (Rect.unit (s := S1x1x128x16) ![0, 0, 0, 0] S1x1x128x16.size inb_S1x1x128x16_S1x1x128x16_0_0_0_0).toLoadRect x8 (ix4 0 0 d x)) (fun x => ex2 ((headRun.sl.r (F := Ideal) arg4 arg7 arg10 arg14 x4 x7 x10) (ix2 x c) - (headRun.sl.r_1 (F := Ideal) arg4 arg7 arg10 arg14 x4 x7 x10) (ix2 0 c))) e)
    (fun c => by rw [tailRun.sl.H15_1, readAt_last, pay17]) (fun e c => by rw [tailRun.sl.H16_1, readAt_last, pay16]) 16 (by decide)).2 e c
  rw [← h]
  unfold tailRun.sl.v577
  rw [show Scf.trips k0_t2_loop.lb k0_t2_loop.ub k0_t2_loop.st = 16 by decide]
  rw [show (pb_k0_t2 (F := Ideal) Variants.none dv none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (headRun.sl.v21 (F := Ideal) arg4 arg14 x4) (headRun.sl.r (F := Ideal) arg4 arg7 arg10 arg14 x4 x7 x10) (headRun.sl.r_1 (F := Ideal) arg4 arg7 arg10 arg14 x4 x7 x10) x5 x6 x9 (arg15.view.writes (Elt Ideal) arg15.view.junk (tailRun.sl.H15_1 (F := Ideal) arg4 arg7 arg10 arg14 x4 x7 x10)) (arg16.view.writes (Elt Ideal) arg16.view.junk (tailRun.sl.H16_1 (F := Ideal) arg4 arg7 arg8 arg10 arg14 x4 x7 x8 x10)) 16) = _ from e1, trip2_eq]
  dsimp only
  rw [List.cons_append, readAt_last, List.cons_append, View.readCov_cons_toLoadRect]

end Tail

end Cert.AttnV
-- ==== Proof.AttnOut.lean ====
/-
  Hand-written, untrusted. The attention's block from the blocks it reads: the scaled and masked query columns, the memory tokens' scores,
  the two accumulators, and the entries the body leaves.
-/
module

public import proofs.«01_k».proof.Proof.AttnTail

@[expose] public section

set_option maxRecDepth 16384

noncomputable section

namespace Cert.AttnV

open Cert.KernelIdeal Cert.KernelIdeal.Gen Cert.AttnA
open Idealize.ShloMosaic Idealize.ShloMosaic.TcCoe

/-- The query columns: first the first map's 64 coordinates, then the second's, scaled, zero elsewhere. -/
def qM (v4 : Vec Ideal S1x1x128x1024 .bf16) : Vec Ideal S128x2048 .bf16 :=
  fun y => if (y 1 : Fin 2048).val < 1024 then (if (y 0 : Fin 128).val < 64 then v4 (ix4 0 0 (y 0) (col (y 1))) * qs else 0)
    else (if 64 ≤ (y 0 : Fin 128).val then v4 (ix4 0 0 (y 0) (col (y 1))) * qs else 0)

/-- The memory tokens' scores. -/
def sM (v4 : Vec Ideal S1x1x128x1024 .bf16) (v7 : Vec Ideal S1x16x128 .bf16) (v10 : Vec Ideal S1x16x1024 .f32) (k : Fin 16) (c : Fin 2048) : EReal :=
  ∑ x : Fin 128, v7 (ix3 0 k x) * qM v4 (ix2 x c) + v10 (ix3 0 k (col c)) * lg

/-- Their maximum. -/
def mM (v4 : Vec Ideal S1x1x128x1024 .bf16) (v7 : Vec Ideal S1x16x128 .bf16) (v10 : Vec Ideal S1x16x1024 .f32) (c : Fin 2048) : EReal :=
  Finset.fold max (Ideal.ofBits FTy.f32 4286578688#32) (fun x => sM v4 v7 v10 x c) Finset.univ

/-- Their contribution to the accumulator. -/
def aM (v4 : Vec Ideal S1x1x128x1024 .bf16) (v7 : Vec Ideal S1x16x128 .bf16) (v8 : Vec Ideal S1x1x128x16 .bf16) (v10 : Vec Ideal S1x16x1024 .f32)
    (e : Fin 144) (c : Fin 2048) : EReal :=
  pvs (fun d x => v8 (ix4 0 0 d x)) (fun x => ex2 (sM v4 v7 v10 x c - mM v4 v7 v10 c)) e

/-- The first pass's weight of row `k` of the tile at place `p`. -/
def wH (v4 : Vec Ideal S1x1x128x1024 .bf16) (v5 : Vec Ideal S1x8192x128 .bf16) (v7 : Vec Ideal S1x16x128 .bf16) (v9 : Vec Ideal S1x5x512x512 .f32)
    (v10 : Vec Ideal S1x16x1024 .f32) (n : Fin 8) (p : Fin 16) (k : Fin 512) (c : Fin 2048) : EReal :=
  if p.val < 4 then ex2 (raw (qM v4) v5 (tl n p) k c + bt v9 n (tl n p) k c * lg - mM v4 v7 v10 c)
  else ex2 (raw (qM v4) v5 (tl n p) k c - if 17 ≤ 2 * n.val + p.val then mM v4 v7 v10 c - v9 (ix4 0 0 0 (cl5 c)) * lg
    else mM v4 v7 v10 c - v9 (ix4 0 4 0 (cl5 c)) * lg)

/-- The first pass's accumulator. -/
def accH (v4 : Vec Ideal S1x1x128x1024 .bf16) (v5 : Vec Ideal S1x8192x128 .bf16) (v6 : Vec Ideal S1x16x128x512 .bf16) (v7 : Vec Ideal S1x16x128 .bf16)
    (v8 : Vec Ideal S1x1x128x16 .bf16) (v9 : Vec Ideal S1x5x512x512 .f32) (v10 : Vec Ideal S1x16x1024 .f32) (n : Fin 8) (e : Fin 144) (c : Fin 2048) : EReal :=
  aM v4 v7 v8 v10 e c + ∑ p : Fin 16, pvs (fun d x => v6 (ix4 0 (tl n p) d x)) (fun x => wH v4 v5 v7 v9 v10 n p x c) e

/-- The second pass's. -/
def accT (v4 : Vec Ideal S1x1x128x1024 .bf16) (v5 : Vec Ideal S1x8192x128 .bf16) (v6 : Vec Ideal S1x16x128x512 .bf16) (v7 : Vec Ideal S1x16x128 .bf16)
    (v8 : Vec Ideal S1x1x128x16 .bf16) (v9 : Vec Ideal S1x5x512x512 .f32) (v10 : Vec Ideal S1x16x1024 .f32) (n : Fin 8) (e : Fin 144) (c : Fin 2048) : EReal :=
  aS (mM v4 v7 v10) (aM v4 v7 v8 v10) (sc (qM v4) v5 v9 n) v6 16 e c

section Out

variable (dv : Dev nD) (i : grid0.Coords) (arg3 : Memref sig .tc .smem S1 .f32) (harg3 : arg3.IsWhole) (arg4 : Memref sig .tc .vmem S1x1x128x1024 .bf16) (harg4 : arg4.IsWhole) (arg5 : Memref sig .tc .vmem S1x8192x128 .bf16) (harg5 : arg5.IsWhole) (arg6 : Memref sig .tc .vmem S1x16x128x512 .bf16) (harg6 : arg6.IsWhole) (arg7 : Memref sig .tc .vmem S1x16x128 .bf16) (harg7 : arg7.IsWhole) (arg8 : Memref sig .tc .vmem S1x1x128x16 .bf16) (harg8 : arg8.IsWhole) (arg9 : Memref sig .tc .vmem S1x5x512x512 .f32) (harg9 : arg9.IsWhole) (arg10 : Memref sig .tc .vmem S1x16x1024 .f32) (harg10 : arg10.IsWhole) (arg11 : Memref sig .tc .vmem S1x1024x128 .bf16) (harg11 : arg11.IsWhole) (arg12 : Memref sig .tc .vmem S1x128 .f32) (harg12 : arg12.IsWhole) (arg13 : Memref sig .tc .vmem S1x1024x128 .bf16) (harg13 : arg13.IsWhole) (arg14 : Memref sig .tc .vmem S128x2048 .bf16) (harg14 : arg14.IsWhole) (arg15 : Memref sig .tc .vmem S1x2048 .f32) (harg15 : arg15.IsWhole) (arg16 : Memref sig .tc .vmem S144x2048 .f32) (harg16 : arg16.IsWhole) (arg17 : Memref sig .tc .vmem S2x512x2048 .bf16) (harg17 : arg17.IsWhole)
  (x3 : BufTy.Contents (Elt Ideal) arg3.view.ty) (x4 : BufTy.Contents (Elt Ideal) arg4.view.ty)
  (x5 : BufTy.Contents (Elt Ideal) arg5.view.ty) (x6 : BufTy.Contents (Elt Ideal) arg6.view.ty)
  (x7 : BufTy.Contents (Elt Ideal) arg7.view.ty) (x8 : BufTy.Contents (Elt Ideal) arg8.view.ty)
  (x9 : BufTy.Contents (Elt Ideal) arg9.view.ty) (x10 : BufTy.Contents (Elt Ideal) arg10.view.ty)
  (x11 : BufTy.Contents (Elt Ideal) arg11.view.ty) (x12 : BufTy.Contents (Elt Ideal) arg12.view.ty)

theorem whole_arg4 : arg4.view.readAt (Elt Ideal) (Rect.unit (s := S1x1x128x1024) ![0, 0, 0, 0] S1x1x128x1024.size inb_S1x1x128x1024_S1x1x128x1024_0_0_0_0).toLoadRect x4 = arg4.view.read (Elt Ideal) x4 := by
  rw [View.readAt_eq_ld]
  have hz : (![0, 0, 0, 0] : Fin 4 → ℕ) = fun _ => 0 := by decide
  exact View.ld_unit_zero hz _ _

theorem whole_arg7 : arg7.view.readAt (Elt Ideal) (Rect.unit (s := S1x16x128) ![0, 0, 0] S1x16x128.size inb_S1x16x128_S1x16x128_0_0_0).toLoadRect x7 = arg7.view.read (Elt Ideal) x7 := by
  rw [View.readAt_eq_ld]
  have hz : (![0, 0, 0] : Fin 3 → ℕ) = fun _ => 0 := by decide
  exact View.ld_unit_zero hz _ _

theorem whole_arg8 : arg8.view.readAt (Elt Ideal) (Rect.unit (s := S1x1x128x16) ![0, 0, 0, 0] S1x1x128x16.size inb_S1x1x128x16_S1x1x128x16_0_0_0_0).toLoadRect x8 = arg8.view.read (Elt Ideal) x8 := by
  rw [View.readAt_eq_ld]
  have hz : (![0, 0, 0, 0] : Fin 4 → ℕ) = fun _ => 0 := by decide
  exact View.ld_unit_zero hz _ _

theorem whole_arg10 : arg10.view.readAt (Elt Ideal) (Rect.unit (s := S1x16x1024) ![0, 0, 0] S1x16x1024.size inb_S1x16x1024_S1x16x1024_0_0_0).toLoadRect x10 = arg10.view.read (Elt Ideal) x10 := by
  rw [View.readAt_eq_ld]
  have hz : (![0, 0, 0] : Fin 3 → ℕ) = fun _ => 0 := by decide
  exact View.ld_unit_zero hz _ _

theorem whole_arg11 : arg11.view.readAt (Elt Ideal) (Rect.unit (s := S1x1024x128) ![0, 0, 0] S1x1024x128.size inb_S1x1024x128_S1x1024x128_0_0_0).toLoadRect x11 = arg11.view.read (Elt Ideal) x11 := by
  rw [View.readAt_eq_ld]
  have hz : (![0, 0, 0] : Fin 3 → ℕ) = fun _ => 0 := by decide
  exact View.ld_unit_zero hz _ _

theorem whole_arg12 : arg12.view.readAt (Elt Ideal) (Rect.unit (s := S1x128) ![0, 0] S1x128.size inb_S1x128_S1x128_0_0).toLoadRect x12 = arg12.view.read (Elt Ideal) x12 := by
  rw [View.readAt_eq_ld]
  have hz : (![0, 0] : Fin 2 → ℕ) = fun _ => 0 := by decide
  exact View.ld_unit_zero hz _ _

theorem Q_eq : (headRun.sl.v21 (F := Ideal) arg4 arg14 x4) = qM (arg4.view.read (Elt Ideal) x4) := by
  funext y
  obtain ⟨d, c, rfl⟩ : ∃ (d : Fin 128) (c : Fin 2048), y = ix2 d c := ⟨y 0, y 1, eq_ix2 y⟩
  have e : (headRun.sl.v21 (F := Ideal) arg4 arg14 x4) (ix2 d c) = arg14.view.read (Elt Ideal) (arg14.view.writes (Elt Ideal) arg14.view.junk (headRun.sl.H14_2 (F := Ideal) arg4 x4)) (ix2 d c) := by
    unfold headRun.sl.v21
    refine congrArg (arg14.view.read (Elt Ideal) (arg14.view.writes (Elt Ideal) arg14.view.junk (headRun.sl.H14_2 (F := Ideal) arg4 x4))) (funext fun a => Fin.ext ?_)
    match a with
    | ⟨0, _⟩ => show 0 + 1 * d.val = d.val; omega
    | ⟨1, _⟩ => show 0 + 1 * c.val = c.val; omega
  rw [e, headRun.sl.H14_2]
  show _ = if c.val < 1024 then (if d.val < 64 then (arg4.view.read (Elt Ideal) x4) (ix4 0 0 d (col c)) * qs else 0) else (if 64 ≤ d.val then (arg4.view.read (Elt Ideal) x4) (ix4 0 0 d (col c)) * qs else 0)
  by_cases hc : c.val < 1024
  · rw [View.read_writes_cons_unit_of_not_mem arg14.view _ _ _ _ _ rfl (1 : Fin 2) (Or.inl (show c.val < 1024 from hc))]
    refine (View.read_writes_cons_unit_of_mem arg14.view _ inb_S128x2048_S128x1024_0_0 _ _ _
      (show (Rect.unit (s := S128x2048) ![0, 0] S128x1024.size inb_S128x2048_S128x1024_0_0).shape.Idx from ix2 d (⟨c.val, hc⟩ : Fin 1024)) rfl (fun a => by
        match a with
        | ⟨0, _⟩ => show d.val = 0 + d.val; omega
        | ⟨1, _⟩ => show c.val = 0 + c.val; omega)).trans ?_
    rw [if_pos hc, whole_arg4, ← show (⟨c.val, hc⟩ : Fin 1024) = col c from Fin.ext (show c.val = c.val % 1024 by omega)]
    exact pay24 _ d _
  · refine (View.read_writes_cons_unit_of_mem arg14.view _ inb_S128x2048_S128x1024_0_1024 _ _ _
      (show (Rect.unit (s := S128x2048) ![0, 1024] S128x1024.size inb_S128x2048_S128x1024_0_1024).shape.Idx from ix2 d (⟨c.val - 1024, by omega⟩ : Fin 1024)) rfl (fun a => by
        match a with
        | ⟨0, _⟩ => show d.val = 0 + d.val; omega
        | ⟨1, _⟩ => show c.val = 1024 + (c.val - 1024); omega)).trans ?_
    rw [if_neg hc, whole_arg4, ← show (⟨c.val - 1024, by omega⟩ : Fin 1024) = col c from Fin.ext (show c.val - 1024 = c.val % 1024 by omega)]
    exact pay25 _ d _

theorem S_eq (k : Fin 16) (c : Fin 2048) : (headRun.sl.r (F := Ideal) arg4 arg7 arg10 arg14 x4 x7 x10) (ix2 k c) = sM (arg4.view.read (Elt Ideal) x4) (arg7.view.read (Elt Ideal) x7) (arg10.view.read (Elt Ideal) x10) k c := by
  unfold headRun.sl.r
  rw [pay26, Q_eq, whole_arg7, whole_arg10]
  rfl

theorem M_eq (c : Fin 2048) : (headRun.sl.r_1 (F := Ideal) arg4 arg7 arg10 arg14 x4 x7 x10) (ix2 0 c) = mM (arg4.view.read (Elt Ideal) x4) (arg7.view.read (Elt Ideal) x7) (arg10.view.read (Elt Ideal) x10) c := by
  unfold headRun.sl.r_1
  rw [pay27]
  exact congrArg (fun f => Finset.fold max (Ideal.ofBits FTy.f32 4286578688#32) f Finset.univ) (funext fun x => S_eq arg4 arg7 arg10 arg14 x4 x7 x10 x c)

theorem lo_eq (c : Fin 2048) : (headRun.sl.r_2 (F := Ideal) arg4 arg7 arg9 arg10 arg14 x4 x7 x9 x10) (ix2 0 c) = mM (arg4.view.read (Elt Ideal) x4) (arg7.view.read (Elt Ideal) x7) (arg10.view.read (Elt Ideal) x10) c - (arg9.view.read (Elt Ideal) x9) (ix4 0 0 0 (cl5 c)) * lg := by
  unfold headRun.sl.r_2
  rw [pay28, rd9row arg9 x9 _ 0 (show (![0, 0, 0, 0] : Fin 4 → ℕ) = ![0, (0 : Fin 5).val, 0, 0] from rfl), ← M_eq arg4 arg7 arg10 arg14 x4 x7 x10 c]
  rfl

theorem hi_eq (c : Fin 2048) : (headRun.sl.r_3 (F := Ideal) arg4 arg7 arg9 arg10 arg14 x4 x7 x9 x10) (ix2 0 c) = mM (arg4.view.read (Elt Ideal) x4) (arg7.view.read (Elt Ideal) x7) (arg10.view.read (Elt Ideal) x10) c - (arg9.view.read (Elt Ideal) x9) (ix4 0 4 0 (cl5 c)) * lg := by
  unfold headRun.sl.r_3
  rw [pay29, rd9row arg9 x9 _ 4 (show (![0, 4, 0, 0] : Fin 4 → ℕ) = ![0, (4 : Fin 5).val, 0, 0] from rfl), ← M_eq arg4 arg7 arg10 arg14 x4 x7 x10 c]
  rfl

theorem meta_eq (e : Fin 144) (c : Fin 2048) : pvs (fun d x => arg8.view.readAt (Elt Ideal) (Rect.unit (s := S1x1x128x16) ![0, 0, 0, 0] S1x1x128x16.size inb_S1x1x128x16_S1x1x128x16_0_0_0_0).toLoadRect x8 (ix4 0 0 d x)) (fun x => ex2 ((headRun.sl.r (F := Ideal) arg4 arg7 arg10 arg14 x4 x7 x10) (ix2 x c) - (headRun.sl.r_1 (F := Ideal) arg4 arg7 arg10 arg14 x4 x7 x10) (ix2 0 c))) e = aM (arg4.view.read (Elt Ideal) x4) (arg7.view.read (Elt Ideal) x7) (arg8.view.read (Elt Ideal) x8) (arg10.view.read (Elt Ideal) x10) e c := by
  rw [whole_arg8]
  exact congrArg (fun f => pvs (fun d x => (arg8.view.read (Elt Ideal) x8) (ix4 0 0 d x)) f e) (funext fun x => by rw [S_eq, M_eq])

theorem near_eq (p : Fin 16) (hp : p.val < 4) (e : Fin 144) (c : Fin 2048) :
    addT (arg6.view.read (Elt Ideal) x6) (iq i) p (nearV (headRun.sl.v21 (F := Ideal) arg4 arg14 x4) (headRun.sl.r_1 (F := Ideal) arg4 arg7 arg10 arg14 x4 x7 x10) (arg5.view.read (Elt Ideal) x5) (arg9.view.read (Elt Ideal) x9) (iq i) p) e c
      = pvs (fun d x => (arg6.view.read (Elt Ideal) x6) (ix4 0 (tl (iq i) p) d x)) (fun x => wH (arg4.view.read (Elt Ideal) x4) (arg5.view.read (Elt Ideal) x5) (arg7.view.read (Elt Ideal) x7) (arg9.view.read (Elt Ideal) x9) (arg10.view.read (Elt Ideal) x10) (iq i) p x c) e := by
  refine congrArg (fun f => pvs _ f e) (funext fun x => ?_)
  rw [wH, if_pos hp, nearV_apply, M_eq, Q_eq]
  rfl

theorem far_eq (p : Fin 16) (hp : ¬ p.val < 4) (e : Fin 144) (c : Fin 2048) :
    addT (arg6.view.read (Elt Ideal) x6) (iq i) p (farV (headRun.sl.v21 (F := Ideal) arg4 arg14 x4) (headRun.sl.r_2 (F := Ideal) arg4 arg7 arg9 arg10 arg14 x4 x7 x9 x10) (headRun.sl.r_3 (F := Ideal) arg4 arg7 arg9 arg10 arg14 x4 x7 x9 x10) (arg5.view.read (Elt Ideal) x5) (iq i) p) e c
      = pvs (fun d x => (arg6.view.read (Elt Ideal) x6) (ix4 0 (tl (iq i) p) d x)) (fun x => wH (arg4.view.read (Elt Ideal) x4) (arg5.view.read (Elt Ideal) x5) (arg7.view.read (Elt Ideal) x7) (arg9.view.read (Elt Ideal) x9) (arg10.view.read (Elt Ideal) x10) (iq i) p x c) e := by
  refine congrArg (fun f => pvs _ f e) (funext fun x => ?_)
  rw [wH, if_neg hp, farV_apply, lo_eq, hi_eq, Q_eq]
  rfl

theorem sum16 (f : Fin 16 → EReal) (a : EReal) :
    a + (f 0 + f 1 + f 2 + f 3) + (f 4 + f 5 + f 6 + f 7) + (f 8 + f 9 + f 10 + f 11) + (f 12 + f 13 + f 14 + f 15) = a + ∑ p, f p := by
  rw [show ∑ p, f p = f 0 + f 1 + f 2 + f 3 + f 4 + f 5 + f 6 + f 7 + f 8 + f 9 + f 10 + f 11 + f 12 + f 13 + f 14 + f 15 by
    simp only [Fin.sum_univ_succ, Finset.univ_unique, Finset.sum_singleton, Fin.sum_univ_zero, add_zero, add_assoc]
    rfl]
  simp only [add_assoc]

theorem headAcc_eq (e : Fin 144) (c : Fin 2048) : (headRun.sl.v492 (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 x8 x9 x10) (ix2 e c) = accH (arg4.view.read (Elt Ideal) x4) (arg5.view.read (Elt Ideal) x5) (arg6.view.read (Elt Ideal) x6) (arg7.view.read (Elt Ideal) x7) (arg8.view.read (Elt Ideal) x8) (arg9.view.read (Elt Ideal) x9) (arg10.view.read (Elt Ideal) x10) (iq i) e c := by
  rw [v492_eq, meta_eq]
  rw [near_eq _ _ _ _ _ _ _ _ _ _ _ _ _ _ (0 : Fin 16) (by decide), near_eq _ _ _ _ _ _ _ _ _ _ _ _ _ _ (1 : Fin 16) (by decide), near_eq _ _ _ _ _ _ _ _ _ _ _ _ _ _ (2 : Fin 16) (by decide), near_eq _ _ _ _ _ _ _ _ _ _ _ _ _ _ (3 : Fin 16) (by decide), far_eq _ _ _ _ _ _ _ _ _ _ _ _ _ _ (4 : Fin 16) (by decide), far_eq _ _ _ _ _ _ _ _ _ _ _ _ _ _ (5 : Fin 16) (by decide), far_eq _ _ _ _ _ _ _ _ _ _ _ _ _ _ (6 : Fin 16) (by decide), far_eq _ _ _ _ _ _ _ _ _ _ _ _ _ _ (7 : Fin 16) (by decide), far_eq _ _ _ _ _ _ _ _ _ _ _ _ _ _ (8 : Fin 16) (by decide), far_eq _ _ _ _ _ _ _ _ _ _ _ _ _ _ (9 : Fin 16) (by decide), far_eq _ _ _ _ _ _ _ _ _ _ _ _ _ _ (10 : Fin 16) (by decide), far_eq _ _ _ _ _ _ _ _ _ _ _ _ _ _ (11 : Fin 16) (by decide), far_eq _ _ _ _ _ _ _ _ _ _ _ _ _ _ (12 : Fin 16) (by decide), far_eq _ _ _ _ _ _ _ _ _ _ _ _ _ _ (13 : Fin 16) (by decide), far_eq _ _ _ _ _ _ _ _ _ _ _ _ _ _ (14 : Fin 16) (by decide), far_eq _ _ _ _ _ _ _ _ _ _ _ _ _ _ (15 : Fin 16) (by decide)]
  exact sum16 (fun p => pvs (fun d x => (arg6.view.read (Elt Ideal) x6) (ix4 0 (tl (iq i) p) d x)) (fun x => wH (arg4.view.read (Elt Ideal) x4) (arg5.view.read (Elt Ideal) x5) (arg7.view.read (Elt Ideal) x7) (arg9.view.read (Elt Ideal) x9) (arg10.view.read (Elt Ideal) x10) (iq i) p x c) e) _

theorem tailAcc_eq (e : Fin 144) (c : Fin 2048) : (tailRun.sl.v577 (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 x8 x9 x10) (ix2 e c) = accT (arg4.view.read (Elt Ideal) x4) (arg5.view.read (Elt Ideal) x5) (arg6.view.read (Elt Ideal) x6) (arg7.view.read (Elt Ideal) x7) (arg8.view.read (Elt Ideal) x8) (arg9.view.read (Elt Ideal) x9) (arg10.view.read (Elt Ideal) x10) (iq i) e c := by
  rw [v577_eq, Q_eq]
  exact congrArg₂ (fun f g => aS f g (sc (qM (arg4.view.read (Elt Ideal) x4)) (arg5.view.read (Elt Ideal) x5) (arg9.view.read (Elt Ideal) x9) (iq i)) (arg6.view.read (Elt Ideal) x6) 16 e c) (funext fun c => M_eq arg4 arg7 arg10 arg14 x4 x7 x10 c)
    (funext fun e => funext fun c => meta_eq arg4 arg7 arg8 arg10 arg14 x4 x7 x8 x10 e c)

theorem headRead (f13 : BufTy.Contents (Elt Ideal) arg13.view.ty) (f14 : BufTy.Contents (Elt Ideal) arg14.view.ty) (f15 : BufTy.Contents (Elt Ideal) arg15.view.ty)
    (f16 : BufTy.Contents (Elt Ideal) arg16.view.ty) (f17 : BufTy.Contents (Elt Ideal) arg17.view.ty) :
    (headRun (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17).2.1 = arg13.view.writes (Elt Ideal) f13 [⟨Rect.unit (s := S1x1024x128) ![0, 0, 0] S1x1024x128.size inb_S1x1024x128_S1x1024x128_0_0_0, k0_pay1 (headRun.sl.r_25 (F := Ideal) arg11 x11) (headRun.sl.r_26 (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x12) (headRun.sl.r_27 (F := Ideal) arg11 x11)⟩] := by
  delta headRun id
  dsimp only

theorem tailRead (f13 : BufTy.Contents (Elt Ideal) arg13.view.ty) (f14 : BufTy.Contents (Elt Ideal) arg14.view.ty) (f15 : BufTy.Contents (Elt Ideal) arg15.view.ty)
    (f16 : BufTy.Contents (Elt Ideal) arg16.view.ty) (f17 : BufTy.Contents (Elt Ideal) arg17.view.ty) (g13 g14 g15 g16 g17) :
    (tailRun (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10 x11 x12 f13 f14 f15 f16 f17 g13 g14 g15 g16 g17).1 = arg13.view.writes (Elt Ideal) g13 [⟨Rect.unit (s := S1x1024x128) ![0, 0, 0] S1x1024x128.size inb_S1x1024x128_S1x1024x128_0_0_0, k0_pay3 (tailRun.sl.r_1 (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10) (tailRun.sl.r_2 (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x10) (arg11.view.readAt (Elt Ideal) (Rect.unit (s := S1x1024x128) ![0, 0, 0] S1x1024x128.size inb_S1x1024x128_S1x1024x128_0_0_0).toLoadRect x11) (arg12.view.readAt (Elt Ideal) (Rect.unit (s := S1x128) ![0, 0] S1x128.size inb_S1x128_S1x128_0_0).toLoadRect x12)⟩] := by
  delta tailRun id
  dsimp only

end Out

end Cert.AttnV
-- ==== Proof.AttnLeft.lean ====
/-
  Hand-written, untrusted. What the attention's body leaves, entry by entry, from the blocks it reads: one of two accumulators, and from it
  the difference of the two maps' averages, its norm, its weight and its gate.
-/
module

public import proofs.«01_k».proof.Proof.AttnOut

@[expose] public section

set_option maxRecDepth 16384

noncomputable section

namespace Cert.AttnV

open Cert.KernelIdeal Cert.KernelIdeal.Gen Cert.AttnA
open Idealize.ShloMosaic Idealize.ShloMosaic.TcCoe

section Left

variable (dv : Dev nD) (i : grid0.Coords) (arg3 : Memref sig .tc .smem S1 .f32) (harg3 : arg3.IsWhole) (arg4 : Memref sig .tc .vmem S1x1x128x1024 .bf16) (harg4 : arg4.IsWhole) (arg5 : Memref sig .tc .vmem S1x8192x128 .bf16) (harg5 : arg5.IsWhole) (arg6 : Memref sig .tc .vmem S1x16x128x512 .bf16) (harg6 : arg6.IsWhole) (arg7 : Memref sig .tc .vmem S1x16x128 .bf16) (harg7 : arg7.IsWhole) (arg8 : Memref sig .tc .vmem S1x1x128x16 .bf16) (harg8 : arg8.IsWhole) (arg9 : Memref sig .tc .vmem S1x5x512x512 .f32) (harg9 : arg9.IsWhole) (arg10 : Memref sig .tc .vmem S1x16x1024 .f32) (harg10 : arg10.IsWhole) (arg11 : Memref sig .tc .vmem S1x1024x128 .bf16) (harg11 : arg11.IsWhole) (arg12 : Memref sig .tc .vmem S1x128 .f32) (harg12 : arg12.IsWhole) (arg13 : Memref sig .tc .vmem S1x1024x128 .bf16) (harg13 : arg13.IsWhole) (arg14 : Memref sig .tc .vmem S128x2048 .bf16) (harg14 : arg14.IsWhole) (arg15 : Memref sig .tc .vmem S1x2048 .f32) (harg15 : arg15.IsWhole) (arg16 : Memref sig .tc .vmem S144x2048 .f32) (harg16 : arg16.IsWhole) (arg17 : Memref sig .tc .vmem S2x512x2048 .bf16) (harg17 : arg17.IsWhole)
  (x3 : BufTy.Contents (Elt Ideal) arg3.view.ty) (x4 : BufTy.Contents (Elt Ideal) arg4.view.ty)
  (x5 : BufTy.Contents (Elt Ideal) arg5.view.ty) (x6 : BufTy.Contents (Elt Ideal) arg6.view.ty)
  (x7 : BufTy.Contents (Elt Ideal) arg7.view.ty) (x8 : BufTy.Contents (Elt Ideal) arg8.view.ty)
  (x9 : BufTy.Contents (Elt Ideal) arg9.view.ty) (x10 : BufTy.Contents (Elt Ideal) arg10.view.ty)
  (x11 : BufTy.Contents (Elt Ideal) arg11.view.ty) (x12 : BufTy.Contents (Elt Ideal) arg12.view.ty)

theorem lam_eq : arg3.view.readAt (Elt Ideal) (Rect.unit (s := S1) ![0] S1.size inb_S1_S1_0).toLoadRect x3 (Shape.Idx.first (by decide)) = arg3.view.read (Elt Ideal) x3 (ix1 0) :=
  congrArg (arg3.view.read (Elt Ideal) x3) (funext fun a => Fin.ext (by
    match a with
    | ⟨0, _⟩ => rfl))

theorem left_out (v3 : Vec Ideal S1 .f32) (v4 : Vec Ideal S1x1x128x1024 .bf16) (v5 : Vec Ideal S1x8192x128 .bf16) (v6 : Vec Ideal S1x16x128x512 .bf16) (v7 : Vec Ideal S1x16x128 .bf16) (v8 : Vec Ideal S1x1x128x16 .bf16) (v9 : Vec Ideal S1x5x512x512 .f32) (v10 : Vec Ideal S1x16x1024 .f32) (v11 : Vec Ideal S1x1024x128 .bf16) (v12 : Vec Ideal S1x128 .f32) (X : Vec Ideal S1x1024x128 .bf16)
    (h : Left (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v8 v9 v10 v11 v12 X) :
    ∃ a : Vec Ideal S144x2048 .f32, ((∀ e c, a (ix2 e c) = accH v4 v5 v6 v7 v8 v9 v10 (iq i) e c) ∨ (∀ e c, a (ix2 e c) = accT v4 v5 v6 v7 v8 v9 v10 (iq i) e c))
      ∧ ∀ p d, X (ix3 0 p d) = fin128 (odiff a (v3 (ix1 0)) p) (v12 (ix2 0 d)) (v11 (ix3 0 p d)) d := by
  obtain ⟨x3, rfl, x4, rfl, x5, rfl, x6, rfl, x7, rfl, x8, rfl, x9, rfl, x10, rfl, x11, rfl, x12, rfl, f13, f14, f15, f16, f17, h⟩ := h
  rcases h with h | h
  · refine ⟨(headRun.sl.v492 (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 x8 x9 x10), Or.inl (fun e c => headAcc_eq _ _ _ _ _ _ _ _ _ _ _ _ _ _ _ _ _ _ _ _ _ _ _ _ _ _ _ _ _ _ _ _  _ _ _ _ _ _ _ e c), fun p d => ?_⟩
    rw [h, headRead, headRun.sl.r_25, headRun.sl.r_26, headRun.sl.r_27, whole_arg11, whole_arg12, headRun.sl.r_22]
    refine (View.read_writes_cons_unit_of_mem arg13.view f13 inb_S1x1024x128_S1x1024x128_0_0_0 _ [] _ (show (Rect.unit (s := S1x1024x128) ![0, 0, 0] S1x1024x128.size inb_S1x1024x128_S1x1024x128_0_0_0).shape.Idx from ix3 0 p d) rfl (fun a => by
      match a with
      | ⟨0, _⟩ => rfl
      | ⟨1, _⟩ => show p.val = 0 + p.val; omega
      | ⟨2, _⟩ => show d.val = 0 + d.val; omega)).trans ?_
    refine (pay1 _ _ _ _ p d).trans ?_
    exact congrArg (fun l => fin128 (odiff _ l p) _ _ d) (lam_eq arg3 x3)
  · refine ⟨(tailRun.sl.v577 (F := Ideal) dv i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 x8 x9 x10), Or.inr (fun e c => tailAcc_eq _ _ _ _ _ _ _ _ _ _ _ _ _ _ _ _ _ _ _ _ _ _ _ _ _ _ _ _ _ _ _ _  _ _ _ _ _ _ _ e c), fun p d => ?_⟩
    rw [h, tailRead, tailRun.sl.r_1, tailRun.sl.r_2, whole_arg11, whole_arg12, tailRun.sl.r]
    refine (View.read_writes_cons_unit_of_mem arg13.view _ inb_S1x1024x128_S1x1024x128_0_0_0 _ [] _ (show (Rect.unit (s := S1x1024x128) ![0, 0, 0] S1x1024x128.size inb_S1x1024x128_S1x1024x128_0_0_0).shape.Idx from ix3 0 p d) rfl (fun a => by
      match a with
      | ⟨0, _⟩ => rfl
      | ⟨1, _⟩ => show p.val = 0 + p.val; omega
      | ⟨2, _⟩ => show d.val = 0 + d.val; omega)).trans ?_
    refine (pay3 _ _ _ _ p d).trans ?_
    exact congrArg (fun l => fin128 (odiff _ l p) _ _ d) (lam_eq arg3 x3)

end Left

end Cert.AttnV
-- ==== Proof.AttnGather.lean ====
/-
  Hand-written, untrusted. The lookup of the position bias: what the three gathers of the bias table read, entry by entry, as one
  function of the row's number.
-/
module

public import proofs.«01_k».proof.Proof.Gen.ReferenceIdeal.Run
public import proofs.«01_k».proof.Proof.AttnPay
public import Idealize.ShloMosaic.Lib.Pointwise

@[expose] public section

set_option maxRecDepth 16384

noncomputable section

namespace Cert.AttnV

open Idealize.ShloMosaic Idealize.ShloMosaic.TcCoe

/-- A row's number, read signed and clamped into the table's 32 rows. -/
def crow (r : BitVec 32) : Fin 32 := ⟨min r.toInt.toNat 31, by omega⟩

/-- The bucket of a relative position `r`: its sign's half, then `|r|` itself below 8 and a logarithmic scale up to 15 from there. -/
def bkt (r : BitVec 32) : BitVec 32 :=
  IntOp.addi (Scalar.select (IntOp.cmpi CmpIPredicate.sgt r 0#32) 16#32 0#32)
    (Scalar.select (IntOp.cmpi CmpIPredicate.slt (IntOp.absi r) 8#32) (IntOp.absi r)
      (IntOp.minsi (IntOp.addi 8#32 (Ideal.fptosi 32 (Ideal.div (Ideal.log (Ideal.div
        (FloatOps.sitofp (F := Ideal) FTy.f32 (IntOp.maxsi (IntOp.absi r) 1#32)) (Ideal.ofBits FTy.f32 1090519040#32)))
          (Ideal.ofBits FTy.f32 1076982296#32) * Ideal.ofBits FTy.f32 1090519040#32))) 15#32))

/-- The row looked up: a negative bucket would count from the end. -/
def gix (r : BitVec 32) : BitVec 32 :=
  Scalar.select (IntOp.cmpi CmpIPredicate.slt (bkt r) 0#32) (IntOp.addi (bkt r) 32#32) (bkt r)

/-- The bias of head `h` at relative position `r`. -/
def tb (w : (⟨2, ![32, 12]⟩ : Shape).Idx → EReal) (h : Fin 4) (r : BitVec 32) : EReal := w (ix2 (crow (gix r)) ⟨h.val, by omega⟩)

/-- The reference's lookup, over queries and keys. -/
theorem gatherR (x : Cert.ReferenceIdeal.S32x4.Idx → EReal) (i : IVec Cert.ReferenceIdeal.S8192x8320x1 32) (q : Fin 8192) (k : Fin 8320) (h : Fin 4) :
    Host.gather Cert.ReferenceIdeal.gather_S32x4_S8192x8320x1_S8192x8320x4_2_0_n_n_0_2_14 x i (ix3 q k h) = x (ix2 (crow (i (ix3 q k 0))) h) := by
  refine congrArg x (funext fun a => Fin.ext ?_)
  have hs : Cert.ReferenceIdeal.gather_S32x4_S8192x8320x1_S8192x8320x4_2_0_n_n_0_2_14.siIdx (ix3 q k h) ⟨0, by decide⟩ = ix3 q k 0 := by
    funext b
    match b with
    | ⟨0, _⟩ => rfl
    | ⟨1, _⟩ => rfl
    | ⟨2, _⟩ => rfl
  match a with
  | ⟨0, _⟩ =>
    show min (i (Cert.ReferenceIdeal.gather_S32x4_S8192x8320x1_S8192x8320x4_2_0_n_n_0_2_14.siIdx (ix3 q k h) ⟨0, by decide⟩)).toInt.toNat 31 + 0 + 0 = _
    rw [hs]; rfl
  | ⟨1, _⟩ => show 0 + 0 + h.val = h.val; omega

/-- The kernel's lookup, over the tiles of its five-tile table. -/
theorem gatherA (x : Cert.KernelIdeal.S32x4.Idx → EReal) (i : IVec Cert.KernelIdeal.S5x512x512x1 32) (t : Fin 5) (k q : Fin 512) (h : Fin 4) :
    Host.gather Cert.KernelIdeal.gather_S32x4_S5x512x512x1_S5x512x512x4_3_0_n_n_0_3_14 x i (ix4 t k q h) = x (ix2 (crow (i (ix4 t k q 0))) h) := by
  refine congrArg x (funext fun a => Fin.ext ?_)
  have hs : Cert.KernelIdeal.gather_S32x4_S5x512x512x1_S5x512x512x4_3_0_n_n_0_3_14.siIdx (ix4 t k q h) ⟨0, by decide⟩ = ix4 t k q 0 := by
    funext b
    match b with
    | ⟨0, _⟩ => rfl
    | ⟨1, _⟩ => rfl
    | ⟨2, _⟩ => rfl
    | ⟨3, _⟩ => rfl
  match a with
  | ⟨0, _⟩ =>
    show min (i (Cert.KernelIdeal.gather_S32x4_S5x512x512x1_S5x512x512x4_3_0_n_n_0_3_14.siIdx (ix4 t k q h) ⟨0, by decide⟩)).toInt.toNat 31 + 0 + 0 = _
    rw [hs]; rfl
  | ⟨1, _⟩ => show 0 + 0 + h.val = h.val; omega

/-- The kernel's lookup, over the meta tokens. -/
theorem gatherM (x : Cert.KernelIdeal.S32x4.Idx → EReal) (i : IVec Cert.KernelIdeal.S16x8192x1 32) (k : Fin 16) (q : Fin 8192) (h : Fin 4) :
    Host.gather Cert.KernelIdeal.gather_S32x4_S16x8192x1_S16x8192x4_2_0_n_n_0_2_14 x i (ix3 k q h) = x (ix2 (crow (i (ix3 k q 0))) h) := by
  refine congrArg x (funext fun a => Fin.ext ?_)
  have hs : Cert.KernelIdeal.gather_S32x4_S16x8192x1_S16x8192x4_2_0_n_n_0_2_14.siIdx (ix3 k q h) ⟨0, by decide⟩ = ix3 k q 0 := by
    funext b
    match b with
    | ⟨0, _⟩ => rfl
    | ⟨1, _⟩ => rfl
    | ⟨2, _⟩ => rfl
  match a with
  | ⟨0, _⟩ =>
    show min (i (Cert.KernelIdeal.gather_S32x4_S16x8192x1_S16x8192x4_2_0_n_n_0_2_14.siIdx (ix3 k q h) ⟨0, by decide⟩)).toInt.toNat 31 + 0 + 0 = _
    rw [hs]; rfl
  | ⟨1, _⟩ => show 0 + 0 + h.val = h.val; omega

end Cert.AttnV

end
-- ==== Proof.AttnTab.lean ====
/-
  Hand-written, untrusted. The kernel's two bias tables as the host operations leave them, read at one index: the five tiles of biases by
  relative position, and the memory tokens' biases.
-/
module

public import proofs.«01_k».proof.Proof.AttnGather

@[expose] public section

set_option maxRecDepth 16384

noncomputable section

namespace Cert.AttnV

open Cert.KernelIdeal Cert.KernelIdeal.Gen
open Idealize.ShloMosaic Idealize.ShloMosaic.TcCoe

/-- The relative positions of the five tiles. -/
def relAv : IVec S5x512x512 32 :=
  subi (broadcastInDim S5x512x512 ![0, 1, 2] bcast_S5x512x1_S5x512x512_0_1_2
      (addi (broadcastInDim S5x512x1 ![0, 1, 2] bcast_S5x1x1_S5x512x1_0_1_2
          (muli (broadcastInDim S5x1x1 ![0] bcast_S5_S5x1x1_0 (subi (iotaInDim S5 32 0) (broadcastInDim S5 ![] bcast_S_S5 (constantI S_ 32 2#32))))
            (broadcastInDim S5x1x1 ![] bcast_S_S5x1x1 (constantI S_ 32 512#32))))
        (broadcastInDim S5x512x1 ![0, 1, 2] bcast_S1x512x1_S5x512x1_0_1_2 (broadcastInDim S1x512x1 ![1] bcast_S512_S1x512x1_1 (iotaInDim S512 32 0)))))
    (broadcastInDim S5x512x512 ![0, 1, 2] bcast_S1x1x512_S5x512x512_0_1_2 (broadcastInDim S1x1x512 ![2] bcast_S512_S1x1x512_2 (iotaInDim S512 32 0)))

/-- Their buckets. -/
def bktA (r : IVec S5x512x512 32) : IVec S5x512x512 32 :=
  addi (select (cmpi CmpIPredicate.sgt r (broadcastInDim S5x512x512 ![] bcast_S_S5x512x512 (constantI S_ 32 0#32)))
      (broadcastInDim S5x512x512 ![] bcast_S_S5x512x512 (constantI S_ 32 16#32)) (broadcastInDim S5x512x512 ![] bcast_S_S5x512x512 (constantI S_ 32 0#32)))
    (select (cmpi CmpIPredicate.slt (absi r) (broadcastInDim S5x512x512 ![] bcast_S_S5x512x512 (constantI S_ 32 8#32))) (absi r)
      (minsi (addi (broadcastInDim S5x512x512 ![] bcast_S_S5x512x512 (constantI S_ 32 8#32))
        (fptosi 32 (mulf (Host.divf (Host.log (Host.divf (sitofp (F := Ideal) .f32 (maxsi (absi r) (broadcastInDim S5x512x512 ![] bcast_S_S5x512x512 (constantI S_ 32 1#32))))
          (broadcastInDim S5x512x512 ![] bcast_S_S5x512x512 (constant S_ .f32 0x41000000#32)))) (broadcastInDim S5x512x512 ![] bcast_S_S5x512x512 (constant S_ .f32 0x40317218#32)))
            (broadcastInDim S5x512x512 ![] bcast_S_S5x512x512 (constant S_ .f32 0x41000000#32)))))
        (broadcastInDim S5x512x512 ![] bcast_S_S5x512x512 (constantI S_ 32 15#32))))

/-- The rows looked up, from the buckets. -/
def ixA (x : IVec S5x512x512 32) : IVec S5x512x512x1 32 :=
  broadcastInDim S5x512x512x1 ![0, 1, 2] bcast_S5x512x512_S5x512x512x1_0_1_2
    (select (cmpi CmpIPredicate.slt x (broadcastInDim S5x512x512 ![] bcast_S_S5x512x512 (constantI S_ 32 0#32)))
      (addi x (broadcastInDim S5x512x512 ![] bcast_S_S5x512x512 (constantI S_ 32 32#32))) x)

theorem relAv_apply (t : Fin 5) (k q : Fin 512) : relAv (ix3 t k q)
    = IntOp.subi (IntOp.addi (IntOp.muli (IntOp.subi (BitVec.ofNat 32 t.val) 2#32) 512#32) (BitVec.ofNat 32 k.val)) (BitVec.ofNat 32 q.val) := by
  unfold relAv
  pointwise

theorem bktA_apply (r : IVec S5x512x512 32) (t : Fin 5) (k q : Fin 512) : bktA r (ix3 t k q) = bkt (r (ix3 t k q)) := by
  unfold bktA
  pointwise
  rfl

theorem ixA_apply (x : IVec S5x512x512 32) (t : Fin 5) (k q : Fin 512) : ixA x (ix4 t k q 0)
    = Scalar.select (IntOp.cmpi CmpIPredicate.slt (x (ix3 t k q)) 0#32) (IntOp.addi (x (ix3 t k q)) 32#32) (x (ix3 t k q)) := by
  unfold ixA
  pointwise

theorem slK (w : S32x12.Idx → EReal) (i : Fin 32) (h : Fin 4) :
    extractStridedSlice S32x4 ![0, 0] w slices_S32x12_S32x4_0_0 (ix2 i h) = w (ix2 i ⟨h.val, by omega⟩) := by
  pointwise

theorem trA (f : S5x512x512x4.Idx → EReal) (h : Fin 4) (t : Fin 5) (k q : Fin 512) :
    transpose S4x5x512x512 [3, 0, 1, 2] f transposes_S5x512x512x4_S4x5x512x512_3_0_1_2 (ix4 h t k q) = f (ix4 t k q h) := by
  pointwise

variable (m : (ℓ : Loc nD τ sig) → Buf (Elt Ideal) ℓ)

/-- The bias table. -/
abbrev W6 (c : Dev nD) : S32x12.Idx → EReal := m ((c : Thread nD τ).loc main_arg6)

theorem V_v66 (c : Dev nD) (h : Fin 4) (t : Fin 5) (k q : Fin 512) : V m c main_v66 (ix4 h t k q) = tb (W6 m c) h
    (IntOp.subi (IntOp.addi (IntOp.muli (IntOp.subi (BitVec.ofNat 32 t.val) 2#32) 512#32) (BitVec.ofNat 32 k.val)) (BitVec.ofNat 32 q.val)) := by
  have e : (V m c main_v66 : S4x5x512x512.Idx → EReal) = transpose S4x5x512x512 [3, 0, 1, 2] (Host.gather gather_S32x4_S5x512x512x1_S5x512x512x4_3_0_n_n_0_3_14
      (extractStridedSlice S32x4 ![0, 0] (W6 m c) slices_S32x12_S32x4_0_0) (ixA (bktA relAv))) transposes_S5x512x512x4_S4x5x512x512_3_0_1_2 := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results_simp
    rfl
  refine (congrFun e _).trans ((trA _ h t k q).trans ((gatherA _ _ t k q h).trans ((slK _ _ h).trans ?_)))
  unfold tb gix
  rw [ixA_apply, bktA_apply, relAv_apply]

/-- The relative positions of the memory tokens. -/
def relMv : IVec S16x8192 32 :=
  subi (broadcastInDim S16x8192 ![0, 1] bcast_S16x1_S16x8192_0_1 (broadcastInDim S16x1 ![0] bcast_S16_S16x1_0 (iotaInDim S16 32 0)))
    (broadcastInDim S16x8192 ![0, 1] bcast_S1x8192_S16x8192_0_1
      (addi (broadcastInDim S1x8192 ![1] bcast_S8192_S1x8192_1 (iotaInDim S8192 32 0)) (broadcastInDim S1x8192 ![] bcast_S_S1x8192 (constantI S_ 32 16#32))))

/-- Their buckets. -/
def bktM (r : IVec S16x8192 32) : IVec S16x8192 32 :=
  addi (select (cmpi CmpIPredicate.sgt r (broadcastInDim S16x8192 ![] bcast_S_S16x8192 (constantI S_ 32 0#32)))
      (broadcastInDim S16x8192 ![] bcast_S_S16x8192 (constantI S_ 32 16#32)) (broadcastInDim S16x8192 ![] bcast_S_S16x8192 (constantI S_ 32 0#32)))
    (select (cmpi CmpIPredicate.slt (absi r) (broadcastInDim S16x8192 ![] bcast_S_S16x8192 (constantI S_ 32 8#32))) (absi r)
      (minsi (addi (broadcastInDim S16x8192 ![] bcast_S_S16x8192 (constantI S_ 32 8#32))
        (fptosi 32 (mulf (Host.divf (Host.log (Host.divf (sitofp (F := Ideal) .f32 (maxsi (absi r) (broadcastInDim S16x8192 ![] bcast_S_S16x8192 (constantI S_ 32 1#32))))
          (broadcastInDim S16x8192 ![] bcast_S_S16x8192 (constant S_ .f32 0x41000000#32)))) (broadcastInDim S16x8192 ![] bcast_S_S16x8192 (constant S_ .f32 0x40317218#32)))
            (broadcastInDim S16x8192 ![] bcast_S_S16x8192 (constant S_ .f32 0x41000000#32)))))
        (broadcastInDim S16x8192 ![] bcast_S_S16x8192 (constantI S_ 32 15#32))))

/-- The rows looked up, from the buckets. -/
def ixM (x : IVec S16x8192 32) : IVec S16x8192x1 32 :=
  broadcastInDim S16x8192x1 ![0, 1] bcast_S16x8192_S16x8192x1_0_1
    (select (cmpi CmpIPredicate.slt x (broadcastInDim S16x8192 ![] bcast_S_S16x8192 (constantI S_ 32 0#32)))
      (addi x (broadcastInDim S16x8192 ![] bcast_S_S16x8192 (constantI S_ 32 32#32))) x)

theorem relMv_apply (k : Fin 16) (q : Fin 8192) : relMv (ix2 k q) = IntOp.subi (BitVec.ofNat 32 k.val) (IntOp.addi (BitVec.ofNat 32 q.val) 16#32) := by
  unfold relMv
  pointwise

theorem bktM_apply (r : IVec S16x8192 32) (k : Fin 16) (q : Fin 8192) : bktM r (ix2 k q) = bkt (r (ix2 k q)) := by
  unfold bktM
  pointwise
  rfl

theorem ixM_apply (x : IVec S16x8192 32) (k : Fin 16) (q : Fin 8192) : ixM x (ix3 k q 0)
    = Scalar.select (IntOp.cmpi CmpIPredicate.slt (x (ix2 k q)) 0#32) (IntOp.addi (x (ix2 k q)) 32#32) (x (ix2 k q)) := by
  unfold ixM
  pointwise

theorem trM (f : S16x8192x4.Idx → EReal) (h : Fin 4) (k : Fin 16) (q : Fin 8192) :
    transpose S4x16x8192 [2, 0, 1] f transposes_S16x8192x4_S4x16x8192_2_0_1 (ix3 h k q) = f (ix3 k q h) := by
  pointwise

theorem V_v108 (c : Dev nD) (h : Fin 4) (k : Fin 16) (q : Fin 8192) : V m c main_v108 (ix3 h k q) = tb (W6 m c) h
    (IntOp.subi (BitVec.ofNat 32 k.val) (IntOp.addi (BitVec.ofNat 32 q.val) 16#32)) := by
  have e : (V m c main_v108 : S4x16x8192.Idx → EReal) = transpose S4x16x8192 [2, 0, 1] (Host.gather gather_S32x4_S16x8192x1_S16x8192x4_2_0_n_n_0_2_14
      (extractStridedSlice S32x4 ![0, 0] (W6 m c) slices_S32x12_S32x4_0_0) (ixM (bktM relMv))) transposes_S16x8192x4_S4x16x8192_2_0_1 := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results_simp
    rfl
  refine (congrFun e _).trans ((trM _ h k q).trans ((gatherM _ _ k q h).trans ((slK _ _ h).trans ?_)))
  unfold tb gix
  rw [ixM_apply, bktM_apply, relMv_apply]

end Cert.AttnV

end
-- ==== Proof.AttnRefRead.lean ====
/-
  Hand-written, untrusted. The reference's named intermediate arrays read at one index: the scores, the weights and the weighted sums.
-/
module

public import proofs.«01_k».proof.Proof.AttnGather

@[expose] public section

set_option maxRecDepth 16384

noncomputable section

namespace Cert.AttnV

open Cert.ReferenceIdeal Cert.ReferenceIdeal.Value
open Idealize.ShloMosaic Idealize.ShloMosaic.TcCoe

/-- The relative position of key `k` (of the padded 8320) to query `q`, as computed. -/
def relR (q : Fin 8192) (k : Fin 8320) : BitVec 32 := IntOp.subi (IntOp.subi (BitVec.ofNat 32 k.val) 112#32) (IntOp.addi (BitVec.ofNat 32 q.val) 16#32)

/-- Column `64 u + x` of head `h`. -/
abbrev hc (h : Fin 4) (u : Fin 2) (x : Fin 64) : Fin 512 := ⟨h.val * 128 + u.val * 64 + x.val, by omega⟩
/-- Column `d` of head `h`. -/
abbrev hd (h : Fin 4) (d : Fin 128) : Fin 512 := ⟨h.val * 128 + d.val, by omega⟩

/-- Keys or values with the memory tokens in front and 112 rows of padding before them. -/
def padd (am : S16x512.Idx → EReal) (a : S8x8192x512.Idx → EReal) (b : Fin 8) (k : Fin 8320) (x : Fin 512) : EReal :=
  if k.val < 112 then 0 else if h2 : k.val - 112 < 16 then am (ix2 ⟨k.val - 112, h2⟩ x) else a (ix3 b ⟨k.val - 112 - 16, by omega⟩ x)

theorem sitofp0 : FloatOps.sitofp (F := Ideal) FTy.f32 0#32 = (0 : EReal) := by
  show (((0#32 : BitVec 32).toInt : ℝ) : EReal) = 0
  simp

variable (V0 : Idealize.ShloMosaic.Valuation τ sig (Elt Ideal))

/-- The arguments. -/
abbrev R0 : S8x8192x512.Idx → EReal := V0 (Proc.devRef .tc main_arg0)
abbrev R1 : S8x8192x512.Idx → EReal := V0 (Proc.devRef .tc main_arg1)
abbrev R2 : S8x8192x512.Idx → EReal := V0 (Proc.devRef .tc main_arg2)
abbrev R4 : S16x512.Idx → EReal := V0 (Proc.devRef .tc main_arg4)
abbrev R5 : S16x512.Idx → EReal := V0 (Proc.devRef .tc main_arg5)
abbrev R6 : S32x12.Idx → EReal := V0 (Proc.devRef .tc main_arg6)
abbrev R7 : S64.Idx → EReal := V0 (Proc.devRef .tc main_arg7)
abbrev R8 : S64.Idx → EReal := V0 (Proc.devRef .tc main_arg8)
abbrev R9 : S64.Idx → EReal := V0 (Proc.devRef .tc main_arg9)
abbrev R10 : S64.Idx → EReal := V0 (Proc.devRef .tc main_arg10)
/-- The scores, their exponentials and the weights. -/
abbrev T72 : S8x4x2x8192x8320.Idx → EReal := res_main_v72 (F := Ideal) V0
abbrev T79 : S8x4x2x8192x8320.Idx → EReal := res_main_v79 (F := Ideal) V0
abbrev T83 : S8x4x2x8192x8320.Idx → EReal := res_main_v83 (F := Ideal) V0
abbrev T92 : S8x8192x4x128.Idx → EReal := res_main_v92 (F := Ideal) V0

theorem r59 (q : Fin 8192) (k : Fin 8320) : (res_main_v59 (F := Ideal) V0) (ix2 q k) = bkt (relR q k) := by
  unfold res_main_v59 res_main_v39 res_main_v35 res_main_v2
  simp only [id_eq]
  pointwise
  rfl

theorem rgix (q : Fin 8192) (k : Fin 8320) :
    (broadcastInDim S8192x8320x1 ![0, 1] Gen.bcast_S8192x8320_S8192x8320x1_0_1 (select (cmpi .slt (res_main_v59 (F := Ideal) V0) (broadcastInDim S8192x8320 ![] Gen.bcast_S_S8192x8320 (constantI S_ 32 0#32))) (addi (res_main_v59 (F := Ideal) V0) (broadcastInDim S8192x8320 ![] Gen.bcast_S_S8192x8320 (constantI S_ 32 32#32))) (res_main_v59 (F := Ideal) V0))) (ix3 q k 0)
      = gix (relR q k) := by
  unfold gix
  rw [← r59 V0 q k]
  generalize res_main_v59 (F := Ideal) V0 = X
  pointwise

theorem sl6 (w : S32x12.Idx → EReal) (i : Fin 32) (h : Fin 4) :
    extractStridedSlice S32x4 ![0, 0] w Gen.slices_S32x12_S32x4_0_0 (ix2 i h) = w (ix2 i ⟨h.val, by omega⟩) := by
  pointwise

theorem pad_eq (am : S16x512.Idx → EReal) (a : S8x8192x512.Idx → EReal) (b : Fin 8) (k : Fin 8320) (x : Fin 512) :
    (if h_1 : (112 ≤ k.val ∧ k.val - 112 < 8208) ∧ x.val < 512 then
        if h_2 : k.val - 112 < 16 then am (ix2 ⟨k.val - 112, h_2⟩ x) else a (ix3 b ⟨k.val - 112 - 16, by omega⟩ x)
      else FloatOps.sitofp (F := Ideal) FTy.f32 0#32) = padd am a b k x := by
  unfold padd
  by_cases h : k.val < 112
  · rw [dif_neg (by omega), if_pos h, sitofp0]
  · rw [dif_pos (by omega), if_neg h]

/-- The scores: `q·k / 8` plus the bias, the padding masked. -/
theorem r72 (b : Fin 8) (h : Fin 4) (u : Fin 2) (q : Fin 8192) (k : Fin 8320) : T72 V0 (ix5 b h u q k)
    = Scalar.select (IntOp.cmpi CmpIPredicate.sge (IntOp.subi (BitVec.ofNat 32 k.val) 112#32) 0#32)
      ((∑ x : Fin 64, R0 V0 (ix3 b q (hc h u x)) * padd (R4 V0) (R1 V0) b k (hc h u x))
          * Ideal.ofBits FTy.f32 1040187392#32 + tb (R6 V0) h (relR q k)) (Ideal.ofBits FTy.f32 4286578688#32) := by
  unfold T72 res_main_v72 R0 R1 R4 R6
  have hG := fun k => gatherR (extractStridedSlice S32x4 ![0, 0] (V0 (Proc.devRef .tc main_arg6)) Gen.slices_S32x12_S32x4_0_0) (broadcastInDim S8192x8320x1 ![0, 1] Gen.bcast_S8192x8320_S8192x8320x1_0_1 (select (cmpi .slt (res_main_v59 (F := Ideal) V0) (broadcastInDim S8192x8320 ![] Gen.bcast_S_S8192x8320 (constantI S_ 32 0#32))) (addi (res_main_v59 (F := Ideal) V0) (broadcastInDim S8192x8320 ![] Gen.bcast_S_S8192x8320 (constantI S_ 32 32#32))) (res_main_v59 (F := Ideal) V0))) q k h
  revert hG
  generalize Host.gather _ _ _ = G
  intro hG
  simp only [rgix] at hG
  have hG' := fun k => (hG k).trans (sl6 (V0 (Proc.devRef .tc main_arg6)) (crow (gix (relR q k))) h)
  clear hG
  rw [show tb (V0 (Proc.devRef .tc main_arg6)) h (relR q k) = G (ix3 q k h) from (hG' k).symm]
  clear hG'
  unfold res_main_v2
  generalize V0 (Proc.devRef .tc main_arg0) = a0
  generalize V0 (Proc.devRef .tc main_arg1) = a1
  generalize V0 (Proc.devRef .tc main_arg4) = a4
  simp only [← pad_eq]
  simp only [id_eq]
  pointwise

/-- A row's maximum, as computed. -/
def mx (s : FVec Ideal S8x4x2x8192x8320 .f32) : FVec Ideal S8x4x2x8192 .f32 :=
  maximumf (broadcastInDim S8x4x2x8192 ![] Gen.bcast_S_S8x4x2x8192 (constant S_ .f32 0xFF800000#32)) (Host.reduce FloatOps.maximumf s (constant S_ .f32 0xFF800000#32) Gen.reducesTo_S8x4x2x8192x8320_S8x4x2x8192_d4 Gen.h_S_)

theorem r79 (b : Fin 8) (h : Fin 4) (u : Fin 2) (q : Fin 8192) (k : Fin 8320) :
    T79 V0 (ix5 b h u q k) = Ideal.exp (T72 V0 (ix5 b h u q k) - mx (T72 V0) (ix4 b h u q)) := by
  unfold T79 T72 res_main_v79
  change Host.exp (subf _ (broadcastInDim _ _ _ (broadcastInDim _ _ _ (mx (res_main_v72 (F := Ideal) V0))))) (ix5 b h u q k) = _
  generalize mx _ = G
  pointwise

theorem r83 (b : Fin 8) (h : Fin 4) (u : Fin 2) (q : Fin 8192) (k : Fin 8320) : T83 V0 (ix5 b h u q k)
    = Ideal.div (T79 V0 (ix5 b h u q k)) (∑ x : Fin 8320, T79 V0 (ix5 b h u q x)) := by
  unfold T83 T79 res_main_v83
  pointwise

theorem sl0 (f : FVec Ideal S8x4x2x8192x8320 .f32) (b : Fin 8) (h : Fin 4) (q : Fin 8192) (x : Fin 8320) :
    shapeCast S8x4x8192x8320 (extractStridedSlice S8x4x1x8192x8320 ![0, 0, 0, 0, 0] f Gen.slices_S8x4x2x8192x8320_S8x4x1x8192x8320_0_0_0_0_0) Gen.shapeCasts_S8x4x1x8192x8320_S8x4x8192x8320 (ix4 b h q x) = f (ix5 b h 0 q x) := by
  pointwise

theorem sl1 (f : FVec Ideal S8x4x2x8192x8320 .f32) (b : Fin 8) (h : Fin 4) (q : Fin 8192) (x : Fin 8320) :
    shapeCast S8x4x8192x8320 (extractStridedSlice S8x4x1x8192x8320 ![0, 0, 1, 0, 0] f Gen.slices_S8x4x2x8192x8320_S8x4x1x8192x8320_0_0_1_0_0) Gen.shapeCasts_S8x4x1x8192x8320_S8x4x8192x8320 (ix4 b h q x) = f (ix5 b h 1 q x) := by
  pointwise

theorem diff (f g : FVec Ideal S8x4x8192x8320 .f32) (l : FVec Ideal S_ .f32) (b : Fin 8) (h : Fin 4) (q : Fin 8192) (x : Fin 8320) :
    subf f (mulf (broadcastInDim S8x4x8192x8320 ![] Gen.bcast_S_S8x4x8192x8320 l) g) (ix4 b h q x) = f (ix4 b h q x) - l ix0 * g (ix4 b h q x) := by
  pointwise

theorem dot92 (l : FVec Ideal S8x8320x4x128 .f32) (r : FVec Ideal S8x4x8192x8320 .f32) (b : Fin 8) (q : Fin 8192) (h : Fin 4) (d : Fin 128) :
    transpose S8x8192x4x128 [0, 3, 1, 2] (Host.dotGeneral dot_S8x8320x4x128_S8x4x8192x8320_S8x4x128x8192_1_3_3_2_02_01 none l r : FVec Ideal S8x4x128x8192 .f32) Gen.transposes_S8x4x128x8192_S8x8192x4x128_0_3_1_2 (ix4 b q h d) = ∑ x : Fin 8320, l (ix4 b x h d) * r (ix4 b h q x) := by
  pointwise

theorem vpad (a5 : S16x512.Idx → EReal) (a2 : S8x8192x512.Idx → EReal) (b : Fin 8) (x : Fin 8320) (h : Fin 4) (d : Fin 128) :
    shapeCast S8x8320x4x128 (pad S8x8320x512 ![0, 112, 0] ![0, 0, 0] ![0, 0, 0] (concatenate S8x8208x512 1 [⟨S8x16x512, (broadcastInDim S8x16x512 ![0, 1, 2] Gen.bcast_S1x16x512_S8x16x512_0_1_2 (broadcastInDim S1x16x512 ![1, 2] Gen.bcast_S16x512_S1x16x512_1_2 a5))⟩, ⟨S8x8192x512, a2⟩] Gen.concatenates_S8x16x512_S8x8192x512_S8x8208x512_d1) (sitofp (F := Ideal) .f32 (constantI S_ 32 0#32)) Gen.pads_S8x8208x512_S8x8320x512_000_11200_000 Gen.h_S_) Gen.shapeCasts_S8x8320x512_S8x8320x4x128 (ix4 b x h d)
      = padd a5 a2 b x (hd h d) := by
  rw [← pad_eq]
  pointwise

/-- The factor between the two maps. -/
def lamE (a7 a8 a9 a10 : S64.Idx → EReal) : EReal :=
  Ideal.exp (∑ x : Fin 64, a7 (ix1 x) * a8 (ix1 x)) - Ideal.exp (∑ x : Fin 64, a9 (ix1 x) * a10 (ix1 x)) + Ideal.ofBits FTy.f32 1045220557#32

theorem lamr (a7 a8 a9 a10 : FVec Ideal S64 .f32) :
    addf (subf (Host.exp (Host.reduceAdd (mulf a7 a8) (constant S_ .f32 0x00000000#32) Gen.reducesTo_S64_S_d0 Gen.h_S_)) (Host.exp (Host.reduceAdd (mulf a9 a10) (constant S_ .f32 0x00000000#32) Gen.reducesTo_S64_S_d0 Gen.h_S_))) (constant S_ .f32 0x3E4CCCCD#32) ix0
      = lamE a7 a8 a9 a10 := by
  unfold lamE
  pointwise

/-- The weighted sums of values under the difference of the two maps. -/
theorem r92 (b : Fin 8) (q : Fin 8192) (h : Fin 4) (d : Fin 128) : T92 V0 (ix4 b q h d)
    = ∑ x : Fin 8320, padd (R5 V0) (R2 V0) b x (hd h d)
        * (T83 V0 (ix5 b h 0 q x) - lamE (R7 V0) (R8 V0) (R9 V0) (R10 V0)
          * T83 V0 (ix5 b h 1 q x)) := by
  unfold T92 res_main_v92
  refine (dot92 _ _ b q h d).trans (Finset.sum_congr rfl fun x _ => ?_)
  exact congrArg₂ (fun s t : EReal => s * t) (vpad _ _ b x h d)
    ((diff _ _ _ b h q x).trans (congrArg₂ (fun s t : EReal => s - t) (sl0 _ b h q x)
      (congrArg₂ (fun s t : EReal => s * t) (lamr _ _ _ _) (sl1 _ b h q x))))

end Cert.AttnV

end
-- ==== Proof.AttnArr.lean ====
/-
  Hand-written, untrusted. The attention kernel's arrays as its host operations leave them, and the blocks the launch cuts from them: batch
  `t / 32`, head `t / 8 % 4` and query block `t % 8` at point `t`.
-/
module

public import proofs.«01_k».proof.Proof.AttnTab
public import proofs.«01_k».proof.Proof.AttnRefRead
public import proofs.«01_k».proof.Proof.AttnRead

@[expose] public section

set_option maxRecDepth 16384

noncomputable section

namespace Cert.AttnV

open Cert.KernelIdeal Cert.KernelIdeal.Gen
open Idealize.ShloMosaic Idealize.ShloMosaic.TcCoe

variable (m : (ℓ : Loc nD τ sig) → Buf (Elt Ideal) ℓ)

/-- The arguments. -/
abbrev B0 (c : Dev nD) : S8x8192x512.Idx → EReal := m ((c : Thread nD τ).loc main_arg0)
abbrev B1 (c : Dev nD) : S8x8192x512.Idx → EReal := m ((c : Thread nD τ).loc main_arg1)
abbrev B2 (c : Dev nD) : S8x8192x512.Idx → EReal := m ((c : Thread nD τ).loc main_arg2)
abbrev B3 (c : Dev nD) : S8x8192x512.Idx → EReal := m ((c : Thread nD τ).loc main_arg3)
abbrev B4 (c : Dev nD) : S16x512.Idx → EReal := m ((c : Thread nD τ).loc main_arg4)
abbrev B5 (c : Dev nD) : S16x512.Idx → EReal := m ((c : Thread nD τ).loc main_arg5)
abbrev B7 (c : Dev nD) : S64.Idx → EReal := m ((c : Thread nD τ).loc main_arg7)
abbrev B8 (c : Dev nD) : S64.Idx → EReal := m ((c : Thread nD τ).loc main_arg8)
abbrev B9 (c : Dev nD) : S64.Idx → EReal := m ((c : Thread nD τ).loc main_arg9)
abbrev B10 (c : Dev nD) : S64.Idx → EReal := m ((c : Thread nD τ).loc main_arg10)
abbrev B11 (c : Dev nD) : S128.Idx → EReal := m ((c : Thread nD τ).loc main_arg11)

/-- Query `q` of query block `i`. -/
abbrev qr (i : Fin 8) (q : Fin 1024) : Fin 8192 := ⟨1024 * i.val + q.val, by omega⟩

theorem sh11 (f : S8x8192x512.Idx → EReal) (b i : Fin 8) (d : Fin 512) (q : Fin 1024) :
    transpose S8x8x512x1024 [0, 1, 3, 2] (shapeCast S8x8x1024x512 f shapeCasts_S8x8192x512_S8x8x1024x512) transposes_S8x8x1024x512_S8x8x512x1024_0_1_3_2 (ix4 b i d q) = f (ix3 b (qr i q) d) := by
  pointwise
  refine congrArg f (congrArg (fun y => ix3 b y d) (Fin.ext ?_))
  show _ = 1024 * i.val + q.val
  first | rfl | (simp; omega) | omega

theorem sh14 (f : S8x8192x512.Idx → EReal) (b : Fin 8) (j : Fin 16) (d k : Fin 512) :
    transpose S8x16x512x512 [0, 1, 3, 2] (shapeCast S8x16x512x512 f shapeCasts_S8x8192x512_S8x16x512x512) transposes_S8x16x512x512_S8x16x512x512_0_1_3_2 (ix4 b j d k) = f (ix3 b (rw j k) d) := by
  pointwise
  refine congrArg f (congrArg (fun y => ix3 b y d) (Fin.ext ?_))
  show _ = 512 * j.val + k.val
  first | rfl | (simp; omega) | omega

theorem V_v8 (c : Dev nD)  : V m c main_v8 (ix1 0) = lamE (B7 m c) (B8 m c) (B9 m c) (B10 m c) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  pointwise
  unfold lamE
  rfl

theorem V_v11 (c : Dev nD) (b i : Fin 8) (d : Fin 512) (q : Fin 1024) : V m c main_v11 (ix4 b i d q) = B0 m c (ix3 b (qr i q) d) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  exact sh11 _ b i d q

theorem V_v14 (c : Dev nD) (b : Fin 8) (j : Fin 16) (d k : Fin 512) : V m c main_v14 (ix4 b j d k) = B2 m c (ix3 b (rw j k) d) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  exact sh14 _ b j d k

theorem V_v109 (c : Dev nD) (b : Fin 8) (k : Fin 8192) (x : Fin 512) : V m c main_v109 (ix3 b k x) = B1 m c (ix3 b k x) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  first | rfl | pointwise

theorem V_v112 (c : Dev nD) (b : Fin 8) (k : Fin 8192) (x : Fin 512) : V m c main_v112 (ix3 b k x) = B3 m c (ix3 b k x) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  first | rfl | pointwise

theorem V_v111 (c : Dev nD) (k : Fin 16) (x : Fin 512) : V m c main_v111 (ix3 0 k x) = B4 m c (ix2 k x) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  pointwise

theorem V_v17 (c : Dev nD) (d : Fin 512) (k : Fin 16) : V m c main_v17 (ix4 0 0 d k) = B5 m c (ix2 k d) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  pointwise

theorem V_v113 (c : Dev nD) (d : Fin 128) : V m c main_v113 (ix2 0 d) = B11 m c (ix1 d) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  pointwise

/-- Where the windows' blocks lie at point `t`. -/
theorem ax0 : ∀ t : Fin grid0.N, win0_0.index t 0 = 0 := by decide +kernel
theorem ax1 : ∀ t : Fin grid0.N, win0_1.index t 0 = t.val / 32 ∧ win0_1.index t 1 = t.val % 8 ∧ win0_1.index t 2 = t.val / 8 % 4 ∧ win0_1.index t 3 = 0 := by decide +kernel
theorem ax2 : ∀ t : Fin grid0.N, win0_2.index t 0 = t.val / 32 ∧ win0_2.index t 1 = 0 ∧ win0_2.index t 2 = t.val / 8 % 4 := by decide +kernel
theorem ax3 : ∀ t : Fin grid0.N, win0_3.index t 0 = t.val / 32 ∧ win0_3.index t 1 = 0 ∧ win0_3.index t 2 = t.val / 8 % 4 ∧ win0_3.index t 3 = 0 := by decide +kernel
theorem ax4 : ∀ t : Fin grid0.N, win0_4.index t 0 = 0 ∧ win0_4.index t 1 = 0 ∧ win0_4.index t 2 = t.val / 8 % 4 := by decide +kernel
theorem ax5 : ∀ t : Fin grid0.N, win0_5.index t 0 = 0 ∧ win0_5.index t 1 = 0 ∧ win0_5.index t 2 = t.val / 8 % 4 ∧ win0_5.index t 3 = 0 := by decide +kernel
theorem ax6 : ∀ t : Fin grid0.N, win0_6.index t 0 = t.val / 8 % 4 ∧ win0_6.index t 1 = 0 ∧ win0_6.index t 2 = 0 ∧ win0_6.index t 3 = 0 := by decide +kernel
theorem ax7 : ∀ t : Fin grid0.N, win0_7.index t 0 = t.val / 8 % 4 ∧ win0_7.index t 1 = 0 ∧ win0_7.index t 2 = t.val % 8 := by decide +kernel
theorem ax8 : ∀ t : Fin grid0.N, win0_8.index t 0 = t.val / 32 ∧ win0_8.index t 1 = t.val % 8 ∧ win0_8.index t 2 = t.val / 8 % 4 := by decide +kernel
theorem ax9 : ∀ t : Fin grid0.N, win0_9.index t 0 = 0 ∧ win0_9.index t 1 = 0 := by decide +kernel
theorem ax10 : ∀ t : Fin grid0.N, win0_10.index t 0 = t.val / 32 ∧ win0_10.index t 1 = t.val % 8 ∧ win0_10.index t 2 = t.val / 8 % 4 := by decide +kernel

theorem tlt (t : Fin grid0.N) : t.val < 256 := lt_of_lt_of_eq t.isLt N_0
/-- The batch, the head and the query block of a point. -/
abbrev bk (t : Fin grid0.N) : Fin 8 := ⟨t.val / 32, by have := tlt t; omega⟩
abbrev hk (t : Fin grid0.N) : Fin 4 := ⟨t.val / 8 % 4, by omega⟩
abbrev ik (t : Fin grid0.N) : Fin 8 := ⟨t.val % 8, by omega⟩

theorem iq_eq : ∀ t : Fin grid0.N, iq (grid0.coords t) = ik t := by decide +kernel

theorem blk0 (c : Dev nD) (t : Fin grid0.N) : iblk m c 0 t (ix1 0) = V m c main_v8 (ix1 0) := by
  have h0 := ax0 t
  refine congrArg (V m c main_v8) (funext fun x => Fin.ext ?_)
  match x with
  | ⟨0, _⟩ => show win0_0.index t 0 * 1 + 1 * 0 = 0; rw [h0]

theorem blk1 (c : Dev nD) (t : Fin grid0.N) (z : Fin 128) (w : Fin 1024) : iblk m c 1 t (ix4 0 0 z w) = V m c main_v11 (ix4 (bk t) (ik t) (hd (hk t) z) w) := by
  obtain ⟨h0, h1, h2, h3⟩ := ax1 t
  refine congrArg (V m c main_v11) (funext fun x => Fin.ext ?_)
  match x with
  | ⟨0, _⟩ => show win0_1.index t 0 * 1 + 1 * 0 = t.val / 32; rw [h0]; omega
  | ⟨1, _⟩ => show win0_1.index t 1 * 1 + 1 * 0 = t.val % 8; rw [h1]; omega
  | ⟨2, _⟩ => show win0_1.index t 2 * 128 + 1 * z.val = t.val / 8 % 4 * 128 + z.val; rw [h2]; omega
  | ⟨3, _⟩ => show win0_1.index t 3 * 1024 + 1 * w.val = w.val; rw [h3]; omega

theorem blk2 (c : Dev nD) (t : Fin grid0.N) (y : Fin 8192) (z : Fin 128) : iblk m c 2 t (ix3 0 y z) = V m c main_v109 (ix3 (bk t) y (hd (hk t) z)) := by
  obtain ⟨h0, h1, h2⟩ := ax2 t
  refine congrArg (V m c main_v109) (funext fun x => Fin.ext ?_)
  match x with
  | ⟨0, _⟩ => show win0_2.index t 0 * 1 + 1 * 0 = t.val / 32; rw [h0]; omega
  | ⟨1, _⟩ => show win0_2.index t 1 * 8192 + 1 * y.val = y.val; rw [h1]; omega
  | ⟨2, _⟩ => show win0_2.index t 2 * 128 + 1 * z.val = t.val / 8 % 4 * 128 + z.val; rw [h2]; omega

theorem blk3 (c : Dev nD) (t : Fin grid0.N) (y : Fin 16) (z : Fin 128) (w : Fin 512) : iblk m c 3 t (ix4 0 y z w) = V m c main_v14 (ix4 (bk t) y (hd (hk t) z) w) := by
  obtain ⟨h0, h1, h2, h3⟩ := ax3 t
  refine congrArg (V m c main_v14) (funext fun x => Fin.ext ?_)
  match x with
  | ⟨0, _⟩ => show win0_3.index t 0 * 1 + 1 * 0 = t.val / 32; rw [h0]; omega
  | ⟨1, _⟩ => show win0_3.index t 1 * 16 + 1 * y.val = y.val; rw [h1]; omega
  | ⟨2, _⟩ => show win0_3.index t 2 * 128 + 1 * z.val = t.val / 8 % 4 * 128 + z.val; rw [h2]; omega
  | ⟨3, _⟩ => show win0_3.index t 3 * 512 + 1 * w.val = w.val; rw [h3]; omega

theorem blk4 (c : Dev nD) (t : Fin grid0.N) (y : Fin 16) (z : Fin 128) : iblk m c 4 t (ix3 0 y z) = V m c main_v111 (ix3 0 y (hd (hk t) z)) := by
  obtain ⟨h0, h1, h2⟩ := ax4 t
  refine congrArg (V m c main_v111) (funext fun x => Fin.ext ?_)
  match x with
  | ⟨0, _⟩ => show win0_4.index t 0 * 1 + 1 * 0 = 0; rw [h0]
  | ⟨1, _⟩ => show win0_4.index t 1 * 16 + 1 * y.val = y.val; rw [h1]; omega
  | ⟨2, _⟩ => show win0_4.index t 2 * 128 + 1 * z.val = t.val / 8 % 4 * 128 + z.val; rw [h2]; omega

theorem blk5 (c : Dev nD) (t : Fin grid0.N) (z : Fin 128) (w : Fin 16) : iblk m c 5 t (ix4 0 0 z w) = V m c main_v17 (ix4 0 0 (hd (hk t) z) w) := by
  obtain ⟨h0, h1, h2, h3⟩ := ax5 t
  refine congrArg (V m c main_v17) (funext fun x => Fin.ext ?_)
  match x with
  | ⟨0, _⟩ => show win0_5.index t 0 * 1 + 1 * 0 = 0; rw [h0]
  | ⟨1, _⟩ => show win0_5.index t 1 * 1 + 1 * 0 = 0; rw [h1]
  | ⟨2, _⟩ => show win0_5.index t 2 * 128 + 1 * z.val = t.val / 8 % 4 * 128 + z.val; rw [h2]; omega
  | ⟨3, _⟩ => show win0_5.index t 3 * 16 + 1 * w.val = w.val; rw [h3]; omega

theorem blk6 (c : Dev nD) (t : Fin grid0.N) (y : Fin 5) (z : Fin 512) (w : Fin 512) : iblk m c 6 t (ix4 0 y z w) = V m c main_v66 (ix4 (hk t) y z w) := by
  obtain ⟨h0, h1, h2, h3⟩ := ax6 t
  refine congrArg (V m c main_v66) (funext fun x => Fin.ext ?_)
  match x with
  | ⟨0, _⟩ => show win0_6.index t 0 * 1 + 1 * 0 = t.val / 8 % 4; rw [h0]; omega
  | ⟨1, _⟩ => show win0_6.index t 1 * 5 + 1 * y.val = y.val; rw [h1]; omega
  | ⟨2, _⟩ => show win0_6.index t 2 * 512 + 1 * z.val = z.val; rw [h2]; omega
  | ⟨3, _⟩ => show win0_6.index t 3 * 512 + 1 * w.val = w.val; rw [h3]; omega

theorem blk7 (c : Dev nD) (t : Fin grid0.N) (y : Fin 16) (z : Fin 1024) : iblk m c 7 t (ix3 0 y z) = V m c main_v108 (ix3 (hk t) y (qr (ik t) z)) := by
  obtain ⟨h0, h1, h2⟩ := ax7 t
  refine congrArg (V m c main_v108) (funext fun x => Fin.ext ?_)
  match x with
  | ⟨0, _⟩ => show win0_7.index t 0 * 1 + 1 * 0 = t.val / 8 % 4; rw [h0]; omega
  | ⟨1, _⟩ => show win0_7.index t 1 * 16 + 1 * y.val = y.val; rw [h1]; omega
  | ⟨2, _⟩ => show win0_7.index t 2 * 1024 + 1 * z.val = 1024 * (t.val % 8) + z.val; rw [h2]; omega

theorem blk8 (c : Dev nD) (t : Fin grid0.N) (y : Fin 1024) (z : Fin 128) : iblk m c 8 t (ix3 0 y z) = V m c main_v112 (ix3 (bk t) (qr (ik t) y) (hd (hk t) z)) := by
  obtain ⟨h0, h1, h2⟩ := ax8 t
  refine congrArg (V m c main_v112) (funext fun x => Fin.ext ?_)
  match x with
  | ⟨0, _⟩ => show win0_8.index t 0 * 1 + 1 * 0 = t.val / 32; rw [h0]; omega
  | ⟨1, _⟩ => show win0_8.index t 1 * 1024 + 1 * y.val = 1024 * (t.val % 8) + y.val; rw [h1]; omega
  | ⟨2, _⟩ => show win0_8.index t 2 * 128 + 1 * z.val = t.val / 8 % 4 * 128 + z.val; rw [h2]; omega

theorem blk9 (c : Dev nD) (t : Fin grid0.N) (y : Fin 128) : iblk m c 9 t (ix2 0 y) = V m c main_v113 (ix2 0 y) := by
  obtain ⟨h0, h1⟩ := ax9 t
  refine congrArg (V m c main_v113) (funext fun x => Fin.ext ?_)
  match x with
  | ⟨0, _⟩ => show win0_9.index t 0 * 1 + 1 * 0 = 0; rw [h0]
  | ⟨1, _⟩ => show win0_9.index t 1 * 128 + 1 * y.val = y.val; rw [h1]; omega

end Cert.AttnV

end
-- ==== Proof.AttnReal.lean ====
/-
  Hand-written, untrusted. The attention's accumulator over the reals: with real scores, values and biases, one column of either pass's
  accumulator is a positive multiple of the sums of `exp (score) · value` and of `exp (score)`.
-/
module

public import proofs.«01_k».proof.Proof.AttnLeft

@[expose] public section

set_option maxRecDepth 16384

noncomputable section

namespace Cert.AttnV

open Cert.KernelIdeal Cert.KernelIdeal.Gen
open Idealize.ShloMosaic Idealize.ShloMosaic.TcCoe

/-- `log₂ e`. -/
abbrev L2 : ℝ := (Real.log 2)⁻¹

theorem lg_eq : lg = ((L2 : ℝ) : EReal) := by
  show Named.named (F := Ideal) κ (φ := .f32) "log2e" 1069066811#32 = _
  simp [κ, Named.named]

theorem qs_eq : qs = (((1 / 8) * L2 : ℝ) : EReal) := by
  show Named.named (F := Ideal) κ (φ := .f32) "qscale" 1043900987#32 = _
  simp [κ, Named.named]

theorem negInf : Ideal.ofBits FTy.f32 4286578688#32 = ⊥ := by
  simp [Ideal.ofBits, Ideal.ieee]

theorem ex2_sub (s M : ℝ) : ex2 ((s * L2 - M : ℝ) : EReal) = ((Real.exp (-(Real.log 2 * M)) * Real.exp s : ℝ) : EReal) := by
  show ((Real.rpow 2 (s * L2 - M) : ℝ) : EReal) = _
  refine congrArg _ ?_
  have h2 : Real.log 2 ≠ 0 := (Real.log_pos (by norm_num)).ne'
  show (2 : ℝ) ^ (s * L2 - M) = _
  rw [Real.rpow_def_of_pos (by norm_num), ← Real.exp_add]
  congr 1
  unfold L2
  field_simp
  ring

theorem ex2_shift (M N : ℝ) : ex2 ((M - N : ℝ) : EReal) = ((Real.exp (-(Real.log 2 * N)) * Real.exp (Real.log 2 * M) : ℝ) : EReal) := by
  show ((Real.rpow 2 (M - N) : ℝ) : EReal) = _
  refine congrArg _ ?_
  show (2 : ℝ) ^ (M - N) = _
  rw [Real.rpow_def_of_pos (by norm_num), ← Real.exp_add]
  congr 1
  ring

/-- A maximum of entries below `⊤`, one of them a real, is a real. -/
theorem fold_real {ι : Type*} (s : Finset ι) (f : ι → EReal) (i : ι) (hi : i ∈ s) (r : ℝ) (hr : f i = (r : EReal)) (ht : ∀ x ∈ s, f x ≠ ⊤) :
    ∃ M : ℝ, Finset.fold max (⊥ : EReal) f s = (M : EReal) := by
  have h1 : Finset.fold max (⊥ : EReal) f s < ⊤ := (Finset.fold_max_lt _).2 ⟨bot_lt_top, fun x hx => lt_top_iff_ne_top.2 (ht x hx)⟩
  have h2 : ⊥ < Finset.fold max (⊥ : EReal) f s := (Finset.lt_fold_max _).2 (Or.inr ⟨i, hi, by rw [hr]; exact EReal.bot_lt_coe r⟩)
  exact ⟨_, (EReal.coe_toReal h1.ne h2.ne').symm⟩

theorem fold_real' {n : ℕ} (f : Fin (n + 1) → EReal) (g : Fin (n + 1) → ℝ) (h : ∀ x, f x = (g x : EReal)) :
    ∃ M : ℝ, Finset.fold max (Ideal.ofBits FTy.f32 4286578688#32) f Finset.univ = (M : EReal) := by
  rw [negInf]
  exact fold_real _ f 0 (Finset.mem_univ _) (g 0) (h 0) (fun x _ => by rw [h x]; exact EReal.coe_ne_top _)

theorem coe_sum' {ι : Type*} (s : Finset ι) (f : ι → EReal) (g : ι → ℝ) (h : ∀ x ∈ s, f x = (g x : EReal)) : ∑ x ∈ s, f x = ((∑ x ∈ s, g x : ℝ) : EReal) := by
  classical
  induction s using Finset.induction_on with
  | empty => simp
  | insert a s ha ih =>
    rw [Finset.sum_insert ha, Finset.sum_insert ha, h a (Finset.mem_insert_self a s), ih (fun x hx => h x (Finset.mem_insert_of_mem hx)), EReal.coe_add]

/-- The same sum over the reals: values and a row of ones against weights. -/
def pvR {n : Nat} (vt : Fin 128 → Fin n → ℝ) (P : Fin n → ℝ) (e : Fin 144) : ℝ :=
  ∑ x, (if h : e.val < 128 then vt ⟨e.val, h⟩ x else 1) * P x

theorem pvs_real {n : Nat} (vt : Fin 128 → Fin n → EReal) (vr : Fin 128 → Fin n → ℝ) (P : Fin n → EReal) (R : Fin n → ℝ) (e : Fin 144)
    (hv : ∀ d x, vt d x = (vr d x : EReal)) (hP : ∀ x, P x = (R x : EReal)) : pvs vt P e = ((pvR vr R e : ℝ) : EReal) := by
  unfold pvs pvR
  refine coe_sum' _ _ _ fun x _ => ?_
  rw [hP, EReal.coe_mul]
  congr 1
  split_ifs with h
  · exact hv _ _
  · rfl

theorem pvR_smul {n : Nat} (vt : Fin 128 → Fin n → ℝ) (P : Fin n → ℝ) (w : ℝ) (e : Fin 144) : pvR vt (fun x => w * P x) e = w * pvR vt P e := by
  unfold pvR
  rw [Finset.mul_sum]
  exact Finset.sum_congr rfl fun x _ => by ring

theorem tl_bij (n : Fin 8) : Function.Bijective (tl n) :=
  Finite.injective_iff_bijective.1 (by
    intro a b h
    have h' : (2 * n.val + a.val + 15) % 16 = (2 * n.val + b.val + 15) % 16 := congrArg Fin.val h
    exact Fin.ext (by omega))

section Lift

variable (v4 : Vec Ideal S1x1x128x1024 .bf16) (v5 : Vec Ideal S1x8192x128 .bf16) (v6 : Vec Ideal S1x16x128x512 .bf16) (v7 : Vec Ideal S1x16x128 .bf16)
  (v8 : Vec Ideal S1x1x128x16 .bf16) (v9 : Vec Ideal S1x5x512x512 .f32) (v10 : Vec Ideal S1x16x1024 .f32) (n : Fin 8) (c : Fin 2048)
  (sm : Fin 16 → ℝ) (ra be : Fin 16 → Fin 512 → ℝ) (vm : Fin 128 → Fin 16 → ℝ) (vt : Fin 16 → Fin 128 → Fin 512 → ℝ)

/-- Sums of `exp (score) · value` (`e < 128`) and of `exp (score)`, over memory tokens and tokens. -/
def NN (st : Fin 16 → Fin 512 → ℝ) (e : Fin 144) : ℝ :=
  pvR vm (fun x => Real.exp (sm x)) e + ∑ j, pvR (vt j) (fun x => Real.exp (st j x)) e

theorem aM_real (hm : ∀ k, sM v4 v7 v10 k c = ((sm k * L2 : ℝ) : EReal)) (h8 : ∀ d x, v8 (ix4 0 0 d x) = (vm d x : EReal)) :
    ∃ M : ℝ, mM v4 v7 v10 c = (M : EReal)
      ∧ ∀ e, aM v4 v7 v8 v10 e c = ((Real.exp (-(Real.log 2 * M)) * pvR vm (fun x => Real.exp (sm x)) e : ℝ) : EReal) := by
  obtain ⟨M, hM⟩ := fold_real' (fun x => sM v4 v7 v10 x c) _ hm
  refine ⟨M, hM, fun e => ?_⟩
  rw [← pvR_smul]
  refine pvs_real _ _ _ _ e h8 fun x => ?_
  show ex2 (sM v4 v7 v10 x c - mM v4 v7 v10 c) = _
  rw [hm, show mM v4 v7 v10 c = (M : EReal) from hM, ← EReal.coe_sub, ex2_sub]

theorem accH_real (hm : ∀ k, sM v4 v7 v10 k c = ((sm k * L2 : ℝ) : EReal)) (h8 : ∀ d x, v8 (ix4 0 0 d x) = (vm d x : EReal))
    (hr : ∀ j k, raw (qM v4) v5 j k c = ((ra j k * L2 : ℝ) : EReal)) (hb : ∀ j k, bt v9 n j k c = (be j k : EReal))
    (h6 : ∀ j d x, v6 (ix4 0 j d x) = (vt j d x : EReal))
    (hlo : ∀ (p : Fin 16) k, 4 ≤ p.val → 17 ≤ 2 * n.val + p.val → v9 (ix4 0 0 0 (cl5 c)) = bt v9 n (tl n p) k c)
    (hhi : ∀ (p : Fin 16) k, 4 ≤ p.val → ¬ 17 ≤ 2 * n.val + p.val → v9 (ix4 0 4 0 (cl5 c)) = bt v9 n (tl n p) k c) :
    ∃ w : ℝ, 0 < w ∧ ∀ e, accH v4 v5 v6 v7 v8 v9 v10 n e c = ((w * NN sm vm vt (fun j k => ra j k + be j k) e : ℝ) : EReal) := by
  obtain ⟨M, hM, hA⟩ := aM_real v4 v7 v8 v10 c sm vm hm h8
  refine ⟨Real.exp (-(Real.log 2 * M)), Real.exp_pos _, fun e => ?_⟩
  have hw : ∀ (p : Fin 16) k, wH v4 v5 v7 v9 v10 n p k c
      = ((Real.exp (-(Real.log 2 * M)) * Real.exp (ra (tl n p) k + be (tl n p) k) : ℝ) : EReal) := by
    intro p k
    rw [← ex2_sub]
    unfold wH
    split_ifs with h1 h2
    · rw [hr, hb, hM, lg_eq, ← EReal.coe_mul, ← EReal.coe_add, ← EReal.coe_sub]
      congr 2; ring
    · rw [hlo p k (by omega) h2, hr, hb, hM, lg_eq, ← EReal.coe_mul, ← EReal.coe_sub, ← EReal.coe_sub]
      congr 2; ring
    · rw [hhi p k (by omega) h2, hr, hb, hM, lg_eq, ← EReal.coe_mul, ← EReal.coe_sub, ← EReal.coe_sub]
      congr 2; ring
  have hs : ∑ p : Fin 16, pvs (fun d x => v6 (ix4 0 (tl n p) d x)) (fun x => wH v4 v5 v7 v9 v10 n p x c) e
      = ((Real.exp (-(Real.log 2 * M)) * ∑ j, pvR (vt j) (fun x => Real.exp (ra j x + be j x)) e : ℝ) : EReal) := by
    rw [← (tl_bij n).sum_comp (fun j => pvR (vt j) (fun x => Real.exp (ra j x + be j x)) e), Finset.mul_sum]
    refine coe_sum' _ _ _ fun p _ => ?_
    rw [← pvR_smul]
    exact pvs_real _ _ _ _ e (fun d x => h6 _ d x) (fun x => hw p x)
  unfold accH NN
  rw [hs, hA, ← EReal.coe_add, mul_add]

theorem accT_real (hm : ∀ k, sM v4 v7 v10 k c = ((sm k * L2 : ℝ) : EReal)) (h8 : ∀ d x, v8 (ix4 0 0 d x) = (vm d x : EReal))
    (hr : ∀ j k, raw (qM v4) v5 j k c = ((ra j k * L2 : ℝ) : EReal)) (hb : ∀ j k, bt v9 n j k c = (be j k : EReal))
    (h6 : ∀ j d x, v6 (ix4 0 j d x) = (vt j d x : EReal)) :
    ∃ w : ℝ, 0 < w ∧ ∀ e, accT v4 v5 v6 v7 v8 v9 v10 n e c = ((w * NN sm vm vt (fun j k => ra j k + be j k) e : ℝ) : EReal) := by
  obtain ⟨M, hM, hA⟩ := aM_real v4 v7 v8 v10 c sm vm hm h8
  have hsc : ∀ j k, sc (qM v4) v5 v9 n j k c = (((ra j k + be j k) * L2 : ℝ) : EReal) := fun j k => by
    unfold sc
    rw [hr, hb, lg_eq, ← EReal.coe_mul, ← EReal.coe_add]
    congr 1; ring
  have key : ∀ N : ℕ, ∃ R : ℝ, mS (mM v4 v7 v10) (sc (qM v4) v5 v9 n) N c = (R : EReal)
      ∧ ∀ e, aS (mM v4 v7 v10) (aM v4 v7 v8 v10) (sc (qM v4) v5 v9 n) v6 N e c
        = ((Real.exp (-(Real.log 2 * R)) * (pvR vm (fun x => Real.exp (sm x)) e
            + ∑ i ∈ Finset.range N, pvR (vt (tn i)) (fun x => Real.exp (ra (tn i) x + be (tn i) x)) e) : ℝ) : EReal) := by
    intro N
    induction N with
    | zero => exact ⟨M, hM, fun e => by rw [Finset.sum_range_zero, add_zero]; exact hA e⟩
    | succ N ih =>
      obtain ⟨R, hR, hA'⟩ := ih
      obtain ⟨S, hS⟩ := fold_real' (fun x => sc (qM v4) v5 v9 n (tn N) x c) _ (hsc (tn N))
      have hR' : mS (mM v4 v7 v10) (sc (qM v4) v5 v9 n) (N + 1) c = ((max R S : ℝ) : EReal) := by
        show max (mS (mM v4 v7 v10) (sc (qM v4) v5 v9 n) N c) _ = _
        rw [hR, hS]; exact (EReal.coe_strictMono.monotone.map_max (a := R) (b := S)).symm
      refine ⟨max R S, hR', fun e => ?_⟩
      show ex2 (mS (mM v4 v7 v10) (sc (qM v4) v5 v9 n) N c - mS (mM v4 v7 v10) (sc (qM v4) v5 v9 n) (N + 1) c) * aS (mM v4 v7 v10) (aM v4 v7 v8 v10) (sc (qM v4) v5 v9 n) v6 N e c
        + pvs (fun d x => v6 (ix4 0 (tn N) d x)) (fun x => ex2 (sc (qM v4) v5 v9 n (tn N) x c - mS (mM v4 v7 v10) (sc (qM v4) v5 v9 n) (N + 1) c)) e = _
      rw [hR', hR, hA', ← EReal.coe_sub, ex2_shift,
        pvs_real _ (vt (tn N)) _ (fun x => Real.exp (-(Real.log 2 * max R S)) * Real.exp (ra (tn N) x + be (tn N) x)) e (fun d x => h6 _ d x)
          (fun x => by rw [hsc, ← EReal.coe_sub, ex2_sub]), pvR_smul, ← EReal.coe_mul, ← EReal.coe_add, Finset.sum_range_succ]
      congr 1
      have hx : Real.exp (Real.log 2 * R) * Real.exp (-(Real.log 2 * R)) = 1 := by rw [← Real.exp_add, add_neg_cancel, Real.exp_zero]
      linear_combination (Real.exp (-(Real.log 2 * max R S)) * (pvR vm (fun x => Real.exp (sm x)) e
            + ∑ i ∈ Finset.range N, pvR (vt (tn i)) (fun x => Real.exp (ra (tn i) x + be (tn i) x)) e)) * hx
  obtain ⟨R, -, h⟩ := key 16
  refine ⟨Real.exp (-(Real.log 2 * R)), Real.exp_pos _, fun e => (h e).trans ?_⟩
  unfold NN
  rw [Finset.sum_range]
  refine congrArg (fun t : ℝ => ((Real.exp (-(Real.log 2 * R)) * (pvR vm (fun x => Real.exp (sm x)) e + t) : ℝ) : EReal)) ?_
  refine Finset.sum_congr rfl fun i _ => ?_
  rw [show tn i.val = i from Fin.ext (Nat.mod_eq_of_lt i.isLt)]

end Lift

end Cert.AttnV

end
-- ==== Proof.AttnBias.lean ====
/-
  Hand-written, untrusted. The bias at a relative position: from 513 away on it no longer depends on the distance, so the five tiles of
  the kernel's table hold the bias of every pair of positions.
-/
module

public import proofs.«01_k».proof.Proof.AttnGather

@[expose] public section

set_option maxRecDepth 16384

noncomputable section

namespace Cert.AttnV

open Idealize.ShloMosaic Idealize.ShloMosaic.TcCoe

theorem isub (a b : ℤ) : IntOp.subi (BitVec.ofInt 32 a) (BitVec.ofInt 32 b) = BitVec.ofInt 32 (a - b) := by
  show BitVec.ofInt 32 a - BitVec.ofInt 32 b = _
  rw [sub_eq_add_neg a b, BitVec.ofInt_add, BitVec.ofInt_neg, BitVec.sub_eq_add_neg]

theorem iadd (a b : ℤ) : IntOp.addi (BitVec.ofInt 32 a) (BitVec.ofInt 32 b) = BitVec.ofInt 32 (a + b) := (BitVec.ofInt_add _ _).symm

theorem imul (a b : ℤ) : IntOp.muli (BitVec.ofInt 32 a) (BitVec.ofInt 32 b) = BitVec.ofInt 32 (a * b) := (BitVec.ofInt_mul _ _).symm

theorem inat (n : ℕ) : BitVec.ofNat 32 n = BitVec.ofInt 32 (n : ℤ) := (BitVec.ofInt_natCast _ _).symm

theorem itoInt (z : ℤ) (h1 : -100000 ≤ z) (h2 : z ≤ 100000) : (BitVec.ofInt 32 z).toInt = z := by
  rw [BitVec.toInt_ofInt]
  exact Int.bmod_eq_of_le_mul_two (by norm_num; omega) (by norm_num; omega)

theorem slt_iff (a b : BitVec 32) : a.slt b = decide (a.toInt < b.toInt) := rfl

theorem c8 : Ideal.ofBits FTy.f32 1090519040#32 = ((8 : ℝ) : EReal) := by
  simp [Ideal.ofBits, Ideal.ieee, -EReal.coe_mul]; norm_num

theorem clog : ∃ r : ℝ, Ideal.ofBits FTy.f32 1076982296#32 = (r : EReal) ∧ 2.7 < r ∧ r < 2.8 := by
  refine ⟨11629080 / 4194304, ?_, by norm_num, by norm_num⟩
  simp [Ideal.ofBits, Ideal.ieee, -EReal.coe_mul]; norm_num

/-- The logarithmic part from 513 on: at least 7. -/
theorem large (N : ℤ) (h1 : 513 ≤ N) (h2 : N ≤ 10000) : ∃ z : ℤ, 7 ≤ z ∧ z ≤ 10000 ∧
    Ideal.fptosi 32 (Ideal.div (Ideal.log (Ideal.div (((N : ℝ)) : EReal) (Ideal.ofBits FTy.f32 1090519040#32)))
          (Ideal.ofBits FTy.f32 1076982296#32) * Ideal.ofBits FTy.f32 1090519040#32) = BitVec.ofInt 32 z := by
  obtain ⟨r, hr, h27, h28⟩ := clog
  have hN : (513 : ℝ) ≤ N := by exact_mod_cast h1
  have hN' : (N : ℝ) ≤ 10000 := by exact_mod_cast h2
  have hx : (64 : ℝ) ≤ N * 8⁻¹ := by linarith
  have hlog : (3 : ℝ) ≤ Real.log (N * 8⁻¹) := by
    have h := Real.log_le_log (by norm_num) hx
    have h64 : Real.log 64 = 6 * Real.log 2 := by rw [show (64 : ℝ) = 2 ^ 6 by norm_num, Real.log_pow]; norm_num
    have h2 := Real.log_le_sub_one_of_pos (show (0 : ℝ) < 2⁻¹ by norm_num)
    rw [Real.log_inv] at h2
    linarith
  have hlog' : Real.log (N * 8⁻¹) ≤ 1249 := by
    have h := Real.log_le_sub_one_of_pos (show (0 : ℝ) < N * 8⁻¹ by linarith)
    linarith
  have hr0 : (0 : ℝ) < r := by linarith
  have e : Ideal.div (Ideal.log (Ideal.div (((N : ℝ)) : EReal) (Ideal.ofBits FTy.f32 1090519040#32)))
          (Ideal.ofBits FTy.f32 1076982296#32) * Ideal.ofBits FTy.f32 1090519040#32 = ((Real.log (N * 8⁻¹) * r⁻¹ * 8 : ℝ) : EReal) := by
    rw [c8, hr]
    unfold Ideal.div
    rw [if_neg (EReal.coe_ne_zero.2 hr0.ne'), if_neg (EReal.coe_ne_zero.2 (show (8 : ℝ) ≠ 0 by norm_num)), ← EReal.coe_inv, ← EReal.coe_inv, ← EReal.coe_mul,
      Ideal.log_coe, if_neg (by linarith), ← EReal.coe_mul, ← EReal.coe_mul]
  have hlo : (7 : ℝ) ≤ Real.log (N * 8⁻¹) * r⁻¹ * 8 := by
    rw [← div_eq_mul_inv, div_mul_eq_mul_div, le_div_iff₀ hr0]; linarith
  have hhi : Real.log (N * 8⁻¹) * r⁻¹ * 8 ≤ 10000 := by
    rw [← div_eq_mul_inv, div_mul_eq_mul_div, div_le_iff₀ hr0]; linarith
  have f1 : (7 : ℤ) ≤ ⌊Real.log (N * 8⁻¹) * r⁻¹ * 8⌋ := Int.le_floor.2 (by exact_mod_cast hlo)
  have f2 : ⌊Real.log (N * 8⁻¹) * r⁻¹ * 8⌋ ≤ (10000 : ℤ) := by
    have := Int.floor_le (Real.log (N * 8⁻¹) * r⁻¹ * 8)
    exact_mod_cast this.trans hhi
  refine ⟨⌊Real.log (N * 8⁻¹) * r⁻¹ * 8⌋, f1, f2, ?_⟩
  rw [e]
  refine congrArg (BitVec.ofInt 32) ?_
  show max _ (min _ (if 0 ≤ Real.log (N * 8⁻¹) * r⁻¹ * 8 then _ else _)) = _
  rw [if_pos (by linarith)]
  generalize ⌊Real.log (N * 8⁻¹) * r⁻¹ * 8⌋ = z at f1 f2
  norm_num
  omega

/-- The second part of the bucket, from 513 on: 15. -/
theorem part (N : ℤ) (h1 : 513 ≤ N) (h2 : N ≤ 10000) :
    Scalar.select (IntOp.cmpi CmpIPredicate.slt (BitVec.ofInt 32 N) 8#32) (BitVec.ofInt 32 N)
      (IntOp.minsi (IntOp.addi 8#32 (Ideal.fptosi 32 (Ideal.div (Ideal.log (Ideal.div
        (FloatOps.sitofp (F := Ideal) FTy.f32 (IntOp.maxsi (BitVec.ofInt 32 N) 1#32)) (Ideal.ofBits FTy.f32 1090519040#32)))
          (Ideal.ofBits FTy.f32 1076982296#32) * Ideal.ofBits FTy.f32 1090519040#32))) 15#32) = 15#32 := by
  have t := itoInt N (by omega) (by omega)
  have hm : IntOp.maxsi (BitVec.ofInt 32 N) 1#32 = BitVec.ofInt 32 N := by
    unfold IntOp.maxsi
    rw [slt_iff, t, if_pos (by simp; omega)]
  have hs : FloatOps.sitofp (F := Ideal) FTy.f32 (BitVec.ofInt 32 N) = (((N : ℝ)) : EReal) := by
    show ((((BitVec.ofInt 32 N).toInt : ℝ)) : EReal) = _
    rw [t]
  have hc : IntOp.cmpi CmpIPredicate.slt (BitVec.ofInt 32 N) 8#32 = 0#1 := by
    show BitVec.ofBool ((BitVec.ofInt 32 N).slt 8#32) = _
    rw [slt_iff, t, decide_eq_false (by show ¬ N < 8; omega)]; rfl
  obtain ⟨z, z1, z2, hz⟩ := large N h1 h2
  rw [hm, hs, hc, hz]
  show IntOp.minsi (IntOp.addi (BitVec.ofInt 32 8) _) _ = _
  rw [iadd]
  unfold IntOp.minsi
  rw [slt_iff, itoInt _ (by omega) (by omega), if_neg (by simp; show (15 : ℤ) ≤ _; omega)]

theorem sat_hi (z : ℤ) (h1 : 513 ≤ z) (h2 : z ≤ 10000) : gix (BitVec.ofInt 32 z) = 31#32 := by
  have t := itoInt z (by omega) (by omega)
  have ha : IntOp.absi (BitVec.ofInt 32 z) = BitVec.ofInt 32 z := by
    unfold IntOp.absi
    rw [BitVec.msb_eq_toInt, t, decide_eq_false (by omega)]; rfl
  have hb : bkt (BitVec.ofInt 32 z) = 31#32 := by
    unfold bkt
    rw [ha, part z h1 h2]
    have hc : IntOp.cmpi CmpIPredicate.sgt (BitVec.ofInt 32 z) 0#32 = 1#1 := by
      show BitVec.ofBool ((0#32).slt (BitVec.ofInt 32 z)) = _
      rw [slt_iff, t, decide_eq_true (by show (0 : ℤ) < z; omega)]; rfl
    rw [hc]; rfl
  unfold gix
  rw [hb]; rfl

theorem sat_lo (z : ℤ) (h1 : z ≤ -513) (h2 : -10000 ≤ z) : gix (BitVec.ofInt 32 z) = 15#32 := by
  have t := itoInt z (by omega) (by omega)
  have ha : IntOp.absi (BitVec.ofInt 32 z) = BitVec.ofInt 32 (-z) := by
    unfold IntOp.absi
    rw [BitVec.msb_eq_toInt, t, decide_eq_true (by omega), if_pos rfl, BitVec.ofInt_neg]
  have hb : bkt (BitVec.ofInt 32 z) = 15#32 := by
    unfold bkt
    rw [ha, part (-z) (by omega) (by omega)]
    have hc : IntOp.cmpi CmpIPredicate.sgt (BitVec.ofInt 32 z) 0#32 = 0#1 := by
      show BitVec.ofBool ((0#32).slt (BitVec.ofInt 32 z)) = _
      rw [slt_iff, t, decide_eq_false (by show ¬ (0 : ℤ) < z; omega)]; rfl
    rw [hc]; rfl
  unfold gix
  rw [hb]; rfl

/-- The bias at relative position `z`. -/
def tz (w : (⟨2, ![32, 12]⟩ : Shape).Idx → EReal) (h : Fin 4) (z : ℤ) : EReal := tb w h (BitVec.ofInt 32 z)

theorem tz_hi (w : (⟨2, ![32, 12]⟩ : Shape).Idx → EReal) (h : Fin 4) (y z : ℤ) (h1 : 513 ≤ z) (h2 : z ≤ 10000) (h3 : 513 ≤ y) (h4 : y ≤ 10000) : tz w h y = tz w h z := by
  unfold tz tb; rw [sat_hi z h1 h2, sat_hi y h3 h4]

theorem tz_lo (w : (⟨2, ![32, 12]⟩ : Shape).Idx → EReal) (h : Fin 4) (y z : ℤ) (h1 : z ≤ -513) (h2 : -10000 ≤ z) (h3 : y ≤ -513) (h4 : -10000 ≤ y) : tz w h y = tz w h z := by
  unfold tz tb; rw [sat_lo z h1 h2, sat_lo y h3 h4]

/-- A tile of the kernel's table. -/
theorem tileZ (w : (⟨2, ![32, 12]⟩ : Shape).Idx → EReal) (h : Fin 4) (t k q : ℕ) :
    tb w h (IntOp.subi (IntOp.addi (IntOp.muli (IntOp.subi (BitVec.ofNat 32 t) 2#32) 512#32) (BitVec.ofNat 32 k)) (BitVec.ofNat 32 q))
      = tz w h (((t : ℤ) - 2) * 512 + k - q) := by
  unfold tz
  rw [inat t, inat k, inat q]
  refine congrArg (tb w h) ?_
  show IntOp.subi (IntOp.addi (IntOp.muli (IntOp.subi _ (BitVec.ofInt 32 2)) (BitVec.ofInt 32 512)) _) _ = _
  rw [isub, imul, iadd, isub]

/-- A memory token's. -/
theorem metaZ (w : (⟨2, ![32, 12]⟩ : Shape).Idx → EReal) (h : Fin 4) (k q : ℕ) :
    tb w h (IntOp.subi (BitVec.ofNat 32 k) (IntOp.addi (BitVec.ofNat 32 q) 16#32)) = tz w h ((k : ℤ) - (q + 16)) := by
  unfold tz
  rw [inat k, inat q]
  refine congrArg (tb w h) ?_
  show IntOp.subi _ (IntOp.addi _ (BitVec.ofInt 32 16)) = _
  rw [iadd, isub]

/-- The reference's, at a key of the padded 8320. -/
theorem refZ (w : (⟨2, ![32, 12]⟩ : Shape).Idx → EReal) (h : Fin 4) (k q : ℕ) :
    tb w h (IntOp.subi (IntOp.subi (BitVec.ofNat 32 k) 112#32) (IntOp.addi (BitVec.ofNat 32 q) 16#32)) = tz w h ((k : ℤ) - 112 - (q + 16)) := by
  unfold tz
  rw [inat k, inat q]
  refine congrArg (tb w h) ?_
  show IntOp.subi (IntOp.subi _ (BitVec.ofInt 32 112)) (IntOp.addi _ (BitVec.ofInt 32 16)) = _
  rw [iadd, isub, isub]

end Cert.AttnV

end
-- ==== Proof.AttnRefReal.lean ====
/-
  Hand-written, untrusted. The reference's attention at real arguments: a query's weights are `exp (score) / Z`, so the weighted sums are
  quotients of sums over the memory tokens and the tokens; the padding's weights vanish.
-/
module

public import proofs.«01_k».proof.Proof.AttnReal
public import proofs.«01_k».proof.Proof.AttnRefRead
public import proofs.«01_k».proof.Proof.AttnBias

@[expose] public section

set_option maxRecDepth 16384

noncomputable section

namespace Cert.AttnV

open Cert.ReferenceIdeal Cert.ReferenceIdeal.Value
open Idealize.ShloMosaic Idealize.ShloMosaic.TcCoe

/-- Padded key `128 + 512 j + k`, and padded key `112 + k` of a memory token. -/
abbrev kT (j : Fin 16) (k : Fin 512) : Fin 8320 := ⟨128 + (512 * j.val + k.val), by omega⟩
abbrev kM (k : Fin 16) : Fin 8320 := ⟨112 + k.val, by omega⟩
abbrev kP (k : Fin 112) : Fin 8320 := ⟨k.val, by omega⟩

/-- A sum over the padded keys: padding, memory tokens, tokens by 16 tiles. -/
theorem sum8320 {M : Type*} [AddCommMonoid M] (f : Fin 8320 → M) :
    ∑ x, f x = ∑ x : Fin 112, f (kP x) + (∑ x : Fin 16, f (kM x) + ∑ j : Fin 16, ∑ k : Fin 512, f (kT j k)) := by
  have h1 : ∑ x : Fin 8320, f x = ∑ x : Fin (112 + (16 + 16 * 512)), f ⟨x.val, x.isLt⟩ := rfl
  rw [h1, Fin.sum_univ_add, Fin.sum_univ_add]
  refine congrArg₂ _ rfl (congrArg₂ _ rfl ?_)
  rw [← Fintype.sum_prod_type']
  refine (Fintype.sum_equiv finProdFinEquiv _ _ fun x => ?_).symm
  refine congrArg f (Fin.ext ?_)
  show 128 + (512 * x.1.val + x.2.val) = 112 + (16 + (x.2.val + 512 * x.1.val))
  omega

/-- A maximum along the last of five axes is real as soon as one entry is and none is `+∞`. -/
theorem max_real {n0 n1 n2 n3 n4 : Nat} {t v : Shape} (h : (⟨5, ![n0, n1, n2, n3, n4]⟩ : Shape).ReducesTo [4] t) (f : (⟨5, ![n0, n1, n2, n3, n4]⟩ : Shape).Idx → EReal)
    (init : v.Idx → EReal) (hi : ∀ x, init x = ⊥) (hu : 0 < v.numel) (j : t.Idx) (i : (⟨5, ![n0, n1, n2, n3, n4]⟩ : Shape).Idx) (hj : h.drop i = j) (r : ℝ) (hr : f i = (r : EReal))
    (ht : ∀ x, h.drop x = j → f x ≠ ⊤) : ∃ M : ℝ, Host.reduce (max : EReal → EReal → EReal) f init h hu j = (M : EReal) := by
  rw [Host.reduce_eq_fold, hi]
  exact fold_real _ f i (Finset.mem_filter.2 ⟨Finset.mem_univ _, hj⟩) r hr fun x hx => ht x (Finset.mem_filter.1 hx).2

theorem max_bot (z : S_.Idx → EReal) (hz : ∀ x, z x = ⊥) (g : FVec Ideal S8x4x2x8192 .f32) (i : S8x4x2x8192.Idx) :
    maximumf (broadcastInDim S8x4x2x8192 ![] Gen.bcast_S_S8x4x2x8192 z : FVec Ideal S8x4x2x8192 .f32) g i = g i := by
  show max (z _) (g i) = g i
  rw [hz]
  exact max_eq_right bot_le

/-- The row maximum is real as soon as one score is and none is `+∞`. -/
theorem mx_real (s : FVec Ideal S8x4x2x8192x8320 .f32) (b : Fin 8) (h : Fin 4) (u : Fin 2) (q : Fin 8192) (k : Fin 8320) (r : ℝ)
    (hr : s (ix5 b h u q k) = (r : EReal)) (ht : ∀ x, s (ix5 b h u q x) ≠ ⊤) : ∃ M : ℝ, mx s (ix4 b h u q) = (M : EReal) := by
  have hd : ∀ x : Fin 8320, Gen.reducesTo_S8x4x2x8192x8320_S8x4x2x8192_d4.drop (ix5 b h u q x) = ix4 b h u q := fun x => by
    funext a
    match a with
    | ⟨0, _⟩ => rfl
    | ⟨1, _⟩ => rfl
    | ⟨2, _⟩ => rfl
    | ⟨3, _⟩ => rfl
  obtain ⟨M, hM⟩ := max_real Gen.reducesTo_S8x4x2x8192x8320_S8x4x2x8192_d4 s (constant (F := Ideal) S_ .f32 0xFF800000#32) (fun _ => negInf) Gen.h_S_ (ix4 b h u q)
    (ix5 b h u q k) (hd k) r hr (fun x hx => by
      obtain ⟨y, hy⟩ := (Shape.ReducesTo.fiber_r5_a4 Gen.reducesTo_S8x4x2x8192x8320_S8x4x2x8192_d4 (ix4 b h u q) x).1 hx
      rw [← hy]
      exact ht y)
  refine ⟨M, (max_bot _ (fun _ => negInf) _ _).trans hM⟩

section
variable (w : (⟨2, ![32, 12]⟩ : Shape).Idx → ℝ)

/-- The real bias at a relative position. -/
def tr (h : Fin 4) (z : ℤ) : ℝ := w (ix2 (crow (gix (BitVec.ofInt 32 z))) ⟨h.val, by omega⟩)

theorem tz_real (W : (⟨2, ![32, 12]⟩ : Shape).Idx → EReal) (hw : ∀ i, W i = (w i : EReal)) (h : Fin 4) (z : ℤ) : tz W h z = (tr w h z : EReal) := hw _
end

variable (A0 A1 A2 : S8x8192x512.Idx → ℝ) (A4 A5 : S16x512.Idx → ℝ) (A6 : S32x12.Idx → ℝ)

/-- The raw score against a token, against a memory token; the values. -/
def rT (b : Fin 8) (h : Fin 4) (u : Fin 2) (q : Fin 8192) (j : Fin 16) (k : Fin 512) : ℝ :=
  (∑ x : Fin 64, A0 (ix3 b q (hc h u x)) * A1 (ix3 b (rw j k) (hc h u x))) * (1 / 8)
def rM (b : Fin 8) (h : Fin 4) (u : Fin 2) (q : Fin 8192) (k : Fin 16) : ℝ :=
  (∑ x : Fin 64, A0 (ix3 b q (hc h u x)) * A4 (ix2 k (hc h u x))) * (1 / 8)
def bT (h : Fin 4) (q : Fin 8192) (j : Fin 16) (k : Fin 512) : ℝ := tr A6 h ((512 * (j.val : ℤ) + k.val) - q.val)
def bM (h : Fin 4) (q : Fin 8192) (k : Fin 16) : ℝ := tr A6 h ((k.val : ℤ) - (q.val + 16))

/-- The sums of a query of head `h`, half `u`. -/
def NR (b : Fin 8) (h : Fin 4) (u : Fin 2) (q : Fin 8192) (e : Fin 144) : ℝ :=
  NN (fun k => rM A0 A4 b h u q k + bM A6 h q k) (fun d k => A5 (ix2 k (hd h d))) (fun j d k => A2 (ix3 b (rw j k) (hd h d)))
    (fun j k => rT A0 A1 b h u q j k + bT A6 h q j k) e

theorem e128 : (128 : Fin 144).val = 128 := rfl

theorem NR_pos (b : Fin 8) (h : Fin 4) (u : Fin 2) (q : Fin 8192) : 0 < NR A0 A1 A2 A4 A5 A6 b h u q 128 := by
  unfold NR NN pvR
  simp only [e128, lt_irrefl, dif_neg, not_false_eq_true, if_true, if_pos]
  simp only [one_mul]
  refine add_pos_of_pos_of_nonneg (Finset.sum_pos (fun _ _ => Real.exp_pos _) ⟨0, Finset.mem_univ _⟩)
    (Finset.sum_nonneg fun _ _ => Finset.sum_nonneg fun _ _ => (Real.exp_pos _).le)

variable (V0 : Idealize.ShloMosaic.Valuation τ sig (Elt Ideal))

theorem cq : Ideal.ofBits FTy.f32 1040187392#32 = (((1 / 8 : ℝ)) : EReal) := by
  simp [Ideal.ofBits, Ideal.ieee, -EReal.coe_mul]; norm_num

theorem kge (k : Fin 8320) : IntOp.cmpi CmpIPredicate.sge (IntOp.subi (BitVec.ofNat 32 k.val) 112#32) 0#32 = if k.val < 112 then 0#1 else 1#1 := by
  have e : IntOp.subi (BitVec.ofNat 32 k.val) 112#32 = BitVec.ofInt 32 ((k.val : ℤ) - 112) := by
    rw [inat]; exact isub _ 112
  rw [e]
  show BitVec.ofBool ((0#32).sle (BitVec.ofInt 32 ((k.val : ℤ) - 112))) = _
  have hs : (0#32).sle (BitVec.ofInt 32 ((k.val : ℤ) - 112)) = decide ((0#32).toInt ≤ (BitVec.ofInt 32 ((k.val : ℤ) - 112)).toInt) := rfl
  rw [hs, itoInt _ (by omega) (by omega)]
  by_cases hk : k.val < 112
  · rw [if_pos hk, decide_eq_false (by show ¬ (0 : ℤ) ≤ _; omega)]; rfl
  · rw [if_neg hk, decide_eq_true (by show (0 : ℤ) ≤ _; omega)]; rfl

variable (h0 : ∀ i, R0 V0 i = (A0 i : EReal)) (h1 : ∀ i, R1 V0 i = (A1 i : EReal)) (h2 : ∀ i, R2 V0 i = (A2 i : EReal))
variable (h4 : ∀ i, R4 V0 i = (A4 i : EReal)) (h5 : ∀ i, R5 V0 i = (A5 i : EReal)) (h6 : ∀ i, R6 V0 i = (A6 i : EReal))

theorem padd_P (am : S16x512.Idx → EReal) (a : S8x8192x512.Idx → EReal) (b : Fin 8) (k : Fin 112) (x : Fin 512) : padd am a b (kP k) x = 0 := by
  unfold padd; rw [if_pos k.isLt]

theorem padd_M (am : S16x512.Idx → EReal) (a : S8x8192x512.Idx → EReal) (b : Fin 8) (k : Fin 16) (x : Fin 512) : padd am a b (kM k) x = am (ix2 k x) := by
  unfold padd
  rw [if_neg (by show ¬ 112 + k.val < 112; omega), dif_pos (by show 112 + k.val - 112 < 16; omega)]
  exact congrArg (fun y => am (ix2 y x)) (Fin.ext (by show 112 + k.val - 112 = k.val; omega))

theorem padd_T (am : S16x512.Idx → EReal) (a : S8x8192x512.Idx → EReal) (b : Fin 8) (j : Fin 16) (k : Fin 512) (x : Fin 512) :
    padd am a b (kT j k) x = a (ix3 b (rw j k) x) := by
  unfold padd
  rw [if_neg (by show ¬ 128 + (512 * j.val + k.val) < 112; omega), dif_neg (by show ¬ 128 + (512 * j.val + k.val) - 112 < 16; omega)]
  exact congrArg (fun y => a (ix3 b y x)) (Fin.ext (by show 128 + (512 * j.val + k.val) - 112 - 16 = 512 * j.val + k.val; omega))

theorem sel1 (a b : EReal) : Scalar.select 1#1 a b = a := rfl
theorem sel0 (a b : EReal) : Scalar.select 0#1 a b = b := rfl

theorem t72P (b : Fin 8) (h : Fin 4) (u : Fin 2) (q : Fin 8192) (k : Fin 112) : T72 V0 (ix5 b h u q (kP k)) = ⊥ := by
  rw [r72, kge, if_pos k.isLt, sel0, negInf]

theorem dotR (f g : Fin 64 → EReal) (F G : Fin 64 → ℝ) (hf : ∀ x, f x = (F x : EReal)) (hg : ∀ x, g x = (G x : EReal)) :
    (∑ x, f x * g x) * Ideal.ofBits FTy.f32 1040187392#32 = (((∑ x, F x * G x) * (1 / 8) : ℝ) : EReal) := by
  rw [coe_sum' Finset.univ (fun x => f x * g x) (fun x => F x * G x) (fun x _ => by rw [hf, hg, EReal.coe_mul]), cq, ← EReal.coe_mul]

include h0 h4 h6 in
theorem t72M (b : Fin 8) (h : Fin 4) (u : Fin 2) (q : Fin 8192) (k : Fin 16) :
    T72 V0 (ix5 b h u q (kM k)) = ((rM A0 A4 b h u q k + bM A6 h q k : ℝ) : EReal) := by
  rw [r72, kge, if_neg (by show ¬ 112 + k.val < 112; omega), sel1]
  have e := (refZ (R6 V0) h (kM k).val q.val).trans (tz_real A6 (R6 V0) h6 h _)
  rw [show ((kM k).val : ℤ) - 112 - (q.val + 16) = (k.val : ℤ) - (q.val + 16) by push_cast; ring] at e
  unfold relR
  rw [e, dotR _ _ (fun x => A0 (ix3 b q (hc h u x))) (fun x => A4 (ix2 k (hc h u x))) (fun x => h0 _) (fun x => (padd_M _ _ _ _ _).trans (h4 _)), ← EReal.coe_add]
  rfl

include h0 h1 h6 in
theorem t72T (b : Fin 8) (h : Fin 4) (u : Fin 2) (q : Fin 8192) (j : Fin 16) (k : Fin 512) :
    T72 V0 (ix5 b h u q (kT j k)) = ((rT A0 A1 b h u q j k + bT A6 h q j k : ℝ) : EReal) := by
  rw [r72, kge, if_neg (by show ¬ 128 + (512 * j.val + k.val) < 112; omega), sel1]
  have e := (refZ (R6 V0) h (kT j k).val q.val).trans (tz_real A6 (R6 V0) h6 h _)
  rw [show ((kT j k).val : ℤ) - 112 - (q.val + 16) = (512 * (j.val : ℤ) + k.val) - q.val by push_cast; ring] at e
  unfold relR
  rw [e, dotR _ _ (fun x => A0 (ix3 b q (hc h u x))) (fun x => A1 (ix3 b (rw j k) (hc h u x))) (fun x => h0 _) (fun x => (padd_T _ _ _ _ _ _).trans (h1 _)), ← EReal.coe_add]
  rfl

/-- Every padded key is padding, a memory token or a token. -/
theorem k_cases (k : Fin 8320) : (∃ i, k = kP i) ∨ (∃ i, k = kM i) ∨ ∃ j i, k = kT j i := by
  by_cases h : k.val < 112
  · exact .inl ⟨⟨k.val, h⟩, rfl⟩
  by_cases h' : k.val < 128
  · exact .inr (.inl ⟨⟨k.val - 112, by omega⟩, Fin.ext (by show k.val = 112 + (k.val - 112); omega)⟩)
  · exact .inr (.inr ⟨⟨(k.val - 128) / 512, by omega⟩, ⟨(k.val - 128) % 512, by omega⟩, Fin.ext (by
      show k.val = 128 + (512 * ((k.val - 128) / 512) + (k.val - 128) % 512); omega)⟩)

include h0 h1 h4 h6 in
/-- The exponentials, up to the factor the row maximum leaves. -/
theorem t79 (b : Fin 8) (h : Fin 4) (u : Fin 2) (q : Fin 8192) : ∃ w : ℝ, 0 < w ∧ (∀ k, T79 V0 (ix5 b h u q (kP k)) = ((0 : ℝ) : EReal))
    ∧ (∀ k, T79 V0 (ix5 b h u q (kM k)) = ((w * Real.exp (rM A0 A4 b h u q k + bM A6 h q k) : ℝ) : EReal))
    ∧ ∀ j k, T79 V0 (ix5 b h u q (kT j k)) = ((w * Real.exp (rT A0 A1 b h u q j k + bT A6 h q j k) : ℝ) : EReal) := by
  obtain ⟨M, hM⟩ := mx_real (T72 V0) b h u q (kM 0) _ (t72M A0 A4 A6 V0 h0 h4 h6 b h u q 0) (fun x => by
    rcases k_cases x with ⟨i, rfl⟩ | ⟨i, rfl⟩ | ⟨j, i, rfl⟩
    · rw [t72P]; exact bot_ne_top
    · rw [t72M A0 A4 A6 V0 h0 h4 h6]; exact EReal.coe_ne_top _
    · rw [t72T A0 A1 A6 V0 h0 h1 h6]; exact EReal.coe_ne_top _)
  have hx : ∀ s : ℝ, Ideal.exp ((s : EReal) - (M : EReal)) = ((Real.exp (-M) * Real.exp s : ℝ) : EReal) := fun s => by
    rw [← EReal.coe_sub, Ideal.exp_coe, ← Real.exp_add, show -M + s = s - M by ring]
  refine ⟨Real.exp (-M), Real.exp_pos _, fun k => ?_, fun k => ?_, fun j k => ?_⟩
  · rw [r79, t72P, hM, EReal.bot_sub, Ideal.exp_bot]; rfl
  · rw [r79, t72M A0 A4 A6 V0 h0 h4 h6, hM, hx]
  · rw [r79, t72T A0 A1 A6 V0 h0 h1 h6, hM, hx]

include h0 h1 h4 h6 in
theorem zsum (A2 : S8x8192x512.Idx → ℝ) (A5 : S16x512.Idx → ℝ) (b : Fin 8) (h : Fin 4) (u : Fin 2) (q : Fin 8192) (w : ℝ) (hP : ∀ k, T79 V0 (ix5 b h u q (kP k)) = ((0 : ℝ) : EReal))
    (hM : ∀ k, T79 V0 (ix5 b h u q (kM k)) = ((w * Real.exp (rM A0 A4 b h u q k + bM A6 h q k) : ℝ) : EReal))
    (hT : ∀ j k, T79 V0 (ix5 b h u q (kT j k)) = ((w * Real.exp (rT A0 A1 b h u q j k + bT A6 h q j k) : ℝ) : EReal)) :
    ∑ x, T79 V0 (ix5 b h u q x) = ((w * NR A0 A1 A2 A4 A5 A6 b h u q 128 : ℝ) : EReal) := by
  rw [sum8320, coe_sum' _ _ _ (fun x _ => hP x), coe_sum' _ _ _ (fun x _ => hM x),
    coe_sum' _ _ _ (fun j _ => coe_sum' _ _ _ (fun k _ => hT j k)), ← EReal.coe_add, ← EReal.coe_add]
  refine congrArg _ ?_
  unfold NR NN pvR
  simp only [e128, lt_irrefl, dif_neg, not_false_eq_true, if_true, if_pos, Finset.sum_const_zero, zero_add, mul_add, Finset.mul_sum, one_mul]

include h0 h1 h4 h6 in
/-- The weights. -/
theorem t83 (A2 : S8x8192x512.Idx → ℝ) (A5 : S16x512.Idx → ℝ) (b : Fin 8) (h : Fin 4) (u : Fin 2) (q : Fin 8192) : (∀ k, T83 V0 (ix5 b h u q (kP k)) = ((0 : ℝ) : EReal))
    ∧ (∀ k, T83 V0 (ix5 b h u q (kM k)) = ((Real.exp (rM A0 A4 b h u q k + bM A6 h q k) / NR A0 A1 A2 A4 A5 A6 b h u q 128 : ℝ) : EReal))
    ∧ ∀ j k, T83 V0 (ix5 b h u q (kT j k)) = ((Real.exp (rT A0 A1 b h u q j k + bT A6 h q j k) / NR A0 A1 A2 A4 A5 A6 b h u q 128 : ℝ) : EReal) := by
  obtain ⟨w, hw, hP, hM, hT⟩ := t79 A0 A1 A4 A6 V0 h0 h1 h4 h6 b h u q
  have hz := zsum A0 A1 A4 A6 V0 h0 h1 h4 h6 A2 A5 b h u q w hP hM hT
  have hN := NR_pos A0 A1 A2 A4 A5 A6 b h u q
  generalize NR A0 A1 A2 A4 A5 A6 b h u q 128 = N at hz hN ⊢
  have hd : ∀ s : ℝ, Ideal.div ((w * s : ℝ) : EReal) ((w * N : ℝ) : EReal) = ((s / N : ℝ) : EReal) := fun s => by
    unfold Ideal.div
    rw [if_neg (EReal.coe_ne_zero.2 (mul_pos hw hN).ne'), ← EReal.coe_inv, ← EReal.coe_mul]
    refine congrArg _ ?_
    field_simp
  refine ⟨fun k => ?_, fun k => ?_, fun j k => ?_⟩
  · rw [r83, hz, hP]
    have := hd 0
    rw [mul_zero, zero_div] at this
    exact this
  · rw [r83, hz, hM, hd]
  · rw [r83, hz, hT, hd]

/-- The weighted sums, as reals. -/
def OR (b : Fin 8) (h : Fin 4) (u : Fin 2) (q : Fin 8192) (d : Fin 128) : ℝ :=
  NR A0 A1 A2 A4 A5 A6 b h u q (e8 d) / NR A0 A1 A2 A4 A5 A6 b h u q 128

include h0 h1 h2 h4 h5 h6 in
theorem t92 (L : ℝ) (hL : lamE (R7 V0) (R8 V0) (R9 V0) (R10 V0) = (L : EReal)) (b : Fin 8) (q : Fin 8192) (h : Fin 4) (d : Fin 128) :
    T92 V0 (ix4 b q h d) = ((OR A0 A1 A2 A4 A5 A6 b h 0 q d - L * OR A0 A1 A2 A4 A5 A6 b h 1 q d : ℝ) : EReal) := by
  rw [r92, hL, sum8320]
  obtain ⟨p0, m0, t0⟩ := t83 A0 A1 A4 A6 V0 h0 h1 h4 h6 A2 A5 b h 0 q
  obtain ⟨p1, m1, t1⟩ := t83 A0 A1 A4 A6 V0 h0 h1 h4 h6 A2 A5 b h 1 q
  rw [coe_sum' _ _ (fun _ => 0) (fun x _ => by rw [padd_P, zero_mul]; rfl),
    coe_sum' _ _ _ (fun x _ => by rw [padd_M, h5, m0, m1, ← EReal.coe_mul, ← EReal.coe_sub, ← EReal.coe_mul]),
    coe_sum' _ _ _ (fun j _ => coe_sum' _ _ _ (fun k _ => by rw [padd_T, h2, t0, t1, ← EReal.coe_mul, ← EReal.coe_sub, ← EReal.coe_mul])),
    ← EReal.coe_add, ← EReal.coe_add]
  refine congrArg _ ?_
  unfold OR
  generalize NR A0 A1 A2 A4 A5 A6 b h 0 q 128 = N0
  generalize NR A0 A1 A2 A4 A5 A6 b h 1 q 128 = N1
  unfold NR NN pvR
  have he : (e8 d).val < 128 := d.isLt
  have he' : (⟨(e8 d).val, he⟩ : Fin 128) = d := rfl
  simp only [he, dif_pos, he', Finset.sum_const_zero, zero_add, add_div, mul_add, Finset.sum_div, Finset.mul_sum]
  rw [add_sub_add_comm]
  refine congrArg₂ _ ?_ ?_
  · rw [← Finset.sum_sub_distrib]
    refine Finset.sum_congr rfl fun k _ => ?_
    ring
  · rw [← Finset.sum_sub_distrib]
    refine Finset.sum_congr rfl fun j _ => ?_
    rw [← Finset.sum_sub_distrib]
    refine Finset.sum_congr rfl fun k _ => ?_
    ring

end Cert.AttnV

end
-- ==== Proof.AttnKer.lean ====
/-
  Hand-written, untrusted. One block of the kernel at real arguments: each column of the accumulator is the reference's sums up to a
  positive factor, so the quotients, and with them the difference of the two maps, are the reference's.
-/
module

public import proofs.«01_k».proof.Proof.AttnRefReal

@[expose] public section

set_option maxRecDepth 16384

noncomputable section

namespace Cert.AttnV

open Cert.KernelIdeal Cert.KernelIdeal.Gen
open Idealize.ShloMosaic Idealize.ShloMosaic.TcCoe

/-- Column of half `u`, query `p`. -/
abbrev cU (u : Fin 2) (p : Fin 1024) : Fin 2048 := ⟨1024 * u.val + p.val, by omega⟩
/-- Query `q` of query block `i`. -/
abbrev qi (i : Fin 8) (q : Fin 1024) : Fin 8192 := ⟨1024 * i.val + q.val, by omega⟩
/-- Entry `x` of half `u`. -/
abbrev ux (u : Fin 2) (x : Fin 64) : Fin 128 := ⟨64 * u.val + x.val, by omega⟩

variable (b : Fin 8) (h : Fin 4) (i : Fin 8) (W : S32x12.Idx → EReal)
variable (A0 A1 A2 : S8x8192x512.Idx → ℝ) (A4 A5 : S16x512.Idx → ℝ) (A6 : S32x12.Idx → ℝ)
variable (v4 : Vec Ideal S1x1x128x1024 .bf16) (v5 : Vec Ideal S1x8192x128 .bf16) (v6 : Vec Ideal S1x16x128x512 .bf16) (v7 : Vec Ideal S1x16x128 .bf16)
  (v8 : Vec Ideal S1x1x128x16 .bf16) (v9 : Vec Ideal S1x5x512x512 .f32) (v10 : Vec Ideal S1x16x1024 .f32)

variable (k4 : ∀ (x : Fin 128) (q : Fin 1024), v4 (ix4 0 0 x q) = (A0 (ix3 b (qi i q) (hd h x)) : EReal))
  (k5 : ∀ (k : Fin 8192) (x : Fin 128), v5 (ix3 0 k x) = (A1 (ix3 b k (hd h x)) : EReal))
  (k6 : ∀ (j : Fin 16) (d : Fin 128) (x : Fin 512), v6 (ix4 0 j d x) = (A2 (ix3 b (rw j x) (hd h d)) : EReal))
  (k7 : ∀ (k : Fin 16) (x : Fin 128), v7 (ix3 0 k x) = (A4 (ix2 k (hd h x)) : EReal))
  (k8 : ∀ (d : Fin 128) (k : Fin 16), v8 (ix4 0 0 d k) = (A5 (ix2 k (hd h d)) : EReal))
  (k9 : ∀ (t : Fin 5) (k q : Fin 512), v9 (ix4 0 t k q) = tz W h (((t.val : ℤ) - 2) * 512 + k.val - q.val))
  (k10 : ∀ (k : Fin 16) (q : Fin 1024), v10 (ix3 0 k q) = tz W h ((k.val : ℤ) - ((qi i q).val + 16)))
  (hw : ∀ x, W x = (A6 x : EReal))

include k4 in
theorem qM_real (u : Fin 2) (p : Fin 1024) (x : Fin 128) : qM v4 (ix2 x (cU u p))
    = ((if x.val / 64 = u.val then A0 (ix3 b (qi i p) (hd h x)) * (1 / 8 * L2) else 0 : ℝ) : EReal) := by
  have hc : col (cU u p) = p := Fin.ext (by show (1024 * u.val + p.val) % 1024 = p.val; omega)
  have e : v4 (ix4 0 0 x (col (cU u p))) * qs = ((A0 (ix3 b (qi i p) (hd h x)) * (1 / 8 * L2) : ℝ) : EReal) := by
    rw [hc, k4, qs_eq, ← EReal.coe_mul]
  show (if 1024 * u.val + p.val < 1024 then (if x.val < 64 then v4 (ix4 0 0 x (col (cU u p))) * qs else 0)
    else (if 64 ≤ x.val then v4 (ix4 0 0 x (col (cU u p))) * qs else 0)) = _
  rw [e]
  have hx := x.isLt
  have hp := p.isLt
  by_cases h1 : 1024 * u.val + p.val < 1024
  · rw [if_pos h1]
    by_cases h2 : x.val < 64
    · rw [if_pos h2, if_pos (by omega)]
    · rw [if_neg h2, if_neg (by omega)]; rfl
  · rw [if_neg h1]
    by_cases h2 : 64 ≤ x.val
    · rw [if_pos h2, if_pos (by omega)]
    · rw [if_neg h2, if_neg (by omega)]; rfl

/-- Half of a sum. -/
theorem half (u : Fin 2) (F : Fin 128 → ℝ) : ∑ x : Fin 128, (if x.val / 64 = u.val then F x else 0) = ∑ x : Fin 64, F (ux u x) := by
  have h1 : ∑ x : Fin 128, (if x.val / 64 = u.val then F x else 0) = ∑ x : Fin (64 + 64), (if x.val / 64 = u.val then F ⟨x.val, x.isLt⟩ else 0) := rfl
  rw [h1, Fin.sum_univ_add]
  have h2 : ∀ x : Fin 64, (Fin.castAdd 64 x).val / 64 = 0 := fun x => by show x.val / 64 = 0; omega
  have h3 : ∀ x : Fin 64, (Fin.natAdd 64 x).val / 64 = 1 := fun x => by show (64 + x.val) / 64 = 1; omega
  simp only [h2, h3]
  fin_cases u
  · simp
    exact Finset.sum_congr rfl fun x _ => congrArg F (Fin.ext (by show x.val = 64 * 0 + x.val; omega))
  · simp
    exact Finset.sum_congr rfl fun x _ => congrArg F (Fin.ext (by show x.val + 64 = 64 * 1 + x.val; omega))

include k4 in
theorem dotQ (u : Fin 2) (p : Fin 1024) (f : Fin 128 → EReal) (F : Fin 512 → ℝ) (hf : ∀ x, f x = (F (hd h x) : EReal)) :
    ∑ x : Fin 128, f x * qM v4 (ix2 x (cU u p))
      = (((∑ x : Fin 64, A0 (ix3 b (qi i p) (hc h u x)) * F (hc h u x)) * (1 / 8) * L2 : ℝ) : EReal) := by
  rw [coe_sum' Finset.univ (fun x => f x * qM v4 (ix2 x (cU u p)))
    (fun x => if x.val / 64 = u.val then F (hd h x) * (A0 (ix3 b (qi i p) (hd h x)) * (1 / 8 * L2)) else 0) (fun x _ => by
      rw [hf, qM_real b h i A0 v4 k4, ← EReal.coe_mul, mul_ite, mul_zero]), half]
  refine congrArg _ ?_
  rw [Finset.sum_mul, Finset.sum_mul]
  refine Finset.sum_congr rfl fun x _ => ?_
  have e : hd h (ux u x) = hc h u x := Fin.ext (by show h.val * 128 + (64 * u.val + x.val) = h.val * 128 + u.val * 64 + x.val; omega)
  rw [e]; ring

include k4 k5 in
theorem raw_real (u : Fin 2) (p : Fin 1024) (j : Fin 16) (k : Fin 512) :
    raw (qM v4) v5 j k (cU u p) = ((rT A0 A1 b h u (qi i p) j k * L2 : ℝ) : EReal) :=
  dotQ b h i A0 v4 k4 u p _ (fun x => A1 (ix3 b (rw j k) x)) (fun x => k5 _ x)

include k4 k7 k10 hw in
theorem sM_real (u : Fin 2) (p : Fin 1024) (k : Fin 16) :
    sM v4 v7 v10 k (cU u p) = (((rM A0 A4 b h u (qi i p) k + bM A6 h (qi i p) k) * L2 : ℝ) : EReal) := by
  have hc : col (cU u p) = p := Fin.ext (by show (1024 * u.val + p.val) % 1024 = p.val; omega)
  unfold sM
  rw [dotQ b h i A0 v4 k4 u p _ (fun x => A4 (ix2 k x)) (fun x => k7 _ x), hc, k10, tz_real A6 W hw, lg_eq, ← EReal.coe_mul, ← EReal.coe_add, add_mul]
  rfl

theorem tz_near (z z' : ℤ) (hz : z = z' ∨ (z ≤ -513 ∧ -10000 ≤ z ∧ z' ≤ -513 ∧ -10000 ≤ z') ∨ (513 ≤ z ∧ z ≤ 10000 ∧ 513 ≤ z' ∧ z' ≤ 10000)) :
    tz W h z = tz W h z' := by
  rcases hz with rfl | ⟨a, b, c, d⟩ | ⟨a, b, c, d⟩
  · rfl
  · exact tz_lo W h z z' c d a b
  · exact tz_hi W h z z' c d a b

include k9 in
theorem bt_z (u : Fin 2) (p : Fin 1024) (j : Fin 16) (k : Fin 512) :
    bt v9 i j k (cU u p) = tz W h (((min 4 (j.val + 2 - (2 * i.val + p.val / 512)) : ℕ) - 2) * 512 + k.val - (p.val % 512 : ℕ)) := by
  unfold bt
  have h1 : uh (cU u p) = ⟨p.val / 512, by omega⟩ := Fin.ext (by show (1024 * u.val + p.val) % 1024 / 512 = p.val / 512; omega)
  have h2 : cl5 (cU u p) = ⟨p.val % 512, by omega⟩ := Fin.ext (by show (1024 * u.val + p.val) % 512 = p.val % 512; omega)
  rw [h1, h2, k9]
  rfl

include k9 hw in
theorem bt_real (u : Fin 2) (p : Fin 1024) (j : Fin 16) (k : Fin 512) : bt v9 i j k (cU u p) = (bT A6 h (qi i p) j k : EReal) := by
  rw [bt_z h i W v9 k9]
  refine Eq.trans ?_ (tz_real A6 W hw h _)
  refine tz_near h W _ _ ?_
  have hk := k.isLt
  have hj := j.isLt
  have hp := p.isLt
  have hi := i.isLt
  show _ ∨ _ ∨ _
  push_cast
  omega

include k9 in
theorem lo_real (u : Fin 2) (c : Fin 1024) (p : Fin 16) (k : Fin 512) (hp4 : 4 ≤ p.val) (h17 : 17 ≤ 2 * i.val + p.val) :
    v9 (ix4 0 0 0 (cl5 (cU u c))) = bt v9 i (tl i p) k (cU u c) := by
  have h2 : cl5 (cU u c) = ⟨c.val % 512, by omega⟩ := Fin.ext (by show (1024 * u.val + c.val) % 512 = c.val % 512; omega)
  rw [bt_z h i W v9 k9, h2, k9]
  refine tz_near h W _ _ (.inr (.inl ?_))
  have hk := k.isLt
  have hp := p.isLt
  have hi := i.isLt
  have hb : min 4 ((tl i p).val + 2 - (2 * i.val + c.val / 512)) = 0 := by
    show min 4 ((2 * i.val + p.val + 15) % 16 + 2 - (2 * i.val + c.val / 512)) = 0
    omega
  rw [hb]
  show (((0 : ℕ) : ℤ) - 2) * 512 + ((0 : ℕ) : ℤ) - ((c.val % 512 : ℕ) : ℤ) ≤ -513 ∧ -10000 ≤ (((0 : ℕ) : ℤ) - 2) * 512 + ((0 : ℕ) : ℤ) - ((c.val % 512 : ℕ) : ℤ) ∧ _ ∧ _
  omega

include k9 in
theorem hi_real (u : Fin 2) (c : Fin 1024) (p : Fin 16) (k : Fin 512) (hp4 : 4 ≤ p.val) (h17 : ¬ 17 ≤ 2 * i.val + p.val) :
    v9 (ix4 0 4 0 (cl5 (cU u c))) = bt v9 i (tl i p) k (cU u c) := by
  have h2 : cl5 (cU u c) = ⟨c.val % 512, by omega⟩ := Fin.ext (by show (1024 * u.val + c.val) % 512 = c.val % 512; omega)
  rw [bt_z h i W v9 k9, h2, k9]
  refine tz_near h W _ _ (.inr (.inr ?_))
  have hk := k.isLt
  have hp := p.isLt
  have hi := i.isLt
  have hc := c.isLt
  have hb : min 4 ((tl i p).val + 2 - (2 * i.val + c.val / 512)) = 4 := by
    show min 4 ((2 * i.val + p.val + 15) % 16 + 2 - (2 * i.val + c.val / 512)) = 4
    omega
  rw [hb]
  show 513 ≤ (((4 : ℕ) : ℤ) - 2) * 512 + ((0 : ℕ) : ℤ) - ((c.val % 512 : ℕ) : ℤ) ∧ (((4 : ℕ) : ℤ) - 2) * 512 + ((0 : ℕ) : ℤ) - ((c.val % 512 : ℕ) : ℤ) ≤ 10000 ∧ _ ∧ _
  omega

include k4 k5 k6 k7 k8 k9 k10 hw in
/-- Either pass's accumulator, a column at a time. -/
theorem acc_real (a : Vec Ideal S144x2048 .f32)
    (ha : (∀ e c, a (ix2 e c) = accH v4 v5 v6 v7 v8 v9 v10 i e c) ∨ (∀ e c, a (ix2 e c) = accT v4 v5 v6 v7 v8 v9 v10 i e c)) (u : Fin 2) (p : Fin 1024) :
    ∃ w : ℝ, 0 < w ∧ ∀ e, a (ix2 e (cU u p)) = ((w * NR A0 A1 A2 A4 A5 A6 b h u (qi i p) e : ℝ) : EReal) := by
  rcases ha with ha | ha
  · obtain ⟨w, hw0, he⟩ := accH_real v4 v5 v6 v7 v8 v9 v10 i (cU u p) (fun k => rM A0 A4 b h u (qi i p) k + bM A6 h (qi i p) k)
      (fun j k => rT A0 A1 b h u (qi i p) j k) (fun j k => bT A6 h (qi i p) j k)
      (fun d k => A5 (ix2 k (hd h d))) (fun j d k => A2 (ix3 b (rw j k) (hd h d)))
      (fun k => sM_real b h i W A0 A4 A6 v4 v7 v10 k4 k7 k10 hw u p k) (fun d x => k8 d x)
      (fun j k => raw_real b h i A0 A1 v4 v5 k4 k5 u p j k) (fun j k => bt_real h i W A6 v9 k9 hw u p j k) (fun j d x => k6 j d x)
      (fun q k h4 h17 => lo_real h i W v9 k9 u p q k h4 h17) (fun q k h4 h17 => hi_real h i W v9 k9 u p q k h4 h17)
    exact ⟨w, hw0, fun e => (ha e _).trans (he e)⟩
  · obtain ⟨w, hw0, he⟩ := accT_real v4 v5 v6 v7 v8 v9 v10 i (cU u p) (fun k => rM A0 A4 b h u (qi i p) k + bM A6 h (qi i p) k)
      (fun j k => rT A0 A1 b h u (qi i p) j k) (fun j k => bT A6 h (qi i p) j k)
      (fun d k => A5 (ix2 k (hd h d))) (fun j d k => A2 (ix3 b (rw j k) (hd h d)))
      (fun k => sM_real b h i W A0 A4 A6 v4 v7 v10 k4 k7 k10 hw u p k) (fun d x => k8 d x)
      (fun j k => raw_real b h i A0 A1 v4 v5 k4 k5 u p j k) (fun j k => bt_real h i W A6 v9 k9 hw u p j k) (fun j d x => k6 j d x)
    exact ⟨w, hw0, fun e => (ha e _).trans (he e)⟩

theorem quot (w N x : ℝ) (hw0 : 0 < w) (hN : 0 < N) : ((w * x : ℝ) : EReal) * Ideal.div 1 ((w * N : ℝ) : EReal) = ((x / N : ℝ) : EReal) := by
  unfold Ideal.div
  rw [if_neg (EReal.coe_ne_zero.2 (mul_pos hw0 hN).ne'), one_mul, ← EReal.coe_inv, ← EReal.coe_mul]
  refine congrArg _ ?_
  field_simp

include k4 k5 k6 k7 k8 k9 k10 hw in
/-- The difference of the two maps is the reference's. -/
theorem odiff_real (a : Vec Ideal S144x2048 .f32)
    (ha : (∀ e c, a (ix2 e c) = accH v4 v5 v6 v7 v8 v9 v10 i e c) ∨ (∀ e c, a (ix2 e c) = accT v4 v5 v6 v7 v8 v9 v10 i e c)) (L : ℝ) (p : Fin 1024) (d : Fin 128) :
    odiff a (L : EReal) p d = ((OR A0 A1 A2 A4 A5 A6 b h 0 (qi i p) d - L * OR A0 A1 A2 A4 A5 A6 b h 1 (qi i p) d : ℝ) : EReal) := by
  obtain ⟨w0, p0, e0⟩ := acc_real b h i W A0 A1 A2 A4 A5 A6 v4 v5 v6 v7 v8 v9 v10 k4 k5 k6 k7 k8 k9 k10 hw a ha 0 p
  obtain ⟨w1, p1, e1⟩ := acc_real b h i W A0 A1 A2 A4 A5 A6 v4 v5 v6 v7 v8 v9 v10 k4 k5 k6 k7 k8 k9 k10 hw a ha 1 p
  have c0 : cL p = cU 0 p := Fin.ext (by show p.val = 1024 * 0 + p.val; omega)
  have c1 : cR p = cU 1 p := Fin.ext (by show 1024 + p.val = 1024 * 1 + p.val; omega)
  unfold odiff
  rw [c0, c1, e0, e0, e1, e1, quot _ _ _ p0 (NR_pos A0 A1 A2 A4 A5 A6 b h 0 _), quot _ _ _ p1 (NR_pos A0 A1 A2 A4 A5 A6 b h 1 _),
    ← EReal.coe_mul, ← EReal.coe_sub]
  rfl

end Cert.AttnV

end
-- ==== Proof.AttnRefOut.lean ====
/-
  Hand-written, untrusted. The attention's specification (`valG`: one entry of the result from the real arguments), and that the reference's
  result is it.
-/
module

public import proofs.«01_k».proof.Proof.AttnKer

@[expose] public section

set_option maxRecDepth 16384

noncomputable section

namespace Cert.AttnV

open Cert.ReferenceIdeal Cert.ReferenceIdeal.Gen Cert.ReferenceIdeal.Value
open Idealize.ShloMosaic Idealize.ShloMosaic.TcCoe Idealize.SL.Sem Idealize.ShloMosaic.StableHlo

/-- The result, from the real arguments, the real factor of the second map, the norm's weight and the gate's argument. -/
def valG (A0 A1 A2 : S8x8192x512.Idx → ℝ) (A4 A5 : S16x512.Idx → ℝ) (A6 : S32x12.Idx → ℝ) (L : ℝ) (g : S128.Idx → EReal) (z : S8x8192x512.Idx → EReal)
    (b : Fin 8) (q : Fin 8192) (h : Fin 4) (d : Fin 128) : EReal :=
  fin128 (fun d => ((OR A0 A1 A2 A4 A5 A6 b h 0 q d - L * OR A0 A1 A2 A4 A5 A6 b h 1 q d : ℝ) : EReal)) (g (ix1 d)) (z (ix3 b q (hd h d))) d

/-- The reference's last operations. -/
def lastR (T : FVec Ideal S8x8192x4x128 .f32) (g : FVec Ideal S128 .f32) (z : FVec Ideal S8x8192x512 .f32) : FVec Ideal S8x8192x512 .bf16 :=
  truncf .bf16 (mulf (shapeCast _ (mulf (mulf (mulf T (broadcastInDim S8x8192x4x128 ![0, 1, 2, 3] bcast_S8x8192x4x1_S8x8192x4x128_0_1_2_3 (Host.rsqrt (addf (Host.divf (broadcastInDim S8x8192x4x1 ![0, 1, 2] bcast_S8x8192x4_S8x8192x4x1_0_1_2 (Host.reduceAdd (mulf T T) (constant S_ .f32 0x00000000#32) reducesTo_S8x8192x4x128_S8x8192x4_d3 h_S_)) (broadcastInDim S8x8192x4x1 ![] bcast_S_S8x8192x4x1 (constant S_ .f32 0x43000000#32))) (broadcastInDim S8x8192x4x1 ![] bcast_S_S8x8192x4x1 (constant S_ .f32 0x358637BD#32)))))) (broadcastInDim S8x8192x4x128 ![0, 1, 2, 3] bcast_S1x1x1x128_S8x8192x4x128_0_1_2_3 (broadcastInDim S1x1x1x128 ![3] bcast_S128_S1x1x1x128_3 g))) (broadcastInDim S8x8192x4x128 ![] bcast_S_S8x8192x4x128 (constant S_ .f32 0x3F4CCCCD#32))) shapeCasts_S8x8192x4x128_S8x8192x512) (mulf z (Host.divf (broadcastInDim S8x8192x512 ![] bcast_S_S8x8192x512 (constant S_ .f32 0x3F800000#32)) (addf (broadcastInDim S8x8192x512 ![] bcast_S_S8x8192x512 (constant S_ .f32 0x3F800000#32)) (Host.exp (Host.negf z)))))) bitsLt_bf16_f32

/-- Unnormalised to normalised, before the gate. -/
def normR (T : FVec Ideal S8x8192x4x128 .f32) (g : FVec Ideal S128 .f32) : FVec Ideal S8x8192x4x128 .f32 :=
  mulf (mulf (mulf T (broadcastInDim S8x8192x4x128 ![0, 1, 2, 3] bcast_S8x8192x4x1_S8x8192x4x128_0_1_2_3 (Host.rsqrt (addf (Host.divf (broadcastInDim S8x8192x4x1 ![0, 1, 2] bcast_S8x8192x4_S8x8192x4x1_0_1_2 (Host.reduceAdd (mulf T T) (constant S_ .f32 0x00000000#32) reducesTo_S8x8192x4x128_S8x8192x4_d3 h_S_)) (broadcastInDim S8x8192x4x1 ![] bcast_S_S8x8192x4x1 (constant S_ .f32 0x43000000#32))) (broadcastInDim S8x8192x4x1 ![] bcast_S_S8x8192x4x1 (constant S_ .f32 0x358637BD#32)))))) (broadcastInDim S8x8192x4x128 ![0, 1, 2, 3] bcast_S1x1x1x128_S8x8192x4x128_0_1_2_3 (broadcastInDim S1x1x1x128 ![3] bcast_S128_S1x1x1x128_3 g))) (broadcastInDim S8x8192x4x128 ![] bcast_S_S8x8192x4x128 (constant S_ .f32 0x3F4CCCCD#32))

theorem normR_apply (T : FVec Ideal S8x8192x4x128 .f32) (g : FVec Ideal S128 .f32) (b : Fin 8) (q : Fin 8192) (h : Fin 4) (d : Fin 128) :
    normR T g (ix4 b q h d) = T (ix4 b q h d) * Ideal.rsqrt (Ideal.div (∑ x : Fin 128, T (ix4 b q h x) * T (ix4 b q h x)) (Ideal.ofBits FTy.f32 1124073472#32)
      + Ideal.ofBits FTy.f32 897988541#32) * g (ix1 d) * Ideal.ofBits FTy.f32 1061997773#32 := by
  unfold normR
  pointwise

theorem castR (f : S8x8192x4x128.Idx → EReal) (b : Fin 8) (q : Fin 8192) (h : Fin 4) (d : Fin 128) :
    shapeCast S8x8192x512 f shapeCasts_S8x8192x4x128_S8x8192x512 (ix3 b q (hd h d)) = f (ix4 b q h d) := by
  pointwise
  refine congrArg f (congrArg₂ (fun x y => ix4 b q x y) (Fin.ext ?_) (Fin.ext ?_))
  · show (h.val * 128 + d.val) / 128 = h.val
    omega
  · show (h.val * 128 + d.val) % 128 = d.val
    omega

theorem gateR (z : FVec Ideal S8x8192x512 .f32) (i : S8x8192x512.Idx) :
    mulf z (Host.divf (broadcastInDim S8x8192x512 ![] bcast_S_S8x8192x512 (constant S_ .f32 0x3F800000#32)) (addf (broadcastInDim S8x8192x512 ![] bcast_S_S8x8192x512 (constant S_ .f32 0x3F800000#32)) (Host.exp (Host.negf z)))) i
      = z i * Ideal.logistic (z i) := by
  have h1 : Ideal.ofBits FTy.f32 0x3F800000#32 = 1 := by
    simp [Ideal.ofBits, Ideal.ieee, -EReal.coe_mul]; norm_num
  show z i * Ideal.div (Ideal.ofBits FTy.f32 0x3F800000#32) (Ideal.ofBits FTy.f32 0x3F800000#32 + Ideal.exp (-(z i))) = _
  rw [h1]
  rfl

theorem c128 : Ideal.ofBits FTy.f32 1124073472#32 = ((128 : ℝ) : EReal) := by
  simp [Ideal.ofBits, Ideal.ieee, -EReal.coe_mul]; norm_num

theorem i128 : Ideal.ofBits FTy.f32 1006632960#32 = ((1 / 128 : ℝ) : EReal) := by
  simp [Ideal.ofBits, Ideal.ieee, -EReal.coe_mul]; norm_num

theorem lastR_apply (T : FVec Ideal S8x8192x4x128 .f32) (g : FVec Ideal S128 .f32) (z : FVec Ideal S8x8192x512 .f32) (b : Fin 8) (q : Fin 8192) (h : Fin 4)
    (o : Fin 128 → ℝ) (ho : ∀ d, T (ix4 b q h d) = (o d : EReal)) (d : Fin 128) :
    lastR T g z (ix3 b q (hd h d)) = fin128 (fun d => ((o d : ℝ) : EReal)) (g (ix1 d)) (z (ix3 b q (hd h d))) d := by
  refine (congrArg₂ (fun s t : EReal => s * t) ((castR (normR T g) b q h d).trans (normR_apply T g b q h d)) (gateR z _) :
    lastR T g z (ix3 b q (hd h d)) = _).trans ?_
  have hs : (∑ x, T (ix4 b q h x) * T (ix4 b q h x)) = ((∑ x, o x * o x : ℝ) : EReal) :=
    coe_sum' _ _ _ fun x _ => by rw [ho, EReal.coe_mul]
  have hs' : (∑ x, ((o x : ℝ) : EReal) * ((o x : ℝ) : EReal)) = ((∑ x, o x * o x : ℝ) : EReal) :=
    coe_sum' _ _ _ fun x _ => by rw [EReal.coe_mul]
  unfold fin128
  rw [hs, hs', ho, c128, i128]
  unfold Ideal.div
  rw [if_neg (EReal.coe_ne_zero.2 (show (128 : ℝ) ≠ 0 by norm_num)), ← EReal.coe_inv, one_div]

/-- The reference's run at real arguments. -/
theorem run_ref (m : (ℓ : Loc nD τ sig) → Buf (Elt Ideal) ℓ) (ρ : Dev nD → PrngReg) (A0 A1 A2 : Dev nD → S8x8192x512.Idx → ℝ) (A4 A5 : Dev nD → S16x512.Idx → ℝ) (A6 : Dev nD → S32x12.Idx → ℝ) (L : Dev nD → ℝ)
    (h0 : ∀ c i, R0 (launchContents m c) i = (A0 c i : EReal)) (h1 : ∀ c i, R1 (launchContents m c) i = (A1 c i : EReal)) (h2 : ∀ c i, R2 (launchContents m c) i = (A2 c i : EReal))
    (h4 : ∀ c i, R4 (launchContents m c) i = (A4 c i : EReal)) (h5 : ∀ c i, R5 (launchContents m c) i = (A5 c i : EReal)) (h6 : ∀ c i, R6 (launchContents m c) i = (A6 c i : EReal))
    (hL : ∀ c, lamE (R7 (launchContents m c)) (R8 (launchContents m c)) (R9 (launchContents m c)) (R10 (launchContents m c)) = (L c : EReal)) :
    θ_run defs (onTc (τ := τ) (main (F := Ideal))) ⟨m, fun _ => 0, ρ⟩ fun r => ∀ c : Dev nD,
      (∀ (b : Fin 8) (q : Fin 8192) (h : Fin 4) (d : Fin 128), (r.2.mem ((c.tc : Thread nD τ).loc main_v111) : S8x8192x512.Idx → EReal) (ix3 b q (hd h d))
        = valG (A0 c) (A1 c) (A2 c) (A4 c) (A5 c) (A6 c) (L c) (m ((c.tc : Thread nD τ).loc main_arg11)) (m ((c.tc : Thread nD τ).loc main_arg3)) b q h d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run _ _ _).mono (fun r k c => ⟨fun b q h d => (congrFun (k c).1 (ix3 b q (hd h d))).trans ?_, (k c).2⟩) (Cert.ReferenceIdeal.Value.run m ρ)
  exact lastR_apply (T92 (launchContents m c)) _ _ b q h _ (fun d => t92 (A0 c) (A1 c) (A2 c) (A4 c) (A5 c) (A6 c) (launchContents m c) (h0 c) (h1 c) (h2 c) (h4 c) (h5 c) (h6 c) (L c) (hL c) b q h d) d

end Cert.AttnV

end
-- ==== Proof.AttnFinite.lean ====
/-
  Hand-written, untrusted. What the precondition says: every entry of the ten arrays it tests is a real number.
-/
module

public import proofs.«01_k».proof.Pre_finite
public import Idealize.ShloMosaic.Lib.Pointwise

@[expose] public section

set_option maxRecDepth 16384

noncomputable section

namespace Cert.AttnV

open Idealize.ShloMosaic Idealize.ShloMosaic.TcCoe

theorem and_one (a b : BitVec 1) : IntOp.andi a b = 1#1 ↔ a = 1#1 ∧ b = 1#1 := by
  show a &&& b = 1#1 ↔ _
  revert a b
  decide

theorem fold_and {ι : Type*} (s : Finset ι) (f : ι → BitVec 1) (b : BitVec 1) (h : Finset.fold IntOp.andi b f s = 1#1) : ∀ x ∈ s, f x = 1#1 := by
  classical
  induction s using Finset.induction_on with
  | empty => intro x hx; simp at hx
  | insert a s ha ih =>
    rw [Finset.fold_insert ha, and_one] at h
    intro x hx
    rcases Finset.mem_insert.1 hx with rfl | hx
    · exact h.1
    · exact ih h.2 x hx

/-- A conjunction over all entries. -/
theorem all_one {s u : Shape} {axes : List (Fin s.rank)} (h : s.ReducesTo axes ⟨0, ![]⟩) (x : IVec s 1) (init : IVec u 1) (hu : 0 < u.numel) (j : (⟨0, ![]⟩ : Shape).Idx)
    (e : Host.reduce IntOp.andi x init h hu j = 1#1) (i : s.Idx) : x i = 1#1 := by
  rw [Host.reduce_eq_fold] at e
  exact fold_and _ _ _ e i (Finset.mem_filter.2 ⟨Finset.mem_univ _, funext fun a => a.elim0⟩)

theorem top_bits : Ideal.ofBits FTy.f32 0x7F800000#32 = ⊤ := by
  simp [Ideal.ofBits, Ideal.ieee]

/-- An entry below `+∞` in absolute value is real. -/
theorem real_of (x : EReal) (h : FloatOps.cmpf (F := Ideal) (φ := FTy.f32) CmpFPredicate.olt (FloatOps.absf (F := Ideal) (φ := FTy.f32) x) (Ideal.ofBits FTy.f32 0x7F800000#32) = 1#1) :
    x = ((x.toReal : ℝ) : EReal) := by
  rw [top_bits] at h
  induction x with
  | bot => exact absurd h (by simp [FloatOps.cmpf, FloatOps.absf, Ideal.cmp])
  | top => exact absurd h (by simp [FloatOps.cmpf, FloatOps.absf, Ideal.cmp])
  | coe r => rfl

section
open Cert.Pre_finite Cert.Pre_finite.Facts
variable [Cert.Pre_finite.Facts]

theorem and_at (x y : IVec S_ 1) (i : S_.Idx) : andi x y i = IntOp.andi (x i) (y i) := rfl

/-- From the precondition: the ten arrays' entries are real. -/
theorem reals (a0 a1 a2 a3 : FVec Ideal S8x8192x512 .f32) (a4 a5 : FVec Ideal S16x512 .f32) (a6 : FVec Ideal S32x12 .f32)
    (a7 a8 a9 a10 : FVec Ideal S64 .f32) (a11 : FVec Ideal S128 .f32) (h : fn (F := Ideal) a0 a1 a2 a3 a4 a5 a6 a7 a8 a9 a10 a11 = fun _ => 1#1) :
    (∀ i, a0 i = ((EReal.toReal (a0 i) : ℝ) : EReal)) ∧ (∀ i, a1 i = ((EReal.toReal (a1 i) : ℝ) : EReal)) ∧ (∀ i, a2 i = ((EReal.toReal (a2 i) : ℝ) : EReal))
    ∧ (∀ i, a4 i = ((EReal.toReal (a4 i) : ℝ) : EReal)) ∧ (∀ i, a5 i = ((EReal.toReal (a5 i) : ℝ) : EReal)) ∧ (∀ i, a6 i = ((EReal.toReal (a6 i) : ℝ) : EReal))
    ∧ (∀ i, a7 i = ((EReal.toReal (a7 i) : ℝ) : EReal)) ∧ (∀ i, a8 i = ((EReal.toReal (a8 i) : ℝ) : EReal)) ∧ (∀ i, a9 i = ((EReal.toReal (a9 i) : ℝ) : EReal))
    ∧ (∀ i, a10 i = ((EReal.toReal (a10 i) : ℝ) : EReal)) := by
  have e := congrFun h ix0
  unfold fn fn_part1 fn_part2 at e
  simp only [and_at, and_one] at e
  obtain ⟨⟨⟨⟨⟨⟨⟨⟨⟨⟨-, h0⟩, h1⟩, h2⟩, h4⟩, h5⟩, h6⟩, h7⟩, h8⟩, h9⟩, h10⟩ := e
  exact ⟨fun i => real_of _ (all_one _ _ _ _ _ h0 i), fun i => real_of _ (all_one _ _ _ _ _ h1 i), fun i => real_of _ (all_one _ _ _ _ _ h2 i),
    fun i => real_of _ (all_one _ _ _ _ _ h4 i), fun i => real_of _ (all_one _ _ _ _ _ h5 i), fun i => real_of _ (all_one _ _ _ _ _ h6 i),
    fun i => real_of _ (all_one _ _ _ _ _ h7 i), fun i => real_of _ (all_one _ _ _ _ _ h8 i), fun i => real_of _ (all_one _ _ _ _ _ h9 i),
    fun i => real_of _ (all_one _ _ _ _ _ h10 i)⟩
end

end Cert.AttnV

end
-- ==== Proof.AttnEqual.lean ====
/-
  Hand-written, untrusted. The attention's value claim: from equal arguments, the ten tested arrays real, the kernel and the reference end with
  equal results (`valG`), and leave their arguments unchanged.
-/
module

public import proofs.«01_k».proof.Proof.AttnFrame
public import proofs.«01_k».proof.Proof.AttnLeft
public import proofs.«01_k».proof.Proof.AttnArr
public import proofs.«01_k».proof.Proof.AttnRefOut
public import proofs.«01_k».proof.Proof.AttnFinite
public import proofs.«01_k».proof.Defs
public import Idealize.ShloMosaic.Lib.Pipeline.Value

@[expose] public section

set_option maxRecDepth 16384

noncomputable section

namespace Cert.AttnV

open Idealize.ShloMosaic Idealize.ShloMosaic.TcCoe Idealize.SL.Sem

section Kernel
open Cert.KernelIdeal Cert.KernelIdeal.Gen Cert.AttnA
open Idealize.ShloMosaic.Pipeline (Dat RDat)

variable (m : (ℓ : Loc nD τ sig) → Buf (Elt Ideal) ℓ) (c : Dev nD)
variable (A0 A1 A2 : S8x8192x512.Idx → ℝ) (A4 A5 : S16x512.Idx → ℝ) (A6 : S32x12.Idx → ℝ) (L : ℝ)
variable (h0 : ∀ i, B0 m c i = (A0 i : EReal)) (h1 : ∀ i, B1 m c i = (A1 i : EReal)) (h2 : ∀ i, B2 m c i = (A2 i : EReal))
  (h4 : ∀ i, B4 m c i = (A4 i : EReal)) (h5 : ∀ i, B5 m c i = (A5 i : EReal)) (h6 : ∀ i, W6 m c i = (A6 i : EReal))
  (hL : lamE (B7 m c) (B8 m c) (B9 m c) (B10 m c) = (L : EReal))

include h0 h1 h2 h4 h5 h6 hL in
/-- What the body may leave in a block is the specification's block. -/
theorem left_val (t : Fin cfg0.N) (X : S1x1024x128.Idx → Elt Ideal .bf16) (hX : LeftAt m c t X) (p : Fin 1024) (d : Fin 128) :
    X (ix3 0 p d) = valG A0 A1 A2 A4 A5 A6 L (B11 m c) (B3 m c) (bk t) (qr (ik t) p) (hk t) d := by
  obtain ⟨a, ha, hx⟩ := left_out _ _ _ _ _ _ _ _ _ _ _ _ _ _ _ _ _ _ _ _ _ _ _ _ _ _ _ _ _ _ _ _ _ _ _ _ _ _ _ _ _ _ _ hX
  rw [iq_eq t] at ha
  refine (hx p d).trans ?_
  have e := fun d => odiff_real (bk t) (hk t) (ik t) (W6 m c) A0 A1 A2 A4 A5 A6 (iblk m c 1 t) (iblk m c 2 t) (iblk m c 3 t) (iblk m c 4 t) (iblk m c 5 t) (iblk m c 6 t) (iblk m c 7 t)
    (fun x q => (blk1 m c t x q).trans ((V_v11 m c _ _ _ _).trans (h0 _)))
    (fun k x => (blk2 m c t k x).trans ((V_v109 m c _ _ _).trans (h1 _)))
    (fun j d x => (blk3 m c t j d x).trans ((V_v14 m c _ _ _ _).trans (h2 _)))
    (fun k x => (blk4 m c t k x).trans ((V_v111 m c _ _).trans (h4 _)))
    (fun d k => (blk5 m c t d k).trans ((V_v17 m c _ _).trans (h5 _)))
    (fun u k q => (blk6 m c t u k q).trans ((V_v66 m c _ _ _ _).trans (tileZ _ _ _ _ _)))
    (fun k q => (blk7 m c t k q).trans ((V_v108 m c _ _ _).trans (metaZ _ _ _ _)))
    h6 a ha L p d
  have hl : iblk m c 0 t (ix1 0) = (L : EReal) := (blk0 m c t).trans ((V_v8 m c).trans hL)
  have h8 : iblk m c 8 t (ix3 0 p d) = B3 m c (ix3 (bk t) (qr (ik t) p) (hd (hk t) d)) := (blk8 m c t p d).trans (V_v112 m c _ _ _)
  have h9 : iblk m c 9 t (ix2 0 d) = B11 m c (ix1 d) := (blk9 m c t d).trans (V_v113 m c _)
  unfold valG
  rw [hl, h8, h9]
  exact congrArg (fun o => fin128 o _ _ d) (funext e)

/-- The result as one array. -/
def arrG (g : S128.Idx → EReal) (z : S8x8192x512.Idx → EReal) (y : S8x8192x512.Idx) : EReal :=
  valG A0 A1 A2 A4 A5 A6 L g z (y 0) (y 1) ⟨(y 2 : Fin 512).val / 128, by have h : (y 2 : Fin 512).val < 512 := (y 2).isLt; omega⟩ ⟨(y 2 : Fin 512).val % 128, by omega⟩

theorem arrG_hd (g : S128.Idx → EReal) (z : S8x8192x512.Idx → EReal) (b : Fin 8) (q : Fin 8192) (h : Fin 4) (d : Fin 128) :
    arrG A0 A1 A2 A4 A5 A6 L g z (ix3 b q (hd h d)) = valG A0 A1 A2 A4 A5 A6 L g z b q h d :=
  congrArg₂ (valG A0 A1 A2 A4 A5 A6 L g z b q) (Fin.ext (by show (h.val * 128 + d.val) / 128 = h.val; omega))
    (Fin.ext (by show (h.val * 128 + d.val) % 128 = d.val; omega))

theorem mem_blk10 (t : Fin cfg0.N) (i : S8x8192x512.Idx) : i ∈ ((cfg0.win 10).blk t).view.set
    ↔ (i 0 : Nat) = t.val / 32 ∧ t.val % 8 * 1024 ≤ (i 1 : Nat) ∧ (i 1 : Nat) < t.val % 8 * 1024 + 1024
      ∧ t.val / 8 % 4 * 128 ≤ (i 2 : Nat) ∧ (i 2 : Nat) < t.val / 8 % 4 * 128 + 128 := by
  obtain ⟨e0, e1, e2⟩ := ax10 t
  show i ∈ ((View.whole main_v114).slice (win0_10.rect t)).set ↔ _
  rw [View.set_slice_whole, Rect.mem_set_unit]
  refine ⟨fun h => ?_, fun h a => ?_⟩
  · have q0 : win0_10.index t 0 * 1 ≤ (i 0 : Nat) ∧ (i 0 : Nat) < win0_10.index t 0 * 1 + 1 := h 0
    have q1 : win0_10.index t 1 * 1024 ≤ (i 1 : Nat) ∧ (i 1 : Nat) < win0_10.index t 1 * 1024 + 1024 := h 1
    have q2 : win0_10.index t 2 * 128 ≤ (i 2 : Nat) ∧ (i 2 : Nat) < win0_10.index t 2 * 128 + 128 := h 2
    rw [e0] at q0; rw [e1] at q1; rw [e2] at q2; omega
  · match a with
    | ⟨0, _⟩ => show win0_10.index t 0 * 1 ≤ (i 0 : Nat) ∧ (i 0 : Nat) < win0_10.index t 0 * 1 + 1; rw [e0]; omega
    | ⟨1, _⟩ => show win0_10.index t 1 * 1024 ≤ (i 1 : Nat) ∧ (i 1 : Nat) < win0_10.index t 1 * 1024 + 1024; rw [e1]; omega
    | ⟨2, _⟩ => show win0_10.index t 2 * 128 ≤ (i 2 : Nat) ∧ (i 2 : Nat) < win0_10.index t 2 * 128 + 128; rw [e2]; omega

theorem cover10 (i : S8x8192x512.Idx) : ∃ t : Fin cfg0.N, (cfg0.win 10).flush t = true ∧ i ∈ ((cfg0.win 10).blk t).view.set := by
  have b0 : (i 0 : Nat) < 8 := (i 0).isLt
  have b1 : (i 1 : Nat) < 8192 := (i 1).isLt
  have b2 : (i 2 : Nat) < 512 := (i 2).isLt
  refine ⟨⟨(i 0 : Nat) * 32 + (i 2 : Nat) / 128 * 8 + (i 1 : Nat) / 1024, by show _ < grid0.N; rw [N_0]; omega⟩, flush0_10 _, ?_⟩
  rw [mem_blk10]
  dsimp only
  omega

include h0 h1 h2 h4 h5 h6 hL in
/-- The result array after the run. -/
theorem final_val {r : PUnit × MemSt nD τ sig (Elt Ideal)} (h : RDat.FramePost (cfgs 0) (rdat m) (V m) r) :
    r.2.mem ((c.tc : Thread nD τ).loc main_v114) = arrG A0 A1 A2 A4 A5 A6 L (B11 m c) (B3 m c) := by
  obtain ⟨after, hl, hA⟩ := h.exists_exact c
  refine (hA 10).trans (((rdat m c).withAfter after).arrAt_eq_of_cover 10 (arrG A0 A1 A2 A4 A5 A6 L (B11 m c) (B3 m c)) (fun t ht => ?_) cover10)
  have hX : LeftAt m c t (after 10 t) := Dat.toRRel_leaves (dat := dats m 0 c) (fgt := fgt) (Rl := Rl m c) (w := 10) rfl (hl 10 t ht)
  obtain ⟨e0, e1, e2⟩ := ax10 t
  refine Eq.trans (b := after 10 t) rfl ?_
  funext y
  obtain ⟨u, p, d, rfl⟩ : ∃ (u : Fin 1) (p : Fin 1024) (d : Fin 128), y = ix3 u p d := ⟨y 0, y 1, y 2, eq_ix3 y⟩
  obtain rfl : u = 0 := Subsingleton.elim _ _
  have hi : (win0_10.blk t).view.read (Elt Ideal) (arrG A0 A1 A2 A4 A5 A6 L (B11 m c) (B3 m c)) (ix3 0 p d)
      = arrG A0 A1 A2 A4 A5 A6 L (B11 m c) (B3 m c) (ix3 (bk t) (qr (ik t) p) (hd (hk t) d)) := by
    refine congrArg (arrG A0 A1 A2 A4 A5 A6 L (B11 m c) (B3 m c)) (funext fun x => Fin.ext ?_)
    match x with
    | ⟨0, _⟩ => show win0_10.index t 0 * 1 + 1 * 0 = t.val / 32; rw [e0]; omega
    | ⟨1, _⟩ => show win0_10.index t 1 * 1024 + 1 * p.val = 1024 * (t.val % 8) + p.val; rw [e1]; omega
    | ⟨2, _⟩ => show win0_10.index t 2 * 128 + 1 * d.val = t.val / 8 % 4 * 128 + d.val; rw [e2]; omega
  refine Eq.trans ?_ hi.symm
  rw [arrG_hd]
  exact left_val m c A0 A1 A2 A4 A5 A6 L h0 h1 h2 h4 h5 h6 hL t (after 10 t) hX p d

end Kernel

/-- The second map's factor is real when its vectors are. -/
theorem lam_real (a7 a8 a9 a10 : Cert.KernelIdeal.S64.Idx → EReal) (h7 : ∀ i, a7 i = ((a7 i).toReal : EReal)) (h8 : ∀ i, a8 i = ((a8 i).toReal : EReal))
    (h9 : ∀ i, a9 i = ((a9 i).toReal : EReal)) (h10 : ∀ i, a10 i = ((a10 i).toReal : EReal)) : ∃ L : ℝ, lamE a7 a8 a9 a10 = (L : EReal) := by
  have hs : ∀ a b : Cert.KernelIdeal.S64.Idx → EReal, (∀ i, a i = ((a i).toReal : EReal)) → (∀ i, b i = ((b i).toReal : EReal)) →
      (∑ x : Fin 64, a (ix1 x) * b (ix1 x)) = ((∑ x : Fin 64, (a (ix1 x)).toReal * (b (ix1 x)).toReal : ℝ) : EReal) := fun a b ha hb =>
    coe_sum' _ _ _ fun x _ => by rw [EReal.coe_mul, ← ha, ← hb]
  have hc : ∃ r : ℝ, Ideal.ofBits FTy.f32 1045220557#32 = (r : EReal) := ⟨13421773 / 67108864, by
    simp [Ideal.ofBits, Ideal.ieee, -EReal.coe_mul]; norm_num⟩
  obtain ⟨r, hr⟩ := hc
  refine ⟨Real.exp (∑ x : Fin 64, (a7 (ix1 x)).toReal * (a8 (ix1 x)).toReal)
    - Real.exp (∑ x : Fin 64, (a9 (ix1 x)).toReal * (a10 (ix1 x)).toReal) + r, ?_⟩
  unfold lamE
  rw [hs a7 a8 h7 h8, hs a9 a10 h9 h10, hr, Ideal.exp_coe, Ideal.exp_coe, ← EReal.coe_sub, ← EReal.coe_add]

/-- Every index of the result is a batch, a query, a head and one of its 128 entries. -/
theorem ix_hd (y : Cert.KernelIdeal.S8x8192x512.Idx) : ∃ (b : Fin 8) (q : Fin 8192) (h : Fin 4) (d : Fin 128), y = ix3 b q (hd h d) := by
  have hy : (y 2 : Fin 512).val < 512 := (y 2).isLt
  refine ⟨y 0, y 1, ⟨(y 2 : Fin 512).val / 128, by omega⟩, ⟨(y 2 : Fin 512).val % 128, by omega⟩, (eq_ix3 y).trans ?_⟩
  exact congrArg (ix3 (y 0 : Fin 8) (y 1 : Fin 8192)) (Fin.ext (by
    show (y 2 : Fin 512).val = (y 2 : Fin 512).val / 128 * 128 + (y 2 : Fin 512).val % 128; omega))

open Cert.KernelIdeal Cert.KernelIdeal.Gen in
/-- The claim. -/
theorem equal [hK : Cert.KernelIdeal.Facts] [hR : Cert.ReferenceIdeal.Facts] [hP : Cert.Pre_finite.Facts] :
    Cert.algebraic_KernelIdeal_ReferenceIdeal_pre_finite := by
  intro m g m' g' hpre h
  have hre := fun c => reals _ _ _ _ _ _ _ _ _ _ _ _ (hpre c)
  have hl := fun c : Dev nD => lam_real (B7 m c) (B8 m c) (B9 m c) (B10 m c) (hre c).2.2.2.2.2.2.1 (hre c).2.2.2.2.2.2.2.1 (hre c).2.2.2.2.2.2.2.2.1 (hre c).2.2.2.2.2.2.2.2.2
  choose L hL using hl
  refine ⟨fun c => arrG (fun i => (B0 m c i).toReal) (fun i => (B1 m c i).toReal) (fun i => (B2 m c i).toReal) (fun i => (B4 m c i).toReal)
    (fun i => (B5 m c i).toReal) (fun i => (W6 m c i).toReal) (L c) (B11 m c) (B3 m c), ?_, ?_⟩
  · exact (θ_run _ _ _).mono (fun r k c => ⟨final_val m c _ _ _ _ _ _ _ (hre c).1 (hre c).2.1 (hre c).2.2.1 (hre c).2.2.2.1 (hre c).2.2.2.2.1 (hre c).2.2.2.2.2.1 (hL c) k.1,
      Cert.AttnA.args_of m k.1 c⟩) (Cert.AttnA.run_main m g)
  · refine (θ_run _ _ _).mono (fun r k c => ⟨?_, (k c).2⟩) (run_ref m' g' (fun c i => (B0 m c i).toReal) (fun c i => (B1 m c i).toReal) (fun c i => (B2 m c i).toReal)
      (fun c i => (B4 m c i).toReal) (fun c i => (B5 m c i).toReal) (fun c i => (W6 m c i).toReal) L
      (fun c i => (congrFun (h c).1 i).trans ((hre c).1 i)) (fun c i => (congrFun (h c).2.1 i).trans ((hre c).2.1 i))
      (fun c i => (congrFun (h c).2.2.1 i).trans ((hre c).2.2.1 i)) (fun c i => (congrFun (h c).2.2.2.2.1 i).trans ((hre c).2.2.2.1 i))
      (fun c i => (congrFun (h c).2.2.2.2.2.1 i).trans ((hre c).2.2.2.2.1 i)) (fun c i => (congrFun (h c).2.2.2.2.2.2.1 i).trans ((hre c).2.2.2.2.2.1 i))
      (fun c => ?_))
    · refine funext fun y => ?_
      obtain ⟨b, q, h', d, rfl⟩ := ix_hd y
      refine ((k c).1 b q h' d).trans (Eq.trans ?_ (arrG_hd _ _ _ _ _ _ _ _ _ b q h' d).symm)
      rw [(h c).2.2.2.2.2.2.2.2.2.2.2, (h c).2.2.2.1]
    · obtain ⟨-, -, -, -, -, -, -, e7, e8, e9, e10, -⟩ := h c
      refine Eq.trans ?_ (hL c)
      exact congr (congr (congrArg₂ lamE e7 e8) e9) e10

end Cert.AttnV

end
-- ==== Proof.OutKernel.lean ====
/-
  Hand-written, untrusted. The output projection over the extended reals: the specification (`spec`, one entry of the block's
  final result as a function of the arrays), what one block of the kernel computes, and what the kernel's result array holds.
-/
module

public import proofs.«01_k».proof.Proof.Gen.Kernel2Ideal.Value
public import Idealize.ShloMosaic.Lib.Pointwise
public import Idealize.ShloMosaic.Lib.Pipeline.Value

@[expose] public section

set_option maxRecDepth 16384

noncomputable section

namespace Cert.OutProj

open Cert.Kernel2Ideal Cert.Kernel2Ideal.Gen
open Idealize.ShloMosaic Idealize.ShloMosaic.TcCoe Idealize.SL.Sem
open Idealize.ShloMosaic.Pipeline (Dat)

/-- One entry of the mixed projections times the output weights: `∑ₖ (σ(ga)·(oa·Wa) + σ(gb)·(ob·Wb))ₖ · Woₖₙ`, of one row. -/
def zed (a b : Fin 512 → EReal) (ga gb : Fin 1024 → EReal) (wa wb : S512x1024.Idx → EReal) (wo : S1024x1024.Idx → EReal) (n : Fin 1024) : EReal :=
  ∑ x : Fin 1024, (Ideal.logistic (ga x) * ∑ j : Fin 512, a j * wa (ix2 j x)
      + Ideal.logistic (gb x) * ∑ j : Fin 512, b j * wb (ix2 j x)) * wo (ix2 x n)

/-- One entry of a row of the result: the residual plus the root-mean-square norm of `zed` times its weight. -/
def row (x : Fin 1024 → EReal) (a b : Fin 512 → EReal) (ga gb : Fin 1024 → EReal) (wa wb : S512x1024.Idx → EReal) (wo : S1024x1024.Idx → EReal)
    (pg : Fin 1024 → EReal) (n : Fin 1024) : EReal :=
  x n + zed a b ga gb wa wb wo n
    * Ideal.rsqrt (Ideal.div (∑ k : Fin 1024, zed a b ga gb wa wb wo k * zed a b ga gb wa wb wo k) (Ideal.ofBits FTy.f32 1149239296#32)
        + Ideal.ofBits FTy.f32 897988541#32) * pg n

/-- The specification: the whole result as a function of the nine arrays. -/
def spec (x : S8x8192x1024.Idx → EReal) (oa ob : S8x8192x512.Idx → EReal) (ga gb : S8x8192x1024.Idx → EReal) (wa wb : S512x1024.Idx → EReal)
    (wo : S1024x1024.Idx → EReal) (pg : S1024.Idx → EReal) (i : S8x8192x1024.Idx) : EReal :=
  row (fun k => x (ix3 (i 0) (i 1) k)) (fun k => oa (ix3 (i 0) (i 1) k)) (fun k => ob (ix3 (i 0) (i 1) k)) (fun k => ga (ix3 (i 0) (i 1) k))
    (fun k => gb (ix3 (i 0) (i 1) k)) wa wb wo (fun k => pg (ix1 k)) (i 2)

/-- What a block of the kernel holds, entry by entry. -/
theorem out_apply (x0 : Vec Ideal S1x1024x1024 .f32) (x1 x2 : Vec Ideal S1x1024x512 .bf16) (x3 x4 : Vec Ideal S1x1024x1024 .bf16)
    (x5 x6 : Vec Ideal S512x1024 .bf16) (x7 : Vec Ideal S1024x1024 .bf16) (x8 : Vec Ideal S1x1024 .f32) (p n : Fin 1024) :
    out0_9 x0 x1 x2 x3 x4 x5 x6 x7 x8 (ix3 0 p n)
      = row (fun k => x0 (ix3 0 p k)) (fun k => x1 (ix3 0 p k)) (fun k => x2 (ix3 0 p k)) (fun k => x3 (ix3 0 p k)) (fun k => x4 (ix3 0 p k))
          x5 x6 x7 (fun k => x8 (ix2 0 k)) n := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_9
  rw [View.canon_unit_zero hz3, View.ld_unit_zero hz3, View.ld_unit_zero hz2, View.ld_unit_zero hz3, View.ld_unit_zero hz2,
    View.ld_unit_zero hz3, View.ld_unit_zero hz3, View.ld_unit_zero hz2, View.ld_unit_zero hz2, View.ld_unit_zero hz3]
  pointwise [k0_pay1, k0_pay3, k0_pay2]
  unfold row zed
  rfl

variable (m : (ℓ : Loc nD τ sig) → Buf (Elt Ideal) ℓ) (ρ : Dev nD → PrngReg)

/-- Where the windows' blocks lie at point `t`: batch `t / 8`, rows from `1024 · (t % 8)`. -/
theorem idxs : ∀ t : Fin grid0.N,
    (win0_0.index t 0 = t.val / 8 ∧ win0_0.index t 1 = t.val % 8 ∧ win0_0.index t 2 = 0)
    ∧ (win0_1.index t 0 = t.val / 8 ∧ win0_1.index t 1 = t.val % 8 ∧ win0_1.index t 2 = 0)
    ∧ (win0_2.index t 0 = t.val / 8 ∧ win0_2.index t 1 = t.val % 8 ∧ win0_2.index t 2 = 0)
    ∧ (win0_3.index t 0 = t.val / 8 ∧ win0_3.index t 1 = t.val % 8 ∧ win0_3.index t 2 = 0)
    ∧ (win0_4.index t 0 = t.val / 8 ∧ win0_4.index t 1 = t.val % 8 ∧ win0_4.index t 2 = 0)
    ∧ (win0_9.index t 0 = t.val / 8 ∧ win0_9.index t 1 = t.val % 8 ∧ win0_9.index t 2 = 0) := by decide +kernel
theorem idxw : ∀ t : Fin grid0.N,
    (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) := by decide +kernel

abbrev bt (t : Fin grid0.N) : Fin 8 := ⟨t.val / 8, by have h : t.val < 64 := lt_of_lt_of_eq t.isLt N_0; omega⟩
abbrev rt (t : Fin grid0.N) (p : Fin 1024) : Fin 8192 := ⟨t.val % 8 * 1024 + p.val, by omega⟩

theorem blk0 (c : Dev nD) (t : Fin grid0.N) (p : Fin 1024) (k : Fin 1024) :
    iblk m c 0 t (ix3 0 p k) = V m c main_arg0 (ix3 (bt t) (rt t p) k) := by
  obtain ⟨h0, h1, h2⟩ := (idxs t).1
  refine congrArg (V m c main_arg0) (funext fun x => Fin.ext ?_)
  match x with
  | ⟨0, _⟩ => show win0_0.index t 0 * 1 + 1 * 0 = t.val / 8; rw [h0]; omega
  | ⟨1, _⟩ => show win0_0.index t 1 * 1024 + 1 * p.val = t.val % 8 * 1024 + p.val; rw [h1]; omega
  | ⟨2, _⟩ => show win0_0.index t 2 * 1024 + 1 * k.val = k.val; rw [h2]; omega

theorem blk1 (c : Dev nD) (t : Fin grid0.N) (p : Fin 1024) (k : Fin 512) :
    iblk m c 1 t (ix3 0 p k) = V m c main_arg1 (ix3 (bt t) (rt t p) k) := by
  obtain ⟨h0, h1, h2⟩ := (idxs t).2.1
  refine congrArg (V m c main_arg1) (funext fun x => Fin.ext ?_)
  match x with
  | ⟨0, _⟩ => show win0_1.index t 0 * 1 + 1 * 0 = t.val / 8; rw [h0]; omega
  | ⟨1, _⟩ => show win0_1.index t 1 * 1024 + 1 * p.val = t.val % 8 * 1024 + p.val; rw [h1]; omega
  | ⟨2, _⟩ => show win0_1.index t 2 * 512 + 1 * k.val = k.val; rw [h2]; omega

theorem blk2 (c : Dev nD) (t : Fin grid0.N) (p : Fin 1024) (k : Fin 512) :
    iblk m c 2 t (ix3 0 p k) = V m c main_arg2 (ix3 (bt t) (rt t p) k) := by
  obtain ⟨h0, h1, h2⟩ := (idxs t).2.2.1
  refine congrArg (V m c main_arg2) (funext fun x => Fin.ext ?_)
  match x with
  | ⟨0, _⟩ => show win0_2.index t 0 * 1 + 1 * 0 = t.val / 8; rw [h0]; omega
  | ⟨1, _⟩ => show win0_2.index t 1 * 1024 + 1 * p.val = t.val % 8 * 1024 + p.val; rw [h1]; omega
  | ⟨2, _⟩ => show win0_2.index t 2 * 512 + 1 * k.val = k.val; rw [h2]; omega

theorem blk3 (c : Dev nD) (t : Fin grid0.N) (p : Fin 1024) (k : Fin 1024) :
    iblk m c 3 t (ix3 0 p k) = V m c main_v0 (ix3 (bt t) (rt t p) k) := by
  obtain ⟨h0, h1, h2⟩ := (idxs t).2.2.2.1
  refine congrArg (V m c main_v0) (funext fun x => Fin.ext ?_)
  match x with
  | ⟨0, _⟩ => show win0_3.index t 0 * 1 + 1 * 0 = t.val / 8; rw [h0]; omega
  | ⟨1, _⟩ => show win0_3.index t 1 * 1024 + 1 * p.val = t.val % 8 * 1024 + p.val; rw [h1]; omega
  | ⟨2, _⟩ => show win0_3.index t 2 * 1024 + 1 * k.val = k.val; rw [h2]; omega

theorem blk4 (c : Dev nD) (t : Fin grid0.N) (p : Fin 1024) (k : Fin 1024) :
    iblk m c 4 t (ix3 0 p k) = V m c main_v1 (ix3 (bt t) (rt t p) k) := by
  obtain ⟨h0, h1, h2⟩ := (idxs t).2.2.2.2.1
  refine congrArg (V m c main_v1) (funext fun x => Fin.ext ?_)
  match x with
  | ⟨0, _⟩ => show win0_4.index t 0 * 1 + 1 * 0 = t.val / 8; rw [h0]; omega
  | ⟨1, _⟩ => show win0_4.index t 1 * 1024 + 1 * p.val = t.val % 8 * 1024 + p.val; rw [h1]; omega
  | ⟨2, _⟩ => show win0_4.index t 2 * 1024 + 1 * k.val = k.val; rw [h2]; omega

theorem blk5 (c : Dev nD) (t : Fin grid0.N) : (iblk m c 5 t : S512x1024.Idx → Elt Ideal _) = V m c main_v2 := by
  obtain ⟨h0, h1⟩ := (idxw t).1
  funext y
  refine congrArg (V m c main_v2) (funext fun x => Fin.ext ?_)
  match x with
  | ⟨0, _⟩ => show win0_5.index t 0 * 512 + 1 * (y 0).val = (y 0).val; rw [h0]; omega
  | ⟨1, _⟩ => show win0_5.index t 1 * 1024 + 1 * (y 1).val = (y 1).val; rw [h1]; omega

theorem blk6 (c : Dev nD) (t : Fin grid0.N) : (iblk m c 6 t : S512x1024.Idx → Elt Ideal _) = V m c main_v3 := by
  obtain ⟨h0, h1⟩ := (idxw t).2.1
  funext y
  refine congrArg (V m c main_v3) (funext fun x => Fin.ext ?_)
  match x with
  | ⟨0, _⟩ => show win0_6.index t 0 * 512 + 1 * (y 0).val = (y 0).val; rw [h0]; omega
  | ⟨1, _⟩ => show win0_6.index t 1 * 1024 + 1 * (y 1).val = (y 1).val; rw [h1]; omega

theorem blk7 (c : Dev nD) (t : Fin grid0.N) : (iblk m c 7 t : S1024x1024.Idx → Elt Ideal _) = V m c main_v4 := by
  obtain ⟨h0, h1⟩ := (idxw t).2.2.1
  funext y
  refine congrArg (V m c main_v4) (funext fun x => Fin.ext ?_)
  match x with
  | ⟨0, _⟩ => show win0_7.index t 0 * 1024 + 1 * (y 0).val = (y 0).val; rw [h0]; omega
  | ⟨1, _⟩ => show win0_7.index t 1 * 1024 + 1 * (y 1).val = (y 1).val; rw [h1]; omega

theorem blk8 (c : Dev nD) (t : Fin grid0.N) : (iblk m c 8 t : S1x1024.Idx → Elt Ideal _) = V m c main_v5 := by
  obtain ⟨h0, h1⟩ := (idxw t).2.2.2
  funext y
  refine congrArg (V m c main_v5) (funext fun x => Fin.ext ?_)
  match x with
  | ⟨0, _⟩ => show win0_8.index t 0 * 1 + 1 * (y 0).val = (y 0).val; rw [h0]; omega
  | ⟨1, _⟩ => show win0_8.index t 1 * 1024 + 1 * (y 1).val = (y 1).val; rw [h1]; omega

theorem V_v0 (c : Dev nD) (i) : V m c main_v0 i = m ((c : Thread nD τ).loc main_arg3) i := by
  have h : V m c main_v0 = (truncf .bf16 (m ((c : Thread nD τ).loc main_arg3)) bitsLt_bf16_f32 : FVec Ideal _ .bf16) := by
    unfold V; after_results_simp
  rw [h]; rfl

theorem V_v1 (c : Dev nD) (i) : V m c main_v1 i = m ((c : Thread nD τ).loc main_arg4) i := by
  have h : V m c main_v1 = (truncf .bf16 (m ((c : Thread nD τ).loc main_arg4)) bitsLt_bf16_f32 : FVec Ideal _ .bf16) := by
    unfold V; after_results_simp
  rw [h]; rfl

theorem V_v2 (c : Dev nD) (i) : V m c main_v2 i = m ((c : Thread nD τ).loc main_arg5) i := by
  have h : V m c main_v2 = (truncf .bf16 (m ((c : Thread nD τ).loc main_arg5)) bitsLt_bf16_f32 : FVec Ideal _ .bf16) := by
    unfold V; after_results_simp
  rw [h]; rfl

theorem V_v3 (c : Dev nD) (i) : V m c main_v3 i = m ((c : Thread nD τ).loc main_arg6) i := by
  have h : V m c main_v3 = (truncf .bf16 (m ((c : Thread nD τ).loc main_arg6)) bitsLt_bf16_f32 : FVec Ideal _ .bf16) := by
    unfold V; after_results_simp
  rw [h]; rfl

theorem V_v4 (c : Dev nD) (i) : V m c main_v4 i = m ((c : Thread nD τ).loc main_arg7) i := by
  have h : V m c main_v4 = (truncf .bf16 (m ((c : Thread nD τ).loc main_arg7)) bitsLt_bf16_f32 : FVec Ideal _ .bf16) := by
    unfold V; after_results_simp
  rw [h]; rfl

theorem V_v5 (c : Dev nD) (k : Fin 1024) : V m c main_v5 (ix2 0 k) = m ((c : Thread nD τ).loc main_arg8) (ix1 k) := by
  have h : V m c main_v5 = (broadcastInDim S1x1024 ![1] bcast_S1024_S1x1024_1 (m ((c : Thread nD τ).loc main_arg8) : (⟨S1024, .f32⟩ : BufTy).Contents (Elt Ideal))) := by
    unfold V; after_results_simp
  rw [h]; pointwise

/-- The specification at the launch's arguments. -/
abbrev G (c : Dev nD) : S8x8192x1024.Idx → EReal :=
  spec (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8))

/-- What point `t` writes back is block `t` of the specification. -/
theorem flushed_eq (c : Dev nD) (t : Fin cfg0.N) :
    (dats m 0 c).flushed 9 t = (win0_9.blk t).view.read (Elt Ideal) (G m c) := by
  rw [Value.flushed9]
  obtain ⟨h0, h1, h2⟩ := (idxs t).2.2.2.2.2
  funext y
  obtain ⟨u, p, n, rfl⟩ : ∃ (u : Fin 1) (p n : Fin 1024), y = ix3 u p n := ⟨y 0, y 1, y 2, eq_ix3 y⟩
  obtain rfl : u = 0 := Subsingleton.elim _ _
  have hi : (win0_9.blk t).view.read (Elt Ideal) (G m c) (ix3 0 p n) = G m c (ix3 (bt t) (rt t p) n) := by
    refine congrArg (G m c) (funext fun x => Fin.ext ?_)
    match x with
    | ⟨0, _⟩ => show win0_9.index t 0 * 1 + 1 * 0 = t.val / 8; rw [h0]; omega
    | ⟨1, _⟩ => show win0_9.index t 1 * 1024 + 1 * p.val = t.val % 8 * 1024 + p.val; rw [h1]; omega
    | ⟨2, _⟩ => show win0_9.index t 2 * 1024 + 1 * n.val = n.val; rw [h2]; omega
  refine Eq.trans ?_ hi.symm
  refine (out_apply (iblk m c 0 t) (iblk m c 1 t) (iblk m c 2 t) (iblk m c 3 t) (iblk m c 4 t) (iblk m c 5 t) (iblk m c 6 t) (iblk m c 7 t) (iblk m c 8 t) p n).trans ?_
  simp only [blk0, blk1, blk2, blk3, blk4, blk5, blk6, blk7, blk8]
  have e2 : (V m c main_v2 : S512x1024.Idx → EReal) = m ((c : Thread nD τ).loc main_arg5) := funext fun i => V_v2 m c i
  have e3 : (V m c main_v3 : S512x1024.Idx → EReal) = m ((c : Thread nD τ).loc main_arg6) := funext fun i => V_v3 m c i
  have e4 : (V m c main_v4 : S1024x1024.Idx → EReal) = m ((c : Thread nD τ).loc main_arg7) := funext fun i => V_v4 m c i
  unfold G spec
  rw [e2, e3, e4]
  rw [show (V m c main_v0 : S8x8192x1024.Idx → EReal) = m ((c : Thread nD τ).loc main_arg3) from funext fun i => V_v0 m c i,
    show (V m c main_v1 : S8x8192x1024.Idx → EReal) = m ((c : Thread nD τ).loc main_arg4) from funext fun i => V_v1 m c i,
    show (fun k => V m c main_v5 (ix2 0 k)) = fun k => m ((c : Thread nD τ).loc main_arg8) (ix1 k) from funext fun k => V_v5 m c k,
    V_main_arg0, V_main_arg1, V_main_arg2]
  rfl

theorem mem_blk (t : Fin cfg0.N) (i : S8x8192x1024.Idx) :
    i ∈ ((cfg0.win 9).blk t).view.set ↔ (i 0 : Nat) = t.val / 8 ∧ t.val % 8 * 1024 ≤ (i 1 : Nat) ∧ (i 1 : Nat) < t.val % 8 * 1024 + 1024 := by
  obtain ⟨h0, h1, h2⟩ := (idxs t).2.2.2.2.2
  show i ∈ ((View.whole main_v6).slice (win0_9.rect t)).set ↔ _
  rw [View.set_slice_whole, Rect.mem_set_unit]
  have b2 : (i 2 : Nat) < 1024 := (i 2).isLt
  refine ⟨fun h => ?_, fun h a => ?_⟩
  · have q0 : win0_9.index t 0 * 1 ≤ (i 0 : Nat) ∧ (i 0 : Nat) < win0_9.index t 0 * 1 + 1 := h 0
    have q1 : win0_9.index t 1 * 1024 ≤ (i 1 : Nat) ∧ (i 1 : Nat) < win0_9.index t 1 * 1024 + 1024 := h 1
    rw [h0] at q0; rw [h1] at q1; omega
  · match a with
    | ⟨0, _⟩ => show win0_9.index t 0 * 1 ≤ (i 0 : Nat) ∧ (i 0 : Nat) < win0_9.index t 0 * 1 + 1; rw [h0]; omega
    | ⟨1, _⟩ => show win0_9.index t 1 * 1024 ≤ (i 1 : Nat) ∧ (i 1 : Nat) < win0_9.index t 1 * 1024 + 1024; rw [h1]; omega
    | ⟨2, _⟩ => show win0_9.index t 2 * 1024 ≤ (i 2 : Nat) ∧ (i 2 : Nat) < win0_9.index t 2 * 1024 + 1024; rw [h2]; omega

/-- The blocks cover the result. -/
theorem cover (i : S8x8192x1024.Idx) : ∃ t : Fin cfg0.N, (cfg0.win 9).flush t = true ∧ i ∈ ((cfg0.win 9).blk t).view.set := by
  have b0 : (i 0 : Nat) < 8 := (i 0).isLt
  have b1 : (i 1 : Nat) < 8192 := (i 1).isLt
  refine ⟨⟨(i 0 : Nat) * 8 + (i 1 : Nat) / 1024, by show _ < grid0.N; rw [N_0]; omega⟩, flush0_9 _, ?_⟩
  rw [mem_blk]
  dsimp only
  omega

/-- The kernel's result array after the run is the specification. -/
theorem final (c : Dev nD) : (dats m 0 c).arrAt 9 cfg0.N = G m c :=
  (dats m 0 c).arrAt_eq_of_cover 9 (G m c) (fun t _ => flushed_eq m c t) cover

end Cert.OutProj

end
-- ==== Proof.OutProj.lean ====
/-
  Hand-written, untrusted. The output projection: what the reference's result holds, entry by entry, and the claim that the
  kernel's exact rendering and the reference's leave the same array.
-/
module

public import proofs.«01_k».proof.Proof.OutKernel
public import proofs.«01_k».proof.Proof.Gen.Reference2Ideal.Run
public import proofs.«01_k».proof.Defs
public import Idealize.ShloMosaic.Lib.Tactic.CleanTypes

@[expose] public section

set_option maxRecDepth 16384

noncomputable section

namespace Cert.OutProj

open Idealize.ShloMosaic Idealize.ShloMosaic.TcCoe Idealize.SL.Sem

section Reference
open Cert.Reference2Ideal

/-- The reference's run leaves the specification in its result and its arguments unchanged. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v33)
        = spec (m ((c : Thread nD τ).loc main_arg0)) (m ((c : Thread nD τ).loc main_arg1)) (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run _ _ _).mono (fun r h c => ⟨(h c).1.trans ?_, (h c).2⟩) (Cert.Reference2Ideal.Value.run m ρ)
  generalize m ((c : Thread nD τ).loc main_arg0) = a0
  generalize m ((c : Thread nD τ).loc main_arg1) = a1
  generalize m ((c : Thread nD τ).loc main_arg2) = a2
  generalize m ((c : Thread nD τ).loc main_arg3) = a3
  generalize m ((c : Thread nD τ).loc main_arg4) = a4
  generalize m ((c : Thread nD τ).loc main_arg5) = a5
  generalize m ((c : Thread nD τ).loc main_arg6) = a6
  generalize m ((c : Thread nD τ).loc main_arg7) = a7
  generalize m ((c : Thread nD τ).loc main_arg8) = a8
  clean_types
  funext i
  obtain ⟨b, s, n, rfl⟩ : ∃ (b : Fin 8) (s : Fin 8192) (n : Fin 1024), i = ix3 b s n := ⟨i 0, i 1, i 2, eq_ix3 i⟩
  pointwise
  unfold spec row zed
  pointwise
  rfl

end Reference

/-- The claim: from equal arguments the kernel and the reference end with equal results, and leave their arguments unchanged. -/
theorem equal [hK : Cert.Kernel2Ideal.Facts] [hR : Cert.Reference2Ideal.Facts] : Cert.algebraic_Kernel2Ideal_Reference2Ideal := by
  intro m g m' g' _ h
  refine ⟨fun c => G m c, ?_, ?_⟩
  · exact (θ_run _ _ _).mono (fun r k c => ⟨(k c).1.trans (final m c), (k c).2⟩) (Cert.Kernel2Ideal.Value.run_blocks m g)
  · refine (θ_run _ _ _).mono (fun r k c => ⟨(k c).1.trans ?_, (k c).2⟩) (run_reference m' g')
    obtain ⟨h0, h1, h2, h3, h4, h5, h6, h7, h8⟩ := h c
    rw [h0, h1, h2, h3, h4, h5, h6, h7, h8]

end Cert.OutProj

end
-- ==== Proof.ProjBlock.lean ====
/-
  Hand-written, untrusted. The input projection over the extended reals: one entry of a normed row times the weights plus the bias (`prj`),
  and what each of the ten results' blocks holds of it.
-/
module

public import proofs.«01_k».proof.Proof.Gen.Kernel3Ideal.Value
public import Idealize.ShloMosaic.Lib.Pointwise
public import Idealize.ShloMosaic.Lib.Pipeline.Value

@[expose] public section

set_option maxRecDepth 16384

noncomputable section

namespace Cert.Proj

open Cert.Kernel3Ideal Cert.Kernel3Ideal.Gen
open Idealize.ShloMosaic Idealize.ShloMosaic.TcCoe Idealize.SL.Sem
open Idealize.ShloMosaic.Pipeline (Dat)

/-- One entry of a row's root-mean-square norm times its weight. -/
def nrm (x g : Fin 1024 → EReal) (k : Fin 1024) : EReal :=
  x k * Ideal.rsqrt (Ideal.div (∑ j : Fin 1024, x j * x j) (Ideal.ofBits FTy.f32 1149239296#32) + Ideal.ofBits FTy.f32 897988541#32) * g k

/-- One entry of the projection: the normed row times a column of weights, plus the bias. -/
def prj (x g w : Fin 1024 → EReal) (b : EReal) : EReal := (∑ k : Fin 1024, nrm x g k * w k) + b

/-- The query scale, as the program's literal. -/
abbrev qsc : EReal := Ideal.ofBits FTy.f32 1043900987#32

/-- Column `n` of the columns that begin at `c`. -/
abbrev cl (c : ℕ) {N : ℕ} (n : Fin N) (h : c + N ≤ 5376 := by omega) : Fin 5376 := ⟨c + n.val, by omega⟩

/-- Column `n` itself. -/
abbrev c0 {N : ℕ} (n : Fin N) (h : N ≤ 5376 := by omega) : Fin 5376 := ⟨n.val, by omega⟩

section Block

variable (x0 : Vec Ideal S1x1024x1024 .f32) (x1 : Vec Ideal S1x1024 .f32) (x2 : Vec Ideal S1024x5376 .bf16) (x3 : Vec Ideal S1x5376 .f32)

/-- Entry `c` of row `p` of a block's projection. -/
def bp (p : Fin 1024) (c : Fin 5376) : EReal :=
  prj (fun k => x0 (ix3 0 p k)) (fun k => x1 (ix2 0 k)) (fun k => x2 (ix2 k c)) (x3 (ix2 0 c))

theorem hz3 : (![0, 0, 0] : Fin 3 → Nat) = fun _ => 0 := funext fun a => by fin_cases a <;> rfl
theorem hz2 : (![0, 0] : Fin 2 → Nat) = fun _ => 0 := funext fun a => by fin_cases a <;> rfl
theorem hz4 : (![0, 0, 0, 0] : Fin 4 → Nat) = fun _ => 0 := funext fun a => by fin_cases a <;> rfl

theorem pay3_apply (p k : Fin 1024) : k0_pay3 x0 x1 (ix2 p k) = nrm (fun k => x0 (ix3 0 p k)) (fun k => x1 (ix2 0 k)) k := by
  pointwise [k0_pay3]
  rfl

theorem pay29_apply (p k : Fin 1024) : k0_pay29 x0 x1 x2 x3 (ix2 p k) = nrm (fun k => x0 (ix3 0 p k)) (fun k => x1 (ix2 0 k)) k := by
  unfold k0_pay29
  rw [View.ld_unit_zero hz3, View.ld_unit_zero hz2]
  exact pay3_apply x0 x1 p k

theorem out4 (n : Fin 512) (p : Fin 1024) : out0_4 x0 x1 x2 x3 (ix4 0 0 n p) = bp x0 x1 x2 x3 p (c0 n) * qsc := by
  unfold out0_4
  rw [View.canon_unit_zero hz4, View.ld_unit_zero hz3, View.ld_unit_zero hz2]
  pointwise [k0_pay4]
  unfold bp prj
  simp only [pay3_apply]

theorem out5 (p : Fin 1024) (n : Fin 512) : out0_5 x0 x1 x2 x3 (ix3 0 p n) = bp x0 x1 x2 x3 p (cl 512 n) := by
  unfold out0_5
  rw [View.canon_unit_zero hz3, View.ld_unit_zero hz3, View.ld_unit_zero hz2]
  pointwise [k0_pay6, k0_pay5]
  unfold bp prj
  simp only [pay3_apply]

theorem out7 (p : Fin 1024) (n : Fin 512) : out0_7 x0 x1 x2 x3 (ix3 0 p n) = bp x0 x1 x2 x3 p (cl 1536 n) := by
  unfold out0_7
  rw [View.canon_unit_zero hz3]
  pointwise [k0_pay11, k0_pay10]
  unfold bp prj
  simp only [pay29_apply]

theorem out9 (p : Fin 1024) (n : Fin 128) : out0_9 x0 x1 x2 x3 (ix3 0 p n) = bp x0 x1 x2 x3 p (cl 2560 n) := by
  unfold out0_9
  rw [View.canon_unit_zero hz3]
  pointwise [k0_pay24, k0_pay22, k0_pay23]
  unfold bp prj
  simp only [pay29_apply]

theorem out10 (p : Fin 1024) (n : Fin 128) : out0_10 x0 x1 x2 x3 (ix3 0 p n) = bp x0 x1 x2 x3 p (cl 2688 n) := by
  unfold out0_10
  rw [View.canon_unit_zero hz3]
  pointwise [k0_pay25]
  unfold bp prj
  simp only [pay29_apply]

theorem out11 (p : Fin 1024) (n : Fin 512) : out0_11 x0 x1 x2 x3 (ix3 0 p n) = bp x0 x1 x2 x3 p (cl 2816 n) := by
  unfold out0_11
  rw [View.canon_unit_zero hz3]
  pointwise [k0_pay26]
  unfold bp prj
  simp only [pay29_apply]

theorem out12 (p : Fin 1024) (n : Fin 1024) : out0_12 x0 x1 x2 x3 (ix3 0 p n) = bp x0 x1 x2 x3 p (cl 3328 n) := by
  unfold out0_12
  rw [View.canon_unit_zero hz3]
  pointwise [k0_pay1, k0_pay27, k0_pay28]
  unfold bp prj
  simp only [pay29_apply]

theorem out13 (p : Fin 1024) (n : Fin 1024) : out0_13 x0 x1 x2 x3 (ix3 0 p n) = bp x0 x1 x2 x3 p (cl 4352 n) := by
  unfold out0_13
  rw [View.canon_unit_zero hz3]
  pointwise [k0_pay2]
  unfold bp prj
  simp only [pay29_apply]

theorem out6 (a : Fin 2) (n p : Fin 512) :
    out0_6 x0 x1 x2 x3 (ix4 0 a n p) = bp x0 x1 x2 x3 ⟨a.val * 512 + p.val, by omega⟩ (cl 1024 n) := by
  unfold out0_6 k0_pay29
  rw [View.ld_unit_zero hz3, View.ld_unit_zero hz2]
  refine (Value.canon6_eq x0 x1 (View.ld x2 r0_8) (View.ld x3 r0_9) _).trans ?_
  show k0_pay7 (k0_pay3 x0 x1) (View.ld x2 r0_8) (View.ld x3 r0_9) (ix2 ⟨a.val * 512 + p.val, by omega⟩ n) = _
  pointwise [k0_pay7]
  unfold bp prj
  simp only [pay3_apply]

theorem out8 (a : Fin 8) (n : Fin 512) (p : Fin 128) :
    out0_8 x0 x1 x2 x3 (ix4 0 a n p) = bp x0 x1 x2 x3 ⟨a.val * 128 + p.val, by omega⟩ (cl 2048 n) * qsc := by
  unfold out0_8 k0_pay30 k0_pay29
  rw [View.ld_unit_zero hz3, View.ld_unit_zero hz2]
  refine (Value.canon8_eq x0 x1 (View.ld x2 r0_14) (View.ld x3 r0_15) _).trans ?_
  show k0_pay12 (k0_pay3 x0 x1) (View.ld x2 r0_14) (View.ld x3 r0_15) (ix2 ⟨a.val * 128 + p.val, by omega⟩ n) = _
  pointwise [k0_pay12]
  unfold bp prj
  simp only [pay3_apply]

end Block

end Cert.Proj

end
-- ==== Proof.ProjKernel.lean ====
/-
  Hand-written, untrusted. The input projection: the specification of the ten results as functions of the four arguments, and what the
  kernel's ten result arrays hold. The blocks of each window cover its array, and every block is a block of the specification.
-/
module

public import proofs.«01_k».proof.Proof.ProjBlock

@[expose] public section

set_option maxRecDepth 16384

noncomputable section

namespace Cert.Proj

open Cert.Kernel3Ideal Cert.Kernel3Ideal.Gen
open Idealize.ShloMosaic Idealize.ShloMosaic.TcCoe Idealize.SL.Sem
open Idealize.ShloMosaic.Pipeline (Dat)

section Spec

variable (x : S8x8192x1024.Idx → EReal) (g : S1024.Idx → EReal) (w : S1024x5376.Idx → EReal) (b : S5376.Idx → EReal)

/-- The projection's entry of batch `u`, row `s` and column `c`. -/
def sp (u : Fin 8) (s : Fin 8192) (c : Fin 5376) : EReal :=
  prj (fun k => x (ix3 u s k)) (fun k => g (ix1 k)) (fun k => w (ix2 k c)) (b (ix1 c))

/-- Row `p` of tile `a`, of tiles of `n` rows. -/
abbrev tileRow {A N : ℕ} (a : Fin A) (p : Fin N) (h : A * N = 8192) : Fin 8192 :=
  ⟨a.val * N + p.val, by
    have h1 : a.val * N + p.val < (a.val + 1) * N := by rw [Nat.add_mul, Nat.one_mul]; exact Nat.add_lt_add_left p.isLt _
    exact lt_of_lt_of_le h1 (h ▸ Nat.mul_le_mul_right N a.isLt)⟩

/-- Queries of the first attention: scaled, in tiles of 1024 rows, each transposed. -/
def s4 (i : S8x8x512x1024.Idx) : EReal := sp x g w b (i 0) (tileRow (A := 8) (N := 1024) (i 1) (i 3) rfl) (c0 (N := 512) (i 2)) * qsc
/-- Its keys. -/
def s5 (i : S8x8192x512.Idx) : EReal := sp x g w b (i 0) (i 1) (cl 512 (N := 512) (i 2))
/-- Its values, in tiles of 512 rows, each transposed. -/
def s6 (i : S8x16x512x512.Idx) : EReal := sp x g w b (i 0) (tileRow (A := 16) (N := 512) (i 1) (i 3) rfl) (cl 1024 (N := 512) (i 2))
/-- Its gate's input. -/
def s7 (i : S8x8192x512.Idx) : EReal := sp x g w b (i 0) (i 1) (cl 1536 (N := 512) (i 2))
/-- Queries of the second attention: scaled, in tiles of 128 rows, each transposed. -/
def s8 (i : S8x64x512x128.Idx) : EReal := sp x g w b (i 0) (tileRow (A := 64) (N := 128) (i 1) (i 3) rfl) (cl 2048 (N := 512) (i 2)) * qsc
/-- Its keys. -/
def s9 (i : S8x8192x128.Idx) : EReal := sp x g w b (i 0) (i 1) (cl 2560 (N := 128) (i 2))
/-- Its values. -/
def s10 (i : S8x8192x128.Idx) : EReal := sp x g w b (i 0) (i 1) (cl 2688 (N := 128) (i 2))
/-- Its gate's input. -/
def s11 (i : S8x8192x512.Idx) : EReal := sp x g w b (i 0) (i 1) (cl 2816 (N := 512) (i 2))
/-- The two output gates' inputs. -/
def s12 (i : S8x8192x1024.Idx) : EReal := sp x g w b (i 0) (i 1) (cl 3328 (N := 1024) (i 2))
def s13 (i : S8x8192x1024.Idx) : EReal := sp x g w b (i 0) (i 1) (cl 4352 (N := 1024) (i 2))

end Spec

variable (m : (ℓ : Loc nD τ sig) → Buf (Elt Ideal) ℓ) (ρ : Dev nD → PrngReg)

/-- Where the inputs' blocks lie at point `t`: batch `t / 8`, rows from `1024 · (t % 8)`; the other three arguments are read whole. -/
theorem idxi : ∀ t : Fin grid0.N,
    (win0_0.index t 0 = t.val / 8 ∧ win0_0.index t 1 = t.val % 8 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0) := by decide +kernel

abbrev bt (t : Fin grid0.N) : Fin 8 := ⟨t.val / 8, by have h : t.val < 64 := lt_of_lt_of_eq t.isLt N_0; omega⟩
abbrev rt (t : Fin grid0.N) (p : Fin 1024) : Fin 8192 := ⟨t.val % 8 * 1024 + p.val, by omega⟩

theorem blk0 (c : Dev nD) (t : Fin grid0.N) (p : Fin 1024) (k : Fin 1024) :
    iblk m c 0 t (ix3 0 p k) = V m c main_arg0 (ix3 (bt t) (rt t p) k) := by
  obtain ⟨h0, h1, h2⟩ := (idxi t).1
  refine congrArg (V m c main_arg0) (funext fun x => Fin.ext ?_)
  match x with
  | ⟨0, _⟩ => show win0_0.index t 0 * 1 + 1 * 0 = t.val / 8; rw [h0]; omega
  | ⟨1, _⟩ => show win0_0.index t 1 * 1024 + 1 * p.val = t.val % 8 * 1024 + p.val; rw [h1]; omega
  | ⟨2, _⟩ => show win0_0.index t 2 * 1024 + 1 * k.val = k.val; rw [h2]; omega

theorem blk1 (c : Dev nD) (t : Fin grid0.N) : (iblk m c 1 t : S1x1024.Idx → Elt Ideal _) = V m c main_v0 := by
  obtain ⟨h0, h1⟩ := (idxi t).2.1
  funext y
  refine congrArg (V m c main_v0) (funext fun x => Fin.ext ?_)
  match x with
  | ⟨0, _⟩ => show win0_1.index t 0 * 1 + 1 * (y 0).val = (y 0).val; rw [h0]; omega
  | ⟨1, _⟩ => show win0_1.index t 1 * 1024 + 1 * (y 1).val = (y 1).val; rw [h1]; omega

theorem blk2 (c : Dev nD) (t : Fin grid0.N) : (iblk m c 2 t : S1024x5376.Idx → Elt Ideal _) = V m c main_v1 := by
  obtain ⟨h0, h1⟩ := (idxi t).2.2.1
  funext y
  refine congrArg (V m c main_v1) (funext fun x => Fin.ext ?_)
  match x with
  | ⟨0, _⟩ => show win0_2.index t 0 * 1024 + 1 * (y 0).val = (y 0).val; rw [h0]; omega
  | ⟨1, _⟩ => show win0_2.index t 1 * 5376 + 1 * (y 1).val = (y 1).val; rw [h1]; omega

theorem blk3 (c : Dev nD) (t : Fin grid0.N) : (iblk m c 3 t : S1x5376.Idx → Elt Ideal _) = V m c main_v2 := by
  obtain ⟨h0, h1⟩ := (idxi t).2.2.2
  funext y
  refine congrArg (V m c main_v2) (funext fun x => Fin.ext ?_)
  match x with
  | ⟨0, _⟩ => show win0_3.index t 0 * 1 + 1 * (y 0).val = (y 0).val; rw [h0]; omega
  | ⟨1, _⟩ => show win0_3.index t 1 * 5376 + 1 * (y 1).val = (y 1).val; rw [h1]; omega

theorem V_v0 (c : Dev nD) (k : Fin 1024) : V m c main_v0 (ix2 0 k) = m ((c : Thread nD τ).loc main_arg1) (ix1 k) := by
  have h : V m c main_v0 = (broadcastInDim S1x1024 ![1] bcast_S1024_S1x1024_1 (m ((c : Thread nD τ).loc main_arg1) : (⟨S1024, .f32⟩ : BufTy).Contents (Elt Ideal))) := by
    unfold V; after_results_simp
  rw [h]; pointwise

theorem V_v1 (c : Dev nD) (i) : V m c main_v1 i = m ((c : Thread nD τ).loc main_arg2) i := by
  have h : V m c main_v1 = (truncf .bf16 (m ((c : Thread nD τ).loc main_arg2)) bitsLt_bf16_f32 : FVec Ideal _ .bf16) := by
    unfold V; after_results_simp
  rw [h]; rfl

theorem V_v2 (c : Dev nD) (k : Fin 5376) : V m c main_v2 (ix2 0 k) = m ((c : Thread nD τ).loc main_arg3) (ix1 k) := by
  have h : V m c main_v2 = (broadcastInDim S1x5376 ![1] bcast_S5376_S1x5376_1 (m ((c : Thread nD τ).loc main_arg3) : (⟨S5376, .f32⟩ : BufTy).Contents (Elt Ideal))) := by
    unfold V; after_results_simp
  rw [h]; pointwise

/-- The projection at the launch's arguments. -/
abbrev SP (c : Dev nD) : Fin 8 → Fin 8192 → Fin 5376 → EReal :=
  sp (m ((c : Thread nD τ).loc main_arg0)) (m ((c : Thread nD τ).loc main_arg1)) (m ((c : Thread nD τ).loc main_arg2)) (m ((c : Thread nD τ).loc main_arg3))

/-- Row `p` of point `t`'s block is row `1024 · (t % 8) + p` of batch `t / 8`. -/
theorem bp_eq (c : Dev nD) (t : Fin grid0.N) (p : Fin 1024) (q : Fin 5376) :
    bp (iblk m c 0 t) (iblk m c 1 t) (iblk m c 2 t) (iblk m c 3 t) p q = SP m c (bt t) (rt t p) q := by
  unfold bp SP sp
  rw [blk1, blk2, blk3]
  simp only [blk0]
  rw [V_main_arg0, V_v2,
    show (fun k => V m c main_v0 (ix2 0 k)) = fun k => m ((c : Thread nD τ).loc main_arg1) (ix1 k) from funext fun k => V_v0 m c k,
    show (fun k => V m c main_v1 (ix2 k q)) = fun k => m ((c : Thread nD τ).loc main_arg2) (ix2 k q) from funext fun k => V_v1 m c _]

theorem idx4 : ∀ t : Fin grid0.N, win0_4.index t 0 = t.val / 8 ∧ win0_4.index t 1 = t.val % 8 ∧ win0_4.index t 2 = 0 ∧ win0_4.index t 3 = 0 := by
  decide +kernel

theorem final4 (c : Dev nD) : (dats m 0 c).arrAt 4 cfg0.N = s4 (m ((c : Thread nD τ).loc main_arg0)) (m ((c : Thread nD τ).loc main_arg1)) (m ((c : Thread nD τ).loc main_arg2)) (m ((c : Thread nD τ).loc main_arg3)) := by
  refine (dats m 0 c).arrAt_eq_of_cover 4 (s4 (m ((c : Thread nD τ).loc main_arg0)) (m ((c : Thread nD τ).loc main_arg1)) (m ((c : Thread nD τ).loc main_arg2)) (m ((c : Thread nD τ).loc main_arg3))) (fun t _ => ?_) (fun i => ?_)
  · rw [Value.flushed4]
    obtain ⟨h0, h1, h2, h3⟩ := idx4 t
    funext y
    obtain ⟨u, a, n, p, rfl⟩ : ∃ (u : Fin 1) (a : Fin 1) (n : Fin 512) (p : Fin 1024), y = ix4 u a n p := ⟨y 0, y 1, y 2, y 3, eq_ix4 y⟩
    obtain rfl : u = 0 := Subsingleton.elim _ _
    obtain rfl : a = 0 := Subsingleton.elim _ _
    have hi : (win0_4.blk t).view.read (Elt Ideal) (s4 (m ((c : Thread nD τ).loc main_arg0)) (m ((c : Thread nD τ).loc main_arg1)) (m ((c : Thread nD τ).loc main_arg2)) (m ((c : Thread nD τ).loc main_arg3))) (ix4 0 0 n p) = s4 (m ((c : Thread nD τ).loc main_arg0)) (m ((c : Thread nD τ).loc main_arg1)) (m ((c : Thread nD τ).loc main_arg2)) (m ((c : Thread nD τ).loc main_arg3)) (ix4 (bt t) ⟨t.val % 8 * 1 + 0, by omega⟩ n p) := by
      refine congrArg (s4 _ _ _ _) (funext fun x => Fin.ext ?_)
      match x with
      | ⟨0, _⟩ => show win0_4.index t 0 * 1 + 1 * 0 = t.val / 8; rw [h0]; omega
      | ⟨1, _⟩ => show win0_4.index t 1 * 1 + 1 * 0 = t.val % 8 * 1 + 0; rw [h1]
      | ⟨2, _⟩ => show win0_4.index t 2 * 512 + 1 * n.val = n.val; rw [h2]; omega
      | ⟨3, _⟩ => show win0_4.index t 3 * 1024 + 1 * p.val = p.val; rw [h3]; omega
    refine Eq.trans ?_ hi.symm
    refine (out4 (iblk m c 0 t) (iblk m c 1 t) (iblk m c 2 t) (iblk m c 3 t) n p).trans ?_
    rw [bp_eq]
    rw [show rt t p = tileRow (A := 8) (N := 1024) ⟨t.val % 8 * 1 + 0, by omega⟩ p rfl from Fin.ext (by dsimp only; omega)]
    rfl
  · have b0 : (i 0 : Nat) < 8 := (i 0).isLt
    have b1 : (i 1 : Nat) < 8 := (i 1).isLt
    have b2 : (i 2 : Nat) < 512 := (i 2).isLt
    have b3 : (i 3 : Nat) < 1024 := (i 3).isLt
    let t : Fin cfg0.N := ⟨(i 0 : Nat) * 8 + (i 1 : Nat) / 1, by show _ < grid0.N; rw [N_0]; omega⟩
    have ht : t.val = (i 0 : Nat) * 8 + (i 1 : Nat) / 1 := rfl
    refine ⟨t, flush0_4 _, ?_⟩
    obtain ⟨h0, h1, h2, h3⟩ := idx4 t
    rw [ht] at h0 h1
    show i ∈ ((View.whole main_v3_0).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1; rw [h0]; omega
    | ⟨1, _⟩ => show win0_4.index t 1 * 1 ≤ (i 1 : Nat) ∧ (i 1 : Nat) < win0_4.index t 1 * 1 + 1; rw [h1]; omega
    | ⟨2, _⟩ => show win0_4.index t 2 * 512 ≤ (i 2 : Nat) ∧ (i 2 : Nat) < win0_4.index t 2 * 512 + 512; rw [h2]; omega
    | ⟨3, _⟩ => show win0_4.index t 3 * 1024 ≤ (i 3 : Nat) ∧ (i 3 : Nat) < win0_4.index t 3 * 1024 + 1024; rw [h3]; omega

theorem idx5 : ∀ t : Fin grid0.N, win0_5.index t 0 = t.val / 8 ∧ win0_5.index t 1 = t.val % 8 ∧ win0_5.index t 2 = 0 := by
  decide +kernel

theorem final5 (c : Dev nD) : (dats m 0 c).arrAt 5 cfg0.N = s5 (m ((c : Thread nD τ).loc main_arg0)) (m ((c : Thread nD τ).loc main_arg1)) (m ((c : Thread nD τ).loc main_arg2)) (m ((c : Thread nD τ).loc main_arg3)) := by
  refine (dats m 0 c).arrAt_eq_of_cover 5 (s5 (m ((c : Thread nD τ).loc main_arg0)) (m ((c : Thread nD τ).loc main_arg1)) (m ((c : Thread nD τ).loc main_arg2)) (m ((c : Thread nD τ).loc main_arg3))) (fun t _ => ?_) (fun i => ?_)
  · rw [Value.flushed5]
    obtain ⟨h0, h1, h2⟩ := idx5 t
    funext y
    obtain ⟨u, p, n, rfl⟩ : ∃ (u : Fin 1) (p : Fin 1024) (n : Fin 512), y = ix3 u p n := ⟨y 0, y 1, y 2, eq_ix3 y⟩
    obtain rfl : u = 0 := Subsingleton.elim _ _
    have hi : (win0_5.blk t).view.read (Elt Ideal) (s5 (m ((c : Thread nD τ).loc main_arg0)) (m ((c : Thread nD τ).loc main_arg1)) (m ((c : Thread nD τ).loc main_arg2)) (m ((c : Thread nD τ).loc main_arg3))) (ix3 0 p n) = s5 (m ((c : Thread nD τ).loc main_arg0)) (m ((c : Thread nD τ).loc main_arg1)) (m ((c : Thread nD τ).loc main_arg2)) (m ((c : Thread nD τ).loc main_arg3)) (ix3 (bt t) (rt t p) n) := by
      refine congrArg (s5 _ _ _ _) (funext fun x => Fin.ext ?_)
      match x with
      | ⟨0, _⟩ => show win0_5.index t 0 * 1 + 1 * 0 = t.val / 8; rw [h0]; omega
      | ⟨1, _⟩ => show win0_5.index t 1 * 1024 + 1 * p.val = t.val % 8 * 1024 + p.val; rw [h1]; omega
      | ⟨2, _⟩ => show win0_5.index t 2 * 512 + 1 * n.val = n.val; rw [h2]; omega
    refine Eq.trans ?_ hi.symm
    exact (out5 (iblk m c 0 t) (iblk m c 1 t) (iblk m c 2 t) (iblk m c 3 t) p n).trans (bp_eq m c t p _)
  · have b0 : (i 0 : Nat) < 8 := (i 0).isLt
    have b1 : (i 1 : Nat) < 8192 := (i 1).isLt
    have b2 : (i 2 : Nat) < 512 := (i 2).isLt
    let t : Fin cfg0.N := ⟨(i 0 : Nat) * 8 + (i 1 : Nat) / 1024, by show _ < grid0.N; rw [N_0]; omega⟩
    have ht : t.val = (i 0 : Nat) * 8 + (i 1 : Nat) / 1024 := rfl
    refine ⟨t, flush0_5 _, ?_⟩
    obtain ⟨h0, h1, h2⟩ := idx5 t
    rw [ht] at h0 h1
    show i ∈ ((View.whole main_v3_1).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1; rw [h0]; omega
    | ⟨1, _⟩ => show win0_5.index t 1 * 1024 ≤ (i 1 : Nat) ∧ (i 1 : Nat) < win0_5.index t 1 * 1024 + 1024; rw [h1]; omega
    | ⟨2, _⟩ => show win0_5.index t 2 * 512 ≤ (i 2 : Nat) ∧ (i 2 : Nat) < win0_5.index t 2 * 512 + 512; rw [h2]; omega

theorem idx6 : ∀ t : Fin grid0.N, win0_6.index t 0 = t.val / 8 ∧ win0_6.index t 1 = t.val % 8 ∧ win0_6.index t 2 = 0 ∧ win0_6.index t 3 = 0 := by
  decide +kernel

theorem final6 (c : Dev nD) : (dats m 0 c).arrAt 6 cfg0.N = s6 (m ((c : Thread nD τ).loc main_arg0)) (m ((c : Thread nD τ).loc main_arg1)) (m ((c : Thread nD τ).loc main_arg2)) (m ((c : Thread nD τ).loc main_arg3)) := by
  refine (dats m 0 c).arrAt_eq_of_cover 6 (s6 (m ((c : Thread nD τ).loc main_arg0)) (m ((c : Thread nD τ).loc main_arg1)) (m ((c : Thread nD τ).loc main_arg2)) (m ((c : Thread nD τ).loc main_arg3))) (fun t _ => ?_) (fun i => ?_)
  · rw [Value.flushed6]
    obtain ⟨h0, h1, h2, h3⟩ := idx6 t
    funext y
    obtain ⟨u, a, n, p, rfl⟩ : ∃ (u : Fin 1) (a : Fin 2) (n : Fin 512) (p : Fin 512), y = ix4 u a n p := ⟨y 0, y 1, y 2, y 3, eq_ix4 y⟩
    obtain rfl : u = 0 := Subsingleton.elim _ _
    have hi : (win0_6.blk t).view.read (Elt Ideal) (s6 (m ((c : Thread nD τ).loc main_arg0)) (m ((c : Thread nD τ).loc main_arg1)) (m ((c : Thread nD τ).loc main_arg2)) (m ((c : Thread nD τ).loc main_arg3))) (ix4 0 a n p) = s6 (m ((c : Thread nD τ).loc main_arg0)) (m ((c : Thread nD τ).loc main_arg1)) (m ((c : Thread nD τ).loc main_arg2)) (m ((c : Thread nD τ).loc main_arg3)) (ix4 (bt t) ⟨t.val % 8 * 2 + a.val, by omega⟩ n p) := by
      refine congrArg (s6 _ _ _ _) (funext fun x => Fin.ext ?_)
      match x with
      | ⟨0, _⟩ => show win0_6.index t 0 * 1 + 1 * 0 = t.val / 8; rw [h0]; omega
      | ⟨1, _⟩ => show win0_6.index t 1 * 2 + 1 * a.val = t.val % 8 * 2 + a.val; rw [h1]; omega
      | ⟨2, _⟩ => show win0_6.index t 2 * 512 + 1 * n.val = n.val; rw [h2]; omega
      | ⟨3, _⟩ => show win0_6.index t 3 * 512 + 1 * p.val = p.val; rw [h3]; omega
    refine Eq.trans ?_ hi.symm
    refine (out6 (iblk m c 0 t) (iblk m c 1 t) (iblk m c 2 t) (iblk m c 3 t) a n p).trans ?_
    rw [bp_eq]
    rw [show rt t ⟨a.val * 512 + p.val, by omega⟩ = tileRow (A := 16) (N := 512) ⟨t.val % 8 * 2 + a.val, by omega⟩ p rfl from Fin.ext (by dsimp only; omega)]
    rfl
  · have b0 : (i 0 : Nat) < 8 := (i 0).isLt
    have b1 : (i 1 : Nat) < 16 := (i 1).isLt
    have b2 : (i 2 : Nat) < 512 := (i 2).isLt
    have b3 : (i 3 : Nat) < 512 := (i 3).isLt
    let t : Fin cfg0.N := ⟨(i 0 : Nat) * 8 + (i 1 : Nat) / 2, by show _ < grid0.N; rw [N_0]; omega⟩
    have ht : t.val = (i 0 : Nat) * 8 + (i 1 : Nat) / 2 := rfl
    refine ⟨t, flush0_6 _, ?_⟩
    obtain ⟨h0, h1, h2, h3⟩ := idx6 t
    rw [ht] at h0 h1
    show i ∈ ((View.whole main_v3_2).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1; rw [h0]; omega
    | ⟨1, _⟩ => show win0_6.index t 1 * 2 ≤ (i 1 : Nat) ∧ (i 1 : Nat) < win0_6.index t 1 * 2 + 2; rw [h1]; omega
    | ⟨2, _⟩ => show win0_6.index t 2 * 512 ≤ (i 2 : Nat) ∧ (i 2 : Nat) < win0_6.index t 2 * 512 + 512; rw [h2]; omega
    | ⟨3, _⟩ => show win0_6.index t 3 * 512 ≤ (i 3 : Nat) ∧ (i 3 : Nat) < win0_6.index t 3 * 512 + 512; rw [h3]; omega

theorem idx7 : ∀ t : Fin grid0.N, win0_7.index t 0 = t.val / 8 ∧ win0_7.index t 1 = t.val % 8 ∧ win0_7.index t 2 = 0 := by
  decide +kernel

theorem final7 (c : Dev nD) : (dats m 0 c).arrAt 7 cfg0.N = s7 (m ((c : Thread nD τ).loc main_arg0)) (m ((c : Thread nD τ).loc main_arg1)) (m ((c : Thread nD τ).loc main_arg2)) (m ((c : Thread nD τ).loc main_arg3)) := by
  refine (dats m 0 c).arrAt_eq_of_cover 7 (s7 (m ((c : Thread nD τ).loc main_arg0)) (m ((c : Thread nD τ).loc main_arg1)) (m ((c : Thread nD τ).loc main_arg2)) (m ((c : Thread nD τ).loc main_arg3))) (fun t _ => ?_) (fun i => ?_)
  · rw [Value.flushed7]
    obtain ⟨h0, h1, h2⟩ := idx7 t
    funext y
    obtain ⟨u, p, n, rfl⟩ : ∃ (u : Fin 1) (p : Fin 1024) (n : Fin 512), y = ix3 u p n := ⟨y 0, y 1, y 2, eq_ix3 y⟩
    obtain rfl : u = 0 := Subsingleton.elim _ _
    have hi : (win0_7.blk t).view.read (Elt Ideal) (s7 (m ((c : Thread nD τ).loc main_arg0)) (m ((c : Thread nD τ).loc main_arg1)) (m ((c : Thread nD τ).loc main_arg2)) (m ((c : Thread nD τ).loc main_arg3))) (ix3 0 p n) = s7 (m ((c : Thread nD τ).loc main_arg0)) (m ((c : Thread nD τ).loc main_arg1)) (m ((c : Thread nD τ).loc main_arg2)) (m ((c : Thread nD τ).loc main_arg3)) (ix3 (bt t) (rt t p) n) := by
      refine congrArg (s7 _ _ _ _) (funext fun x => Fin.ext ?_)
      match x with
      | ⟨0, _⟩ => show win0_7.index t 0 * 1 + 1 * 0 = t.val / 8; rw [h0]; omega
      | ⟨1, _⟩ => show win0_7.index t 1 * 1024 + 1 * p.val = t.val % 8 * 1024 + p.val; rw [h1]; omega
      | ⟨2, _⟩ => show win0_7.index t 2 * 512 + 1 * n.val = n.val; rw [h2]; omega
    refine Eq.trans ?_ hi.symm
    exact (out7 (iblk m c 0 t) (iblk m c 1 t) (iblk m c 2 t) (iblk m c 3 t) p n).trans (bp_eq m c t p _)
  · have b0 : (i 0 : Nat) < 8 := (i 0).isLt
    have b1 : (i 1 : Nat) < 8192 := (i 1).isLt
    have b2 : (i 2 : Nat) < 512 := (i 2).isLt
    let t : Fin cfg0.N := ⟨(i 0 : Nat) * 8 + (i 1 : Nat) / 1024, by show _ < grid0.N; rw [N_0]; omega⟩
    have ht : t.val = (i 0 : Nat) * 8 + (i 1 : Nat) / 1024 := rfl
    refine ⟨t, flush0_7 _, ?_⟩
    obtain ⟨h0, h1, h2⟩ := idx7 t
    rw [ht] at h0 h1
    show i ∈ ((View.whole main_v3_3).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1; rw [h0]; omega
    | ⟨1, _⟩ => show win0_7.index t 1 * 1024 ≤ (i 1 : Nat) ∧ (i 1 : Nat) < win0_7.index t 1 * 1024 + 1024; rw [h1]; omega
    | ⟨2, _⟩ => show win0_7.index t 2 * 512 ≤ (i 2 : Nat) ∧ (i 2 : Nat) < win0_7.index t 2 * 512 + 512; rw [h2]; omega

theorem idx8 : ∀ t : Fin grid0.N, win0_8.index t 0 = t.val / 8 ∧ win0_8.index t 1 = t.val % 8 ∧ win0_8.index t 2 = 0 ∧ win0_8.index t 3 = 0 := by
  decide +kernel

theorem final8 (c : Dev nD) : (dats m 0 c).arrAt 8 cfg0.N = s8 (m ((c : Thread nD τ).loc main_arg0)) (m ((c : Thread nD τ).loc main_arg1)) (m ((c : Thread nD τ).loc main_arg2)) (m ((c : Thread nD τ).loc main_arg3)) := by
  refine (dats m 0 c).arrAt_eq_of_cover 8 (s8 (m ((c : Thread nD τ).loc main_arg0)) (m ((c : Thread nD τ).loc main_arg1)) (m ((c : Thread nD τ).loc main_arg2)) (m ((c : Thread nD τ).loc main_arg3))) (fun t _ => ?_) (fun i => ?_)
  · rw [Value.flushed8]
    obtain ⟨h0, h1, h2, h3⟩ := idx8 t
    funext y
    obtain ⟨u, a, n, p, rfl⟩ : ∃ (u : Fin 1) (a : Fin 8) (n : Fin 512) (p : Fin 128), y = ix4 u a n p := ⟨y 0, y 1, y 2, y 3, eq_ix4 y⟩
    obtain rfl : u = 0 := Subsingleton.elim _ _
    have hi : (win0_8.blk t).view.read (Elt Ideal) (s8 (m ((c : Thread nD τ).loc main_arg0)) (m ((c : Thread nD τ).loc main_arg1)) (m ((c : Thread nD τ).loc main_arg2)) (m ((c : Thread nD τ).loc main_arg3))) (ix4 0 a n p) = s8 (m ((c : Thread nD τ).loc main_arg0)) (m ((c : Thread nD τ).loc main_arg1)) (m ((c : Thread nD τ).loc main_arg2)) (m ((c : Thread nD τ).loc main_arg3)) (ix4 (bt t) ⟨t.val % 8 * 8 + a.val, by omega⟩ n p) := by
      refine congrArg (s8 _ _ _ _) (funext fun x => Fin.ext ?_)
      match x with
      | ⟨0, _⟩ => show win0_8.index t 0 * 1 + 1 * 0 = t.val / 8; rw [h0]; omega
      | ⟨1, _⟩ => show win0_8.index t 1 * 8 + 1 * a.val = t.val % 8 * 8 + a.val; rw [h1]; omega
      | ⟨2, _⟩ => show win0_8.index t 2 * 512 + 1 * n.val = n.val; rw [h2]; omega
      | ⟨3, _⟩ => show win0_8.index t 3 * 128 + 1 * p.val = p.val; rw [h3]; omega
    refine Eq.trans ?_ hi.symm
    refine (out8 (iblk m c 0 t) (iblk m c 1 t) (iblk m c 2 t) (iblk m c 3 t) a n p).trans ?_
    rw [bp_eq]
    rw [show rt t ⟨a.val * 128 + p.val, by omega⟩ = tileRow (A := 64) (N := 128) ⟨t.val % 8 * 8 + a.val, by omega⟩ p rfl from Fin.ext (by dsimp only; omega)]
    rfl
  · have b0 : (i 0 : Nat) < 8 := (i 0).isLt
    have b1 : (i 1 : Nat) < 64 := (i 1).isLt
    have b2 : (i 2 : Nat) < 512 := (i 2).isLt
    have b3 : (i 3 : Nat) < 128 := (i 3).isLt
    let t : Fin cfg0.N := ⟨(i 0 : Nat) * 8 + (i 1 : Nat) / 8, by show _ < grid0.N; rw [N_0]; omega⟩
    have ht : t.val = (i 0 : Nat) * 8 + (i 1 : Nat) / 8 := rfl
    refine ⟨t, flush0_8 _, ?_⟩
    obtain ⟨h0, h1, h2, h3⟩ := idx8 t
    rw [ht] at h0 h1
    show i ∈ ((View.whole main_v3_4).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1; rw [h0]; omega
    | ⟨1, _⟩ => show win0_8.index t 1 * 8 ≤ (i 1 : Nat) ∧ (i 1 : Nat) < win0_8.index t 1 * 8 + 8; rw [h1]; omega
    | ⟨2, _⟩ => show win0_8.index t 2 * 512 ≤ (i 2 : Nat) ∧ (i 2 : Nat) < win0_8.index t 2 * 512 + 512; rw [h2]; omega
    | ⟨3, _⟩ => show win0_8.index t 3 * 128 ≤ (i 3 : Nat) ∧ (i 3 : Nat) < win0_8.index t 3 * 128 + 128; rw [h3]; omega

theorem idx9 : ∀ t : Fin grid0.N, win0_9.index t 0 = t.val / 8 ∧ win0_9.index t 1 = t.val % 8 ∧ win0_9.index t 2 = 0 := by
  decide +kernel

theorem final9 (c : Dev nD) : (dats m 0 c).arrAt 9 cfg0.N = s9 (m ((c : Thread nD τ).loc main_arg0)) (m ((c : Thread nD τ).loc main_arg1)) (m ((c : Thread nD τ).loc main_arg2)) (m ((c : Thread nD τ).loc main_arg3)) := by
  refine (dats m 0 c).arrAt_eq_of_cover 9 (s9 (m ((c : Thread nD τ).loc main_arg0)) (m ((c : Thread nD τ).loc main_arg1)) (m ((c : Thread nD τ).loc main_arg2)) (m ((c : Thread nD τ).loc main_arg3))) (fun t _ => ?_) (fun i => ?_)
  · rw [Value.flushed9]
    obtain ⟨h0, h1, h2⟩ := idx9 t
    funext y
    obtain ⟨u, p, n, rfl⟩ : ∃ (u : Fin 1) (p : Fin 1024) (n : Fin 128), y = ix3 u p n := ⟨y 0, y 1, y 2, eq_ix3 y⟩
    obtain rfl : u = 0 := Subsingleton.elim _ _
    have hi : (win0_9.blk t).view.read (Elt Ideal) (s9 (m ((c : Thread nD τ).loc main_arg0)) (m ((c : Thread nD τ).loc main_arg1)) (m ((c : Thread nD τ).loc main_arg2)) (m ((c : Thread nD τ).loc main_arg3))) (ix3 0 p n) = s9 (m ((c : Thread nD τ).loc main_arg0)) (m ((c : Thread nD τ).loc main_arg1)) (m ((c : Thread nD τ).loc main_arg2)) (m ((c : Thread nD τ).loc main_arg3)) (ix3 (bt t) (rt t p) n) := by
      refine congrArg (s9 _ _ _ _) (funext fun x => Fin.ext ?_)
      match x with
      | ⟨0, _⟩ => show win0_9.index t 0 * 1 + 1 * 0 = t.val / 8; rw [h0]; omega
      | ⟨1, _⟩ => show win0_9.index t 1 * 1024 + 1 * p.val = t.val % 8 * 1024 + p.val; rw [h1]; omega
      | ⟨2, _⟩ => show win0_9.index t 2 * 128 + 1 * n.val = n.val; rw [h2]; omega
    refine Eq.trans ?_ hi.symm
    exact (out9 (iblk m c 0 t) (iblk m c 1 t) (iblk m c 2 t) (iblk m c 3 t) p n).trans (bp_eq m c t p _)
  · have b0 : (i 0 : Nat) < 8 := (i 0).isLt
    have b1 : (i 1 : Nat) < 8192 := (i 1).isLt
    have b2 : (i 2 : Nat) < 128 := (i 2).isLt
    let t : Fin cfg0.N := ⟨(i 0 : Nat) * 8 + (i 1 : Nat) / 1024, by show _ < grid0.N; rw [N_0]; omega⟩
    have ht : t.val = (i 0 : Nat) * 8 + (i 1 : Nat) / 1024 := rfl
    refine ⟨t, flush0_9 _, ?_⟩
    obtain ⟨h0, h1, h2⟩ := idx9 t
    rw [ht] at h0 h1
    show i ∈ ((View.whole main_v3_5).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1; rw [h0]; omega
    | ⟨1, _⟩ => show win0_9.index t 1 * 1024 ≤ (i 1 : Nat) ∧ (i 1 : Nat) < win0_9.index t 1 * 1024 + 1024; rw [h1]; omega
    | ⟨2, _⟩ => show win0_9.index t 2 * 128 ≤ (i 2 : Nat) ∧ (i 2 : Nat) < win0_9.index t 2 * 128 + 128; rw [h2]; omega

theorem idx10 : ∀ t : Fin grid0.N, win0_10.index t 0 = t.val / 8 ∧ win0_10.index t 1 = t.val % 8 ∧ win0_10.index t 2 = 0 := by
  decide +kernel

theorem final10 (c : Dev nD) : (dats m 0 c).arrAt 10 cfg0.N = s10 (m ((c : Thread nD τ).loc main_arg0)) (m ((c : Thread nD τ).loc main_arg1)) (m ((c : Thread nD τ).loc main_arg2)) (m ((c : Thread nD τ).loc main_arg3)) := by
  refine (dats m 0 c).arrAt_eq_of_cover 10 (s10 (m ((c : Thread nD τ).loc main_arg0)) (m ((c : Thread nD τ).loc main_arg1)) (m ((c : Thread nD τ).loc main_arg2)) (m ((c : Thread nD τ).loc main_arg3))) (fun t _ => ?_) (fun i => ?_)
  · rw [Value.flushed10]
    obtain ⟨h0, h1, h2⟩ := idx10 t
    funext y
    obtain ⟨u, p, n, rfl⟩ : ∃ (u : Fin 1) (p : Fin 1024) (n : Fin 128), y = ix3 u p n := ⟨y 0, y 1, y 2, eq_ix3 y⟩
    obtain rfl : u = 0 := Subsingleton.elim _ _
    have hi : (win0_10.blk t).view.read (Elt Ideal) (s10 (m ((c : Thread nD τ).loc main_arg0)) (m ((c : Thread nD τ).loc main_arg1)) (m ((c : Thread nD τ).loc main_arg2)) (m ((c : Thread nD τ).loc main_arg3))) (ix3 0 p n) = s10 (m ((c : Thread nD τ).loc main_arg0)) (m ((c : Thread nD τ).loc main_arg1)) (m ((c : Thread nD τ).loc main_arg2)) (m ((c : Thread nD τ).loc main_arg3)) (ix3 (bt t) (rt t p) n) := by
      refine congrArg (s10 _ _ _ _) (funext fun x => Fin.ext ?_)
      match x with
      | ⟨0, _⟩ => show win0_10.index t 0 * 1 + 1 * 0 = t.val / 8; rw [h0]; omega
      | ⟨1, _⟩ => show win0_10.index t 1 * 1024 + 1 * p.val = t.val % 8 * 1024 + p.val; rw [h1]; omega
      | ⟨2, _⟩ => show win0_10.index t 2 * 128 + 1 * n.val = n.val; rw [h2]; omega
    refine Eq.trans ?_ hi.symm
    exact (out10 (iblk m c 0 t) (iblk m c 1 t) (iblk m c 2 t) (iblk m c 3 t) p n).trans (bp_eq m c t p _)
  · have b0 : (i 0 : Nat) < 8 := (i 0).isLt
    have b1 : (i 1 : Nat) < 8192 := (i 1).isLt
    have b2 : (i 2 : Nat) < 128 := (i 2).isLt
    let t : Fin cfg0.N := ⟨(i 0 : Nat) * 8 + (i 1 : Nat) / 1024, by show _ < grid0.N; rw [N_0]; omega⟩
    have ht : t.val = (i 0 : Nat) * 8 + (i 1 : Nat) / 1024 := rfl
    refine ⟨t, flush0_10 _, ?_⟩
    obtain ⟨h0, h1, h2⟩ := idx10 t
    rw [ht] at h0 h1
    show i ∈ ((View.whole main_v3_6).slice (win0_10.rect t)).set
    rw [View.set_slice_whole, Rect.mem_set_unit]
    intro a
    match a with
    | ⟨0, _⟩ => show win0_10.index t 0 * 1 ≤ (i 0 : Nat) ∧ (i 0 : Nat) < win0_10.index t 0 * 1 + 1; rw [h0]; omega
    | ⟨1, _⟩ => show win0_10.index t 1 * 1024 ≤ (i 1 : Nat) ∧ (i 1 : Nat) < win0_10.index t 1 * 1024 + 1024; rw [h1]; omega
    | ⟨2, _⟩ => show win0_10.index t 2 * 128 ≤ (i 2 : Nat) ∧ (i 2 : Nat) < win0_10.index t 2 * 128 + 128; rw [h2]; omega

theorem idx11 : ∀ t : Fin grid0.N, win0_11.index t 0 = t.val / 8 ∧ win0_11.index t 1 = t.val % 8 ∧ win0_11.index t 2 = 0 := by
  decide +kernel

theorem final11 (c : Dev nD) : (dats m 0 c).arrAt 11 cfg0.N = s11 (m ((c : Thread nD τ).loc main_arg0)) (m ((c : Thread nD τ).loc main_arg1)) (m ((c : Thread nD τ).loc main_arg2)) (m ((c : Thread nD τ).loc main_arg3)) := by
  refine (dats m 0 c).arrAt_eq_of_cover 11 (s11 (m ((c : Thread nD τ).loc main_arg0)) (m ((c : Thread nD τ).loc main_arg1)) (m ((c : Thread nD τ).loc main_arg2)) (m ((c : Thread nD τ).loc main_arg3))) (fun t _ => ?_) (fun i => ?_)
  · rw [Value.flushed11]
    obtain ⟨h0, h1, h2⟩ := idx11 t
    funext y
    obtain ⟨u, p, n, rfl⟩ : ∃ (u : Fin 1) (p : Fin 1024) (n : Fin 512), y = ix3 u p n := ⟨y 0, y 1, y 2, eq_ix3 y⟩
    obtain rfl : u = 0 := Subsingleton.elim _ _
    have hi : (win0_11.blk t).view.read (Elt Ideal) (s11 (m ((c : Thread nD τ).loc main_arg0)) (m ((c : Thread nD τ).loc main_arg1)) (m ((c : Thread nD τ).loc main_arg2)) (m ((c : Thread nD τ).loc main_arg3))) (ix3 0 p n) = s11 (m ((c : Thread nD τ).loc main_arg0)) (m ((c : Thread nD τ).loc main_arg1)) (m ((c : Thread nD τ).loc main_arg2)) (m ((c : Thread nD τ).loc main_arg3)) (ix3 (bt t) (rt t p) n) := by
      refine congrArg (s11 _ _ _ _) (funext fun x => Fin.ext ?_)
      match x with
      | ⟨0, _⟩ => show win0_11.index t 0 * 1 + 1 * 0 = t.val / 8; rw [h0]; omega
      | ⟨1, _⟩ => show win0_11.index t 1 * 1024 + 1 * p.val = t.val % 8 * 1024 + p.val; rw [h1]; omega
      | ⟨2, _⟩ => show win0_11.index t 2 * 512 + 1 * n.val = n.val; rw [h2]; omega
    refine Eq.trans ?_ hi.symm
    exact (out11 (iblk m c 0 t) (iblk m c 1 t) (iblk m c 2 t) (iblk m c 3 t) p n).trans (bp_eq m c t p _)
  · have b0 : (i 0 : Nat) < 8 := (i 0).isLt
    have b1 : (i 1 : Nat) < 8192 := (i 1).isLt
    have b2 : (i 2 : Nat) < 512 := (i 2).isLt
    let t : Fin cfg0.N := ⟨(i 0 : Nat) * 8 + (i 1 : Nat) / 1024, by show _ < grid0.N; rw [N_0]; omega⟩
    have ht : t.val = (i 0 : Nat) * 8 + (i 1 : Nat) / 1024 := rfl
    refine ⟨t, flush0_11 _, ?_⟩
    obtain ⟨h0, h1, h2⟩ := idx11 t
    rw [ht] at h0 h1
    show i ∈ ((View.whole main_v3_7).slice (win0_11.rect t)).set
    rw [View.set_slice_whole, Rect.mem_set_unit]
    intro a
    match a with
    | ⟨0, _⟩ => show win0_11.index t 0 * 1 ≤ (i 0 : Nat) ∧ (i 0 : Nat) < win0_11.index t 0 * 1 + 1; rw [h0]; omega
    | ⟨1, _⟩ => show win0_11.index t 1 * 1024 ≤ (i 1 : Nat) ∧ (i 1 : Nat) < win0_11.index t 1 * 1024 + 1024; rw [h1]; omega
    | ⟨2, _⟩ => show win0_11.index t 2 * 512 ≤ (i 2 : Nat) ∧ (i 2 : Nat) < win0_11.index t 2 * 512 + 512; rw [h2]; omega

theorem idx12 : ∀ t : Fin grid0.N, win0_12.index t 0 = t.val / 8 ∧ win0_12.index t 1 = t.val % 8 ∧ win0_12.index t 2 = 0 := by
  decide +kernel

theorem final12 (c : Dev nD) : (dats m 0 c).arrAt 12 cfg0.N = s12 (m ((c : Thread nD τ).loc main_arg0)) (m ((c : Thread nD τ).loc main_arg1)) (m ((c : Thread nD τ).loc main_arg2)) (m ((c : Thread nD τ).loc main_arg3)) := by
  refine (dats m 0 c).arrAt_eq_of_cover 12 (s12 (m ((c : Thread nD τ).loc main_arg0)) (m ((c : Thread nD τ).loc main_arg1)) (m ((c : Thread nD τ).loc main_arg2)) (m ((c : Thread nD τ).loc main_arg3))) (fun t _ => ?_) (fun i => ?_)
  · rw [Value.flushed12]
    obtain ⟨h0, h1, h2⟩ := idx12 t
    funext y
    obtain ⟨u, p, n, rfl⟩ : ∃ (u : Fin 1) (p : Fin 1024) (n : Fin 1024), y = ix3 u p n := ⟨y 0, y 1, y 2, eq_ix3 y⟩
    obtain rfl : u = 0 := Subsingleton.elim _ _
    have hi : (win0_12.blk t).view.read (Elt Ideal) (s12 (m ((c : Thread nD τ).loc main_arg0)) (m ((c : Thread nD τ).loc main_arg1)) (m ((c : Thread nD τ).loc main_arg2)) (m ((c : Thread nD τ).loc main_arg3))) (ix3 0 p n) = s12 (m ((c : Thread nD τ).loc main_arg0)) (m ((c : Thread nD τ).loc main_arg1)) (m ((c : Thread nD τ).loc main_arg2)) (m ((c : Thread nD τ).loc main_arg3)) (ix3 (bt t) (rt t p) n) := by
      refine congrArg (s12 _ _ _ _) (funext fun x => Fin.ext ?_)
      match x with
      | ⟨0, _⟩ => show win0_12.index t 0 * 1 + 1 * 0 = t.val / 8; rw [h0]; omega
      | ⟨1, _⟩ => show win0_12.index t 1 * 1024 + 1 * p.val = t.val % 8 * 1024 + p.val; rw [h1]; omega
      | ⟨2, _⟩ => show win0_12.index t 2 * 1024 + 1 * n.val = n.val; rw [h2]; omega
    refine Eq.trans ?_ hi.symm
    exact (out12 (iblk m c 0 t) (iblk m c 1 t) (iblk m c 2 t) (iblk m c 3 t) p n).trans (bp_eq m c t p _)
  · have b0 : (i 0 : Nat) < 8 := (i 0).isLt
    have b1 : (i 1 : Nat) < 8192 := (i 1).isLt
    have b2 : (i 2 : Nat) < 1024 := (i 2).isLt
    let t : Fin cfg0.N := ⟨(i 0 : Nat) * 8 + (i 1 : Nat) / 1024, by show _ < grid0.N; rw [N_0]; omega⟩
    have ht : t.val = (i 0 : Nat) * 8 + (i 1 : Nat) / 1024 := rfl
    refine ⟨t, flush0_12 _, ?_⟩
    obtain ⟨h0, h1, h2⟩ := idx12 t
    rw [ht] at h0 h1
    show i ∈ ((View.whole main_v3_8).slice (win0_12.rect t)).set
    rw [View.set_slice_whole, Rect.mem_set_unit]
    intro a
    match a with
    | ⟨0, _⟩ => show win0_12.index t 0 * 1 ≤ (i 0 : Nat) ∧ (i 0 : Nat) < win0_12.index t 0 * 1 + 1; rw [h0]; omega
    | ⟨1, _⟩ => show win0_12.index t 1 * 1024 ≤ (i 1 : Nat) ∧ (i 1 : Nat) < win0_12.index t 1 * 1024 + 1024; rw [h1]; omega
    | ⟨2, _⟩ => show win0_12.index t 2 * 1024 ≤ (i 2 : Nat) ∧ (i 2 : Nat) < win0_12.index t 2 * 1024 + 1024; rw [h2]; omega

theorem idx13 : ∀ t : Fin grid0.N, win0_13.index t 0 = t.val / 8 ∧ win0_13.index t 1 = t.val % 8 ∧ win0_13.index t 2 = 0 := by
  decide +kernel

theorem final13 (c : Dev nD) : (dats m 0 c).arrAt 13 cfg0.N = s13 (m ((c : Thread nD τ).loc main_arg0)) (m ((c : Thread nD τ).loc main_arg1)) (m ((c : Thread nD τ).loc main_arg2)) (m ((c : Thread nD τ).loc main_arg3)) := by
  refine (dats m 0 c).arrAt_eq_of_cover 13 (s13 (m ((c : Thread nD τ).loc main_arg0)) (m ((c : Thread nD τ).loc main_arg1)) (m ((c : Thread nD τ).loc main_arg2)) (m ((c : Thread nD τ).loc main_arg3))) (fun t _ => ?_) (fun i => ?_)
  · rw [Value.flushed13]
    obtain ⟨h0, h1, h2⟩ := idx13 t
    funext y
    obtain ⟨u, p, n, rfl⟩ : ∃ (u : Fin 1) (p : Fin 1024) (n : Fin 1024), y = ix3 u p n := ⟨y 0, y 1, y 2, eq_ix3 y⟩
    obtain rfl : u = 0 := Subsingleton.elim _ _
    have hi : (win0_13.blk t).view.read (Elt Ideal) (s13 (m ((c : Thread nD τ).loc main_arg0)) (m ((c : Thread nD τ).loc main_arg1)) (m ((c : Thread nD τ).loc main_arg2)) (m ((c : Thread nD τ).loc main_arg3))) (ix3 0 p n) = s13 (m ((c : Thread nD τ).loc main_arg0)) (m ((c : Thread nD τ).loc main_arg1)) (m ((c : Thread nD τ).loc main_arg2)) (m ((c : Thread nD τ).loc main_arg3)) (ix3 (bt t) (rt t p) n) := by
      refine congrArg (s13 _ _ _ _) (funext fun x => Fin.ext ?_)
      match x with
      | ⟨0, _⟩ => show win0_13.index t 0 * 1 + 1 * 0 = t.val / 8; rw [h0]; omega
      | ⟨1, _⟩ => show win0_13.index t 1 * 1024 + 1 * p.val = t.val % 8 * 1024 + p.val; rw [h1]; omega
      | ⟨2, _⟩ => show win0_13.index t 2 * 1024 + 1 * n.val = n.val; rw [h2]; omega
    refine Eq.trans ?_ hi.symm
    exact (out13 (iblk m c 0 t) (iblk m c 1 t) (iblk m c 2 t) (iblk m c 3 t) p n).trans (bp_eq m c t p _)
  · have b0 : (i 0 : Nat) < 8 := (i 0).isLt
    have b1 : (i 1 : Nat) < 8192 := (i 1).isLt
    have b2 : (i 2 : Nat) < 1024 := (i 2).isLt
    let t : Fin cfg0.N := ⟨(i 0 : Nat) * 8 + (i 1 : Nat) / 1024, by show _ < grid0.N; rw [N_0]; omega⟩
    have ht : t.val = (i 0 : Nat) * 8 + (i 1 : Nat) / 1024 := rfl
    refine ⟨t, flush0_13 _, ?_⟩
    obtain ⟨h0, h1, h2⟩ := idx13 t
    rw [ht] at h0 h1
    show i ∈ ((View.whole main_v3_9).slice (win0_13.rect t)).set
    rw [View.set_slice_whole, Rect.mem_set_unit]
    intro a
    match a with
    | ⟨0, _⟩ => show win0_13.index t 0 * 1 ≤ (i 0 : Nat) ∧ (i 0 : Nat) < win0_13.index t 0 * 1 + 1; rw [h0]; omega
    | ⟨1, _⟩ => show win0_13.index t 1 * 1024 ≤ (i 1 : Nat) ∧ (i 1 : Nat) < win0_13.index t 1 * 1024 + 1024; rw [h1]; omega
    | ⟨2, _⟩ => show win0_13.index t 2 * 1024 ≤ (i 2 : Nat) ∧ (i 2 : Nat) < win0_13.index t 2 * 1024 + 1024; rw [h2]; omega

end Cert.Proj

end
-- ==== Proof.Proj.lean ====
/-
  Hand-written, untrusted. The input projection: what the reference's ten results hold, entry by entry, and the claim that the kernel's
  exact rendering and the reference's leave the same arrays.
-/
module

public import proofs.«01_k».proof.Proof.ProjKernel
public import proofs.«01_k».proof.Proof.Gen.Reference3Ideal.Run
public import proofs.«01_k».proof.Defs
public import Idealize.ShloMosaic.Lib.Tactic.CleanTypes

@[expose] public section

set_option maxRecDepth 16384

noncomputable section

namespace Cert.Proj

open Idealize.ShloMosaic Idealize.ShloMosaic.TcCoe Idealize.SL.Sem

section Reference
open Cert.Reference3Ideal

/-- The reference's run leaves the specification in its ten results and its arguments unchanged. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v37) = s4 (m ((c : Thread nD τ).loc main_arg0)) (m ((c : Thread nD τ).loc main_arg1)) (m ((c : Thread nD τ).loc main_arg2)) (m ((c : Thread nD τ).loc main_arg3))
      ∧ r.2.mem ((c : Thread nD τ).loc main_v38) = s5 (m ((c : Thread nD τ).loc main_arg0)) (m ((c : Thread nD τ).loc main_arg1)) (m ((c : Thread nD τ).loc main_arg2)) (m ((c : Thread nD τ).loc main_arg3))
      ∧ r.2.mem ((c : Thread nD τ).loc main_v39) = s6 (m ((c : Thread nD τ).loc main_arg0)) (m ((c : Thread nD τ).loc main_arg1)) (m ((c : Thread nD τ).loc main_arg2)) (m ((c : Thread nD τ).loc main_arg3))
      ∧ r.2.mem ((c : Thread nD τ).loc main_v40) = s7 (m ((c : Thread nD τ).loc main_arg0)) (m ((c : Thread nD τ).loc main_arg1)) (m ((c : Thread nD τ).loc main_arg2)) (m ((c : Thread nD τ).loc main_arg3))
      ∧ r.2.mem ((c : Thread nD τ).loc main_v41) = s8 (m ((c : Thread nD τ).loc main_arg0)) (m ((c : Thread nD τ).loc main_arg1)) (m ((c : Thread nD τ).loc main_arg2)) (m ((c : Thread nD τ).loc main_arg3))
      ∧ r.2.mem ((c : Thread nD τ).loc main_v42) = s9 (m ((c : Thread nD τ).loc main_arg0)) (m ((c : Thread nD τ).loc main_arg1)) (m ((c : Thread nD τ).loc main_arg2)) (m ((c : Thread nD τ).loc main_arg3))
      ∧ r.2.mem ((c : Thread nD τ).loc main_v43) = s10 (m ((c : Thread nD τ).loc main_arg0)) (m ((c : Thread nD τ).loc main_arg1)) (m ((c : Thread nD τ).loc main_arg2)) (m ((c : Thread nD τ).loc main_arg3))
      ∧ r.2.mem ((c : Thread nD τ).loc main_v44) = s11 (m ((c : Thread nD τ).loc main_arg0)) (m ((c : Thread nD τ).loc main_arg1)) (m ((c : Thread nD τ).loc main_arg2)) (m ((c : Thread nD τ).loc main_arg3))
      ∧ r.2.mem ((c : Thread nD τ).loc main_v45) = s12 (m ((c : Thread nD τ).loc main_arg0)) (m ((c : Thread nD τ).loc main_arg1)) (m ((c : Thread nD τ).loc main_arg2)) (m ((c : Thread nD τ).loc main_arg3))
      ∧ r.2.mem ((c : Thread nD τ).loc main_v46) = s13 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩) (Cert.Reference3Ideal.Value.run m ρ)
  all_goals
    generalize m ((c : Thread nD τ).loc main_arg0) = a0
    generalize m ((c : Thread nD τ).loc main_arg1) = a1
    generalize m ((c : Thread nD τ).loc main_arg2) = a2
    generalize m ((c : Thread nD τ).loc main_arg3) = a3
    clean_types
    funext i
  · obtain ⟨b, a, n, p, rfl⟩ : ∃ (b : Fin 8) (a : Fin 8) (n : Fin 512) (p : Fin 1024), i = ix4 b a n p := ⟨i 0, i 1, i 2, i 3, eq_ix4 i⟩
    pointwise
    unfold s4 sp prj nrm
    pointwise
  · obtain ⟨b, s, n, rfl⟩ : ∃ (b : Fin 8) (s : Fin 8192) (n : Fin 512), i = ix3 b s n := ⟨i 0, i 1, i 2, eq_ix3 i⟩
    pointwise
    unfold s5 sp prj nrm
    pointwise
  · obtain ⟨b, a, n, p, rfl⟩ : ∃ (b : Fin 8) (a : Fin 16) (n : Fin 512) (p : Fin 512), i = ix4 b a n p := ⟨i 0, i 1, i 2, i 3, eq_ix4 i⟩
    pointwise
    unfold s6 sp prj nrm
    pointwise
  · obtain ⟨b, s, n, rfl⟩ : ∃ (b : Fin 8) (s : Fin 8192) (n : Fin 512), i = ix3 b s n := ⟨i 0, i 1, i 2, eq_ix3 i⟩
    pointwise
    unfold s7 sp prj nrm
    pointwise
  · obtain ⟨b, a, n, p, rfl⟩ : ∃ (b : Fin 8) (a : Fin 64) (n : Fin 512) (p : Fin 128), i = ix4 b a n p := ⟨i 0, i 1, i 2, i 3, eq_ix4 i⟩
    pointwise
    unfold s8 sp prj nrm
    pointwise
  · obtain ⟨b, s, n, rfl⟩ : ∃ (b : Fin 8) (s : Fin 8192) (n : Fin 128), i = ix3 b s n := ⟨i 0, i 1, i 2, eq_ix3 i⟩
    pointwise
    unfold s9 sp prj nrm
    pointwise
  · obtain ⟨b, s, n, rfl⟩ : ∃ (b : Fin 8) (s : Fin 8192) (n : Fin 128), i = ix3 b s n := ⟨i 0, i 1, i 2, eq_ix3 i⟩
    pointwise
    unfold s10 sp prj nrm
    pointwise
  · obtain ⟨b, s, n, rfl⟩ : ∃ (b : Fin 8) (s : Fin 8192) (n : Fin 512), i = ix3 b s n := ⟨i 0, i 1, i 2, eq_ix3 i⟩
    pointwise
    unfold s11 sp prj nrm
    pointwise
  · obtain ⟨b, s, n, rfl⟩ : ∃ (b : Fin 8) (s : Fin 8192) (n : Fin 1024), i = ix3 b s n := ⟨i 0, i 1, i 2, eq_ix3 i⟩
    pointwise
    unfold s12 sp prj nrm
    pointwise
  · obtain ⟨b, s, n, rfl⟩ : ∃ (b : Fin 8) (s : Fin 8192) (n : Fin 1024), i = ix3 b s n := ⟨i 0, i 1, i 2, eq_ix3 i⟩
    pointwise
    unfold s13 sp prj nrm
    pointwise

end Reference

/-- The claim: from equal arguments the kernel and the reference end with equal results, and leave their arguments unchanged. -/
theorem equal [hK : Cert.Kernel3Ideal.Facts] [hR : Cert.Reference3Ideal.Facts] : Cert.algebraic_Kernel3Ideal_Reference3Ideal := by
  intro m g m' g' _ h
  refine ⟨fun c => s4 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)), fun c => s5 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)), fun c => s6 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)), fun c => s7 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)), fun c => s8 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)), fun c => s9 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)), fun c => s10 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)), fun c => s11 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)), fun c => s12 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)), fun c => s13 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)), ?_, ?_⟩
  · exact (θ_run _ _ _).mono (fun r k c => ⟨(k c).1.trans (final4 m c), (k c).2.1.trans (final5 m c), (k c).2.2.1.trans (final6 m c), (k c).2.2.2.1.trans (final7 m c), (k c).2.2.2.2.1.trans (final8 m c), (k c).2.2.2.2.2.1.trans (final9 m c), (k c).2.2.2.2.2.2.1.trans (final10 m c), (k c).2.2.2.2.2.2.2.1.trans (final11 m c), (k c).2.2.2.2.2.2.2.2.1.trans (final12 m c), (k c).2.2.2.2.2.2.2.2.2.1.trans (final13 m c), (k c).2.2.2.2.2.2.2.2.2.2⟩) (Cert.Kernel3Ideal.Value.run_blocks m g)
  · refine (θ_run _ _ _).mono (fun r k c => ⟨(k c).1.trans ?_, (k c).2.1.trans ?_, (k c).2.2.1.trans ?_, (k c).2.2.2.1.trans ?_, (k c).2.2.2.2.1.trans ?_, (k c).2.2.2.2.2.1.trans ?_, (k c).2.2.2.2.2.2.1.trans ?_, (k c).2.2.2.2.2.2.2.1.trans ?_, (k c).2.2.2.2.2.2.2.2.1.trans ?_, (k c).2.2.2.2.2.2.2.2.2.1.trans ?_, (k c).2.2.2.2.2.2.2.2.2.2⟩) (run_reference m' g')
    all_goals
      obtain ⟨h0, h1, h2, h3⟩ := h c
      rw [h0, h1, h2, h3]

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.AttnFrame
public import proofs.«01_k».proof.Proof.AttnFrameBits
public import proofs.«01_k».proof.Proof.AttnEqual
public import proofs.«01_k».proof.Proof.OutProj
public import proofs.«01_k».proof.Proof.Proj
public import Idealize.ShloMosaic.Lib.Quiescent
public import proofs.«01_k».proof.Proof.Gen.Pre_finite
public import Idealize.ShloMosaic.Adequacy
public import Idealize.ShloMosaic.Init

@[expose] public section

noncomputable section

namespace Cert.Proof

open Idealize.ShloMosaic Idealize.SL.Sem

/-- The reference of the attention is host operations alone: it runs, keeps its arguments and touches no counter. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The same of the output projection's reference. -/
theorem frame_reference2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)

/-- The same of the input projection's reference. -/
theorem frame_reference3 : Cert.quiescent_Reference3Ideal := fun m ρ _ =>
  (θ_run Cert.Reference3Ideal.defs _ _).mono
    (fun r h => ⟨fun c => (h c).2.2.2.2.2.2.2.2.2.2, sem_eq_zero_of_no_sems (by decide) r.2⟩) (Cert.Reference3Ideal.Value.run (F := Ideal) m ρ)

/-- The two named constants: `1/8 · log₂ e` and `log₂ e`. -/
theorem preserves_kernel : Cert.preserves_Kernel_KernelIdeal :=
  ⟨IdealRules.named_const.statement Cert.KernelIdeal.κ "qscale" .f32 0x3E38AA3B#32 _ rfl,
   IdealRules.named_const.statement Cert.KernelIdeal.κ "log2e" .f32 0x3FB8AA3B#32 _ rfl⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite.Gen.facts,
    fun m ρ _ => Cert.AttnABits.frame_main m ρ,
    fun m ρ _ => Cert.AttnA.frame_main m ρ,
    fun m ρ _ => Cert.AttnA.frame_main m ρ,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    preserves_kernel,
    Cert.AttnV.equal,
    trivial,
    Cert.OutProj.equal,
    trivial,
    Cert.Proj.equal⟩

end Cert.Proof

end
